-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attention_finite [hPre_attention_finite : Cert.Pre_attention_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attention_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).1 = (fun _ => 1#1)
    ∧ (Cert.Pre_attention_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attention_finite [hPre_attention_finite : Cert.Pre_attention_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).1 = (fun _ => 1#1)
    ∧ (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2 = (fun _ => 1#1)

def Pre_LnKernel (m : (ℓ : Loc Cert.LnKernel.nD Cert.LnKernel.τ Cert.LnKernel.sig) → Buf (Elt Bits) ℓ) : Prop :=
  True

def Pre_LnKernelIdeal (m : (ℓ : Loc Cert.LnKernelIdeal.nD Cert.LnKernelIdeal.τ Cert.LnKernelIdeal.sig) → Buf (Elt Ideal) ℓ) : Prop :=
  True

def Pre_LnKernelIdeal_norm_finite [hPre_norm_finite : Cert.Pre_norm_finite.Facts] (m : (ℓ : Loc Cert.LnKernelIdeal.nD Cert.LnKernelIdeal.τ Cert.LnKernelIdeal.sig) → Buf (Elt Ideal) ℓ) : Prop :=
  ∀ c : Dev Cert.LnKernelIdeal.nD,
    (Cert.Pre_norm_finite.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3)) (m ((c.tc : Thread Cert.LnKernelIdeal.nD Cert.LnKernelIdeal.τ).loc Cert.LnKernelIdeal.main_arg4))).1 = (fun _ => 1#1)
    ∧ (Cert.Pre_norm_finite.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3)) (m ((c.tc : Thread Cert.LnKernelIdeal.nD Cert.LnKernelIdeal.τ).loc Cert.LnKernelIdeal.main_arg4))).2.1 = (fun _ => 1#1)
    ∧ (Cert.Pre_norm_finite.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3)) (m ((c.tc : Thread Cert.LnKernelIdeal.nD Cert.LnKernelIdeal.τ).loc Cert.LnKernelIdeal.main_arg4))).2.2 = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_norm_finite [hPre_norm_finite : Cert.Pre_norm_finite.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_norm_finite.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3)) (m ((c.tc : Thread Cert.LnReferenceIdeal.nD Cert.LnReferenceIdeal.τ).loc Cert.LnReferenceIdeal.main_arg4))).1 = (fun _ => 1#1)
    ∧ (Cert.Pre_norm_finite.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3)) (m ((c.tc : Thread Cert.LnReferenceIdeal.nD Cert.LnReferenceIdeal.τ).loc Cert.LnReferenceIdeal.main_arg4))).2.1 = (fun _ => 1#1)
    ∧ (Cert.Pre_norm_finite.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3)) (m ((c.tc : Thread Cert.LnReferenceIdeal.nD Cert.LnReferenceIdeal.τ).loc Cert.LnReferenceIdeal.main_arg4))).2.2 = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_QrmsKernel (m : (ℓ : Loc Cert.QrmsKernel.nD Cert.QrmsKernel.τ Cert.QrmsKernel.sig) → Buf (Elt Bits) ℓ) : Prop :=
  True

def Pre_QrmsKernelIdeal (m : (ℓ : Loc Cert.QrmsKernelIdeal.nD Cert.QrmsKernelIdeal.τ Cert.QrmsKernelIdeal.sig) → Buf (Elt Ideal) ℓ) : Prop :=
  True

def Pre_QrmsReferenceIdeal (m : (ℓ : Loc Cert.QrmsReferenceIdeal.nD Cert.QrmsReferenceIdeal.τ Cert.QrmsReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AttnfKernel (m : (ℓ : Loc Cert.AttnfKernel.nD Cert.AttnfKernel.τ Cert.AttnfKernel.sig) → Buf (Elt Bits) ℓ) : Prop :=
  True

def Pre_AttnfKernelIdeal (m : (ℓ : Loc Cert.AttnfKernelIdeal.nD Cert.AttnfKernelIdeal.τ Cert.AttnfKernelIdeal.sig) → Buf (Elt Ideal) ℓ) : Prop :=
  True

def Pre_AttnfReferenceIdeal (m : (ℓ : Loc Cert.AttnfReferenceIdeal.nD Cert.AttnfReferenceIdeal.τ Cert.AttnfReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_attention_finite [hAttnKernelIdeal : Cert.AttnKernelIdeal.Facts] [hPre_attention_finite : Cert.Pre_attention_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attention_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attention_finite [hAttnReferenceIdeal : Cert.AttnReferenceIdeal.Facts] [hPre_attention_finite : Cert.Pre_attention_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attention_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_LnKernel [hLnKernel : Cert.LnKernel.Facts] : Prop :=
  ∀ (m : (ℓ : Loc Cert.LnKernel.nD Cert.LnKernel.τ Cert.LnKernel.sig) → Buf (Elt Bits) ℓ) (g : Dev Cert.LnKernel.nD → PrngReg), Pre_LnKernel m →
    θ_run (Cert.LnKernel.defs (F := Bits)) (onTc (τ := Cert.LnKernel.τ) (Cert.LnKernel.main (F := Bits))) ⟨m, fun _ => 0, g⟩ (fun r => (∀ c : Dev Cert.LnKernel.nD,
      r.2.mem ((c.tc : Thread Cert.LnKernel.nD Cert.LnKernel.τ).loc Cert.LnKernel.main_arg0) = m ((c.tc : Thread Cert.LnKernel.nD Cert.LnKernel.τ).loc Cert.LnKernel.main_arg0)
      ∧ r.2.mem ((c.tc : Thread Cert.LnKernel.nD Cert.LnKernel.τ).loc Cert.LnKernel.main_arg1) = m ((c.tc : Thread Cert.LnKernel.nD Cert.LnKernel.τ).loc Cert.LnKernel.main_arg1)
      ∧ r.2.mem ((c.tc : Thread Cert.LnKernel.nD Cert.LnKernel.τ).loc Cert.LnKernel.main_arg2) = m ((c.tc : Thread Cert.LnKernel.nD Cert.LnKernel.τ).loc Cert.LnKernel.main_arg2)
      ∧ r.2.mem ((c.tc : Thread Cert.LnKernel.nD Cert.LnKernel.τ).loc Cert.LnKernel.main_arg3) = m ((c.tc : Thread Cert.LnKernel.nD Cert.LnKernel.τ).loc Cert.LnKernel.main_arg3)
      ∧ r.2.mem ((c.tc : Thread Cert.LnKernel.nD Cert.LnKernel.τ).loc Cert.LnKernel.main_arg4) = m ((c.tc : Thread Cert.LnKernel.nD Cert.LnKernel.τ).loc Cert.LnKernel.main_arg4))
      ∧ r.2.sem = fun _ => 0)

def quiescent_LnKernelIdeal [hLnKernelIdeal : Cert.LnKernelIdeal.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
      ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4))
      ∧ r.2.sem = fun _ => 0)

def quiescent_LnKernelIdeal_pre_norm_finite [hLnKernelIdeal : Cert.LnKernelIdeal.Facts] [hPre_norm_finite : Cert.Pre_norm_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal_norm_finite m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
      ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4))
      ∧ r.2.sem = fun _ => 0)

def quiescent_LnReferenceIdeal_pre_norm_finite [hLnReferenceIdeal : Cert.LnReferenceIdeal.Facts] [hPre_norm_finite : Cert.Pre_norm_finite.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_norm_finite m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_QrmsKernel [hQrmsKernel : Cert.QrmsKernel.Facts] : Prop :=
  ∀ (m : (ℓ : Loc Cert.QrmsKernel.nD Cert.QrmsKernel.τ Cert.QrmsKernel.sig) → Buf (Elt Bits) ℓ) (g : Dev Cert.QrmsKernel.nD → PrngReg), Pre_QrmsKernel m →
    θ_run (Cert.QrmsKernel.defs (F := Bits)) (onTc (τ := Cert.QrmsKernel.τ) (Cert.QrmsKernel.main (F := Bits))) ⟨m, fun _ => 0, g⟩ (fun r => (∀ c : Dev Cert.QrmsKernel.nD,
      r.2.mem ((c.tc : Thread Cert.QrmsKernel.nD Cert.QrmsKernel.τ).loc Cert.QrmsKernel.main_arg0) = m ((c.tc : Thread Cert.QrmsKernel.nD Cert.QrmsKernel.τ).loc Cert.QrmsKernel.main_arg0)
      ∧ r.2.mem ((c.tc : Thread Cert.QrmsKernel.nD Cert.QrmsKernel.τ).loc Cert.QrmsKernel.main_arg1) = m ((c.tc : Thread Cert.QrmsKernel.nD Cert.QrmsKernel.τ).loc Cert.QrmsKernel.main_arg1)
      ∧ r.2.mem ((c.tc : Thread Cert.QrmsKernel.nD Cert.QrmsKernel.τ).loc Cert.QrmsKernel.main_arg2) = m ((c.tc : Thread Cert.QrmsKernel.nD Cert.QrmsKernel.τ).loc Cert.QrmsKernel.main_arg2)
      ∧ r.2.mem ((c.tc : Thread Cert.QrmsKernel.nD Cert.QrmsKernel.τ).loc Cert.QrmsKernel.main_arg3) = m ((c.tc : Thread Cert.QrmsKernel.nD Cert.QrmsKernel.τ).loc Cert.QrmsKernel.main_arg3)
      ∧ r.2.mem ((c.tc : Thread Cert.QrmsKernel.nD Cert.QrmsKernel.τ).loc Cert.QrmsKernel.main_arg4) = m ((c.tc : Thread Cert.QrmsKernel.nD Cert.QrmsKernel.τ).loc Cert.QrmsKernel.main_arg4)
      ∧ r.2.mem ((c.tc : Thread Cert.QrmsKernel.nD Cert.QrmsKernel.τ).loc Cert.QrmsKernel.main_arg5) = m ((c.tc : Thread Cert.QrmsKernel.nD Cert.QrmsKernel.τ).loc Cert.QrmsKernel.main_arg5)
      ∧ r.2.mem ((c.tc : Thread Cert.QrmsKernel.nD Cert.QrmsKernel.τ).loc Cert.QrmsKernel.main_arg6) = m ((c.tc : Thread Cert.QrmsKernel.nD Cert.QrmsKernel.τ).loc Cert.QrmsKernel.main_arg6))
      ∧ r.2.sem = fun _ => 0)

def quiescent_QrmsKernelIdeal [hQrmsKernelIdeal : Cert.QrmsKernelIdeal.Facts] : Prop :=
  ∀ (m : (ℓ : Loc Cert.QrmsKernelIdeal.nD Cert.QrmsKernelIdeal.τ Cert.QrmsKernelIdeal.sig) → Buf (Elt Ideal) ℓ) (g : Dev Cert.QrmsKernelIdeal.nD → PrngReg), Pre_QrmsKernelIdeal m →
    θ_run (Cert.QrmsKernelIdeal.defs (F := Ideal)) (onTc (τ := Cert.QrmsKernelIdeal.τ) (Cert.QrmsKernelIdeal.main (F := Ideal))) ⟨m, fun _ => 0, g⟩ (fun r => (∀ c : Dev Cert.QrmsKernelIdeal.nD,
      r.2.mem ((c.tc : Thread Cert.QrmsKernelIdeal.nD Cert.QrmsKernelIdeal.τ).loc Cert.QrmsKernelIdeal.main_arg0) = m ((c.tc : Thread Cert.QrmsKernelIdeal.nD Cert.QrmsKernelIdeal.τ).loc Cert.QrmsKernelIdeal.main_arg0)
      ∧ r.2.mem ((c.tc : Thread Cert.QrmsKernelIdeal.nD Cert.QrmsKernelIdeal.τ).loc Cert.QrmsKernelIdeal.main_arg1) = m ((c.tc : Thread Cert.QrmsKernelIdeal.nD Cert.QrmsKernelIdeal.τ).loc Cert.QrmsKernelIdeal.main_arg1)
      ∧ r.2.mem ((c.tc : Thread Cert.QrmsKernelIdeal.nD Cert.QrmsKernelIdeal.τ).loc Cert.QrmsKernelIdeal.main_arg2) = m ((c.tc : Thread Cert.QrmsKernelIdeal.nD Cert.QrmsKernelIdeal.τ).loc Cert.QrmsKernelIdeal.main_arg2)
      ∧ r.2.mem ((c.tc : Thread Cert.QrmsKernelIdeal.nD Cert.QrmsKernelIdeal.τ).loc Cert.QrmsKernelIdeal.main_arg3) = m ((c.tc : Thread Cert.QrmsKernelIdeal.nD Cert.QrmsKernelIdeal.τ).loc Cert.QrmsKernelIdeal.main_arg3)
      ∧ r.2.mem ((c.tc : Thread Cert.QrmsKernelIdeal.nD Cert.QrmsKernelIdeal.τ).loc Cert.QrmsKernelIdeal.main_arg4) = m ((c.tc : Thread Cert.QrmsKernelIdeal.nD Cert.QrmsKernelIdeal.τ).loc Cert.QrmsKernelIdeal.main_arg4)
      ∧ r.2.mem ((c.tc : Thread Cert.QrmsKernelIdeal.nD Cert.QrmsKernelIdeal.τ).loc Cert.QrmsKernelIdeal.main_arg5) = m ((c.tc : Thread Cert.QrmsKernelIdeal.nD Cert.QrmsKernelIdeal.τ).loc Cert.QrmsKernelIdeal.main_arg5)
      ∧ r.2.mem ((c.tc : Thread Cert.QrmsKernelIdeal.nD Cert.QrmsKernelIdeal.τ).loc Cert.QrmsKernelIdeal.main_arg6) = m ((c.tc : Thread Cert.QrmsKernelIdeal.nD Cert.QrmsKernelIdeal.τ).loc Cert.QrmsKernelIdeal.main_arg6))
      ∧ r.2.sem = fun _ => 0)

def quiescent_QrmsReferenceIdeal [hQrmsReferenceIdeal : Cert.QrmsReferenceIdeal.Facts] : Prop :=
  ∀ (m : (ℓ : Loc Cert.QrmsReferenceIdeal.nD Cert.QrmsReferenceIdeal.τ Cert.QrmsReferenceIdeal.sig) → Buf (Elt Ideal) ℓ) (g : Dev Cert.QrmsReferenceIdeal.nD → PrngReg), Pre_QrmsReferenceIdeal m →
    θ_run (Cert.QrmsReferenceIdeal.defs (F := Ideal)) (onTc (τ := Cert.QrmsReferenceIdeal.τ) (Cert.QrmsReferenceIdeal.main (F := Ideal))) ⟨m, fun _ => 0, g⟩ (fun r => (∀ c : Dev Cert.QrmsReferenceIdeal.nD,
      r.2.mem ((c.tc : Thread Cert.QrmsReferenceIdeal.nD Cert.QrmsReferenceIdeal.τ).loc Cert.QrmsReferenceIdeal.main_arg0) = m ((c.tc : Thread Cert.QrmsReferenceIdeal.nD Cert.QrmsReferenceIdeal.τ).loc Cert.QrmsReferenceIdeal.main_arg0)
      ∧ r.2.mem ((c.tc : Thread Cert.QrmsReferenceIdeal.nD Cert.QrmsReferenceIdeal.τ).loc Cert.QrmsReferenceIdeal.main_arg1) = m ((c.tc : Thread Cert.QrmsReferenceIdeal.nD Cert.QrmsReferenceIdeal.τ).loc Cert.QrmsReferenceIdeal.main_arg1)
      ∧ r.2.mem ((c.tc : Thread Cert.QrmsReferenceIdeal.nD Cert.QrmsReferenceIdeal.τ).loc Cert.QrmsReferenceIdeal.main_arg2) = m ((c.tc : Thread Cert.QrmsReferenceIdeal.nD Cert.QrmsReferenceIdeal.τ).loc Cert.QrmsReferenceIdeal.main_arg2)
      ∧ r.2.mem ((c.tc : Thread Cert.QrmsReferenceIdeal.nD Cert.QrmsReferenceIdeal.τ).loc Cert.QrmsReferenceIdeal.main_arg3) = m ((c.tc : Thread Cert.QrmsReferenceIdeal.nD Cert.QrmsReferenceIdeal.τ).loc Cert.QrmsReferenceIdeal.main_arg3)
      ∧ r.2.mem ((c.tc : Thread Cert.QrmsReferenceIdeal.nD Cert.QrmsReferenceIdeal.τ).loc Cert.QrmsReferenceIdeal.main_arg4) = m ((c.tc : Thread Cert.QrmsReferenceIdeal.nD Cert.QrmsReferenceIdeal.τ).loc Cert.QrmsReferenceIdeal.main_arg4)
      ∧ r.2.mem ((c.tc : Thread Cert.QrmsReferenceIdeal.nD Cert.QrmsReferenceIdeal.τ).loc Cert.QrmsReferenceIdeal.main_arg5) = m ((c.tc : Thread Cert.QrmsReferenceIdeal.nD Cert.QrmsReferenceIdeal.τ).loc Cert.QrmsReferenceIdeal.main_arg5)
      ∧ r.2.mem ((c.tc : Thread Cert.QrmsReferenceIdeal.nD Cert.QrmsReferenceIdeal.τ).loc Cert.QrmsReferenceIdeal.main_arg6) = m ((c.tc : Thread Cert.QrmsReferenceIdeal.nD Cert.QrmsReferenceIdeal.τ).loc Cert.QrmsReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_AttnfKernel [hAttnfKernel : Cert.AttnfKernel.Facts] : Prop :=
  ∀ (m : (ℓ : Loc Cert.AttnfKernel.nD Cert.AttnfKernel.τ Cert.AttnfKernel.sig) → Buf (Elt Bits) ℓ) (g : Dev Cert.AttnfKernel.nD → PrngReg), Pre_AttnfKernel m →
    θ_run (Cert.AttnfKernel.defs (F := Bits)) (onTc (τ := Cert.AttnfKernel.τ) (Cert.AttnfKernel.main (F := Bits))) ⟨m, fun _ => 0, g⟩ (fun r => (∀ c : Dev Cert.AttnfKernel.nD,
      r.2.mem ((c.tc : Thread Cert.AttnfKernel.nD Cert.AttnfKernel.τ).loc Cert.AttnfKernel.main_arg0) = m ((c.tc : Thread Cert.AttnfKernel.nD Cert.AttnfKernel.τ).loc Cert.AttnfKernel.main_arg0)
      ∧ r.2.mem ((c.tc : Thread Cert.AttnfKernel.nD Cert.AttnfKernel.τ).loc Cert.AttnfKernel.main_arg1) = m ((c.tc : Thread Cert.AttnfKernel.nD Cert.AttnfKernel.τ).loc Cert.AttnfKernel.main_arg1)
      ∧ r.2.mem ((c.tc : Thread Cert.AttnfKernel.nD Cert.AttnfKernel.τ).loc Cert.AttnfKernel.main_arg2) = m ((c.tc : Thread Cert.AttnfKernel.nD Cert.AttnfKernel.τ).loc Cert.AttnfKernel.main_arg2)
      ∧ r.2.mem ((c.tc : Thread Cert.AttnfKernel.nD Cert.AttnfKernel.τ).loc Cert.AttnfKernel.main_arg3) = m ((c.tc : Thread Cert.AttnfKernel.nD Cert.AttnfKernel.τ).loc Cert.AttnfKernel.main_arg3)
      ∧ r.2.mem ((c.tc : Thread Cert.AttnfKernel.nD Cert.AttnfKernel.τ).loc Cert.AttnfKernel.main_arg4) = m ((c.tc : Thread Cert.AttnfKernel.nD Cert.AttnfKernel.τ).loc Cert.AttnfKernel.main_arg4))
      ∧ r.2.sem = fun _ => 0)

def quiescent_AttnfKernelIdeal [hAttnfKernelIdeal : Cert.AttnfKernelIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
      ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3)
      ∧ r.2.mem ((c.tc : Thread Cert.AttnfKernelIdeal.nD Cert.AttnfKernelIdeal.τ).loc Cert.AttnfKernelIdeal.main_arg4) = m ((c.tc : Thread Cert.AttnfKernelIdeal.nD Cert.AttnfKernelIdeal.τ).loc Cert.AttnfKernelIdeal.main_arg4))
      ∧ r.2.sem = fun _ => 0)

def quiescent_AttnfReferenceIdeal [hAttnfReferenceIdeal : Cert.AttnfReferenceIdeal.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2)
      ∧ r.2.mem ((c.tc : Thread Cert.AttnfReferenceIdeal.nD Cert.AttnfReferenceIdeal.τ).loc Cert.AttnfReferenceIdeal.main_arg3) = m ((c.tc : Thread Cert.AttnfReferenceIdeal.nD Cert.AttnfReferenceIdeal.τ).loc Cert.AttnfReferenceIdeal.main_arg3)
      ∧ r.2.mem ((c.tc : Thread Cert.AttnfReferenceIdeal.nD Cert.AttnfReferenceIdeal.τ).loc Cert.AttnfReferenceIdeal.main_arg4) = m ((c.tc : Thread Cert.AttnfReferenceIdeal.nD Cert.AttnfReferenceIdeal.τ).loc Cert.AttnfReferenceIdeal.main_arg4))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)) (v4 : (c : Dev Cert.KernelIdeal.nD) → Buf (Elt Ideal) ((c.tc : Thread Cert.KernelIdeal.nD Cert.KernelIdeal.τ).loc Cert.KernelIdeal.main_v39_4)) (v5 : (c : Dev Cert.KernelIdeal.nD) → Buf (Elt Ideal) ((c.tc : Thread Cert.KernelIdeal.nD Cert.KernelIdeal.τ).loc Cert.KernelIdeal.main_v39_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v39_0) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v39_1) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v39_2) i = v2 c i)
          ∧ (∀ i : (⟨2, ![8, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v39_3) i = v3 c i)
          ∧ (∀ i : (⟨2, ![1024, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v39_4) i = v4 c i)
          ∧ (∀ i : (⟨2, ![1024, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.KernelIdeal.nD Cert.KernelIdeal.τ).loc Cert.KernelIdeal.main_v39_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v66) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v67) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v68) i = v2 c i)
          ∧ (∀ i : (⟨2, ![8, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v69) i = v3 c i)
          ∧ (∀ i : (⟨2, ![1024, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v70) i = v4 c i)
          ∧ (∀ i : (⟨2, ![1024, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.ReferenceIdeal.nD Cert.ReferenceIdeal.τ).loc Cert.ReferenceIdeal.main_v71) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_AttnKernel_AttnKernelIdeal : Prop :=
  True

def algebraic_AttnKernelIdeal_AttnReferenceIdeal_pre_attention_finite [hAttnKernelIdeal : Cert.AttnKernelIdeal.Facts] [hAttnReferenceIdeal : Cert.AttnReferenceIdeal.Facts] [hPre_attention_finite : Cert.Pre_attention_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attention_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v3_0)) (v1 : (c : Dev Cert.AttnKernelIdeal.nD) → Buf (Elt Ideal) ((c.tc : Thread Cert.AttnKernelIdeal.nD Cert.AttnKernelIdeal.τ).loc Cert.AttnKernelIdeal.main_v3_1)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v3_0) = v0 c
          ∧ r.2.mem ((c.tc : Thread Cert.AttnKernelIdeal.nD Cert.AttnKernelIdeal.τ).loc Cert.AttnKernelIdeal.main_v3_1) = v1 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v68) = v0 c
          ∧ r.2.mem ((c.tc : Thread Cert.AttnReferenceIdeal.nD Cert.AttnReferenceIdeal.τ).loc Cert.AttnReferenceIdeal.main_v66) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_LnKernel_LnKernelIdeal : Prop :=
  True

def algebraic_LnKernelIdeal_LnReferenceIdeal_pre_norm_finite [hLnKernelIdeal : Cert.LnKernelIdeal.Facts] [hLnReferenceIdeal : Cert.LnReferenceIdeal.Facts] [hPre_norm_finite : Cert.Pre_norm_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnKernelIdeal_norm_finite m →
    (∀ c : Dev Cert.LnKernelIdeal.nD,
      m' ((c.tc : Thread Cert.LnReferenceIdeal.nD Cert.LnReferenceIdeal.τ).loc Cert.LnReferenceIdeal.main_arg0) = m ((c.tc : Thread Cert.LnKernelIdeal.nD Cert.LnKernelIdeal.τ).loc Cert.LnKernelIdeal.main_arg0)
      ∧ m' ((c.tc : Thread Cert.LnReferenceIdeal.nD Cert.LnReferenceIdeal.τ).loc Cert.LnReferenceIdeal.main_arg1) = m ((c.tc : Thread Cert.LnKernelIdeal.nD Cert.LnKernelIdeal.τ).loc Cert.LnKernelIdeal.main_arg1)
      ∧ m' ((c.tc : Thread Cert.LnReferenceIdeal.nD Cert.LnReferenceIdeal.τ).loc Cert.LnReferenceIdeal.main_arg2) = m ((c.tc : Thread Cert.LnKernelIdeal.nD Cert.LnKernelIdeal.τ).loc Cert.LnKernelIdeal.main_arg2)
      ∧ m' ((c.tc : Thread Cert.LnReferenceIdeal.nD Cert.LnReferenceIdeal.τ).loc Cert.LnReferenceIdeal.main_arg3) = m ((c.tc : Thread Cert.LnKernelIdeal.nD Cert.LnKernelIdeal.τ).loc Cert.LnKernelIdeal.main_arg3)
      ∧ m' ((c.tc : Thread Cert.LnReferenceIdeal.nD Cert.LnReferenceIdeal.τ).loc Cert.LnReferenceIdeal.main_arg4) = m ((c.tc : Thread Cert.LnKernelIdeal.nD Cert.LnKernelIdeal.τ).loc Cert.LnKernelIdeal.main_arg4)) →
    ∃ (v0 : (c : Dev Cert.LnKernelIdeal.nD) → Buf (Elt Ideal) ((c.tc : Thread Cert.LnKernelIdeal.nD Cert.LnKernelIdeal.τ).loc Cert.LnKernelIdeal.main_v31_0)) (v1 : (c : Dev Cert.LnKernelIdeal.nD) → Buf (Elt Ideal) ((c.tc : Thread Cert.LnKernelIdeal.nD Cert.LnKernelIdeal.τ).loc Cert.LnKernelIdeal.main_v31_1)) (v2 : (c : Dev Cert.LnKernelIdeal.nD) → Buf (Elt Ideal) ((c.tc : Thread Cert.LnKernelIdeal.nD Cert.LnKernelIdeal.τ).loc Cert.LnKernelIdeal.main_v31_2)) (v3 : (c : Dev Cert.LnKernelIdeal.nD) → Buf (Elt Ideal) ((c.tc : Thread Cert.LnKernelIdeal.nD Cert.LnKernelIdeal.τ).loc Cert.LnKernelIdeal.main_v31_3)),
      θ_run (Cert.LnKernelIdeal.defs (F := Ideal)) (onTc (τ := Cert.LnKernelIdeal.τ) (Cert.LnKernelIdeal.main (F := Ideal))) ⟨m, fun _ => 0, g⟩ (fun r => ∀ c : Dev Cert.LnKernelIdeal.nD,
          r.2.mem ((c.tc : Thread Cert.LnKernelIdeal.nD Cert.LnKernelIdeal.τ).loc Cert.LnKernelIdeal.main_v31_0) = v0 c
          ∧ r.2.mem ((c.tc : Thread Cert.LnKernelIdeal.nD Cert.LnKernelIdeal.τ).loc Cert.LnKernelIdeal.main_v31_1) = v1 c
          ∧ r.2.mem ((c.tc : Thread Cert.LnKernelIdeal.nD Cert.LnKernelIdeal.τ).loc Cert.LnKernelIdeal.main_v31_2) = v2 c
          ∧ r.2.mem ((c.tc : Thread Cert.LnKernelIdeal.nD Cert.LnKernelIdeal.τ).loc Cert.LnKernelIdeal.main_v31_3) = v3 c
          ∧ r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
          ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
          ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
          ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
          ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v68) = v0 c
          ∧ r.2.mem ((c.tc : Thread Cert.LnReferenceIdeal.nD Cert.LnReferenceIdeal.τ).loc Cert.LnReferenceIdeal.main_v69) = v1 c
          ∧ r.2.mem ((c.tc : Thread Cert.LnReferenceIdeal.nD Cert.LnReferenceIdeal.τ).loc Cert.LnReferenceIdeal.main_v70) = v2 c
          ∧ r.2.mem ((c.tc : Thread Cert.LnReferenceIdeal.nD Cert.LnReferenceIdeal.τ).loc Cert.LnReferenceIdeal.main_v71) = v3 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3)
          ∧ r.2.mem ((c.tc : Thread Cert.LnReferenceIdeal.nD Cert.LnReferenceIdeal.τ).loc Cert.LnReferenceIdeal.main_arg4) = m' ((c.tc : Thread Cert.LnReferenceIdeal.nD Cert.LnReferenceIdeal.τ).loc Cert.LnReferenceIdeal.main_arg4))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v1) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v19) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_QrmsKernel_QrmsKernelIdeal : Prop :=
  True

def algebraic_QrmsKernelIdeal_QrmsReferenceIdeal [hQrmsKernelIdeal : Cert.QrmsKernelIdeal.Facts] [hQrmsReferenceIdeal : Cert.QrmsReferenceIdeal.Facts] : Prop :=
  ∀ (m : (ℓ : Loc Cert.QrmsKernelIdeal.nD Cert.QrmsKernelIdeal.τ Cert.QrmsKernelIdeal.sig) → Buf (Elt Ideal) ℓ) (g : Dev Cert.QrmsKernelIdeal.nD → PrngReg)
    (m' : (ℓ : Loc Cert.QrmsReferenceIdeal.nD Cert.QrmsReferenceIdeal.τ Cert.QrmsReferenceIdeal.sig) → Buf (Elt Ideal) ℓ) (g' : Dev Cert.QrmsReferenceIdeal.nD → PrngReg), Pre_QrmsKernelIdeal m →
    (∀ c : Dev Cert.QrmsKernelIdeal.nD,
      m' ((c.tc : Thread Cert.QrmsReferenceIdeal.nD Cert.QrmsReferenceIdeal.τ).loc Cert.QrmsReferenceIdeal.main_arg0) = m ((c.tc : Thread Cert.QrmsKernelIdeal.nD Cert.QrmsKernelIdeal.τ).loc Cert.QrmsKernelIdeal.main_arg0)
      ∧ m' ((c.tc : Thread Cert.QrmsReferenceIdeal.nD Cert.QrmsReferenceIdeal.τ).loc Cert.QrmsReferenceIdeal.main_arg1) = m ((c.tc : Thread Cert.QrmsKernelIdeal.nD Cert.QrmsKernelIdeal.τ).loc Cert.QrmsKernelIdeal.main_arg1)
      ∧ m' ((c.tc : Thread Cert.QrmsReferenceIdeal.nD Cert.QrmsReferenceIdeal.τ).loc Cert.QrmsReferenceIdeal.main_arg2) = m ((c.tc : Thread Cert.QrmsKernelIdeal.nD Cert.QrmsKernelIdeal.τ).loc Cert.QrmsKernelIdeal.main_arg2)
      ∧ m' ((c.tc : Thread Cert.QrmsReferenceIdeal.nD Cert.QrmsReferenceIdeal.τ).loc Cert.QrmsReferenceIdeal.main_arg3) = m ((c.tc : Thread Cert.QrmsKernelIdeal.nD Cert.QrmsKernelIdeal.τ).loc Cert.QrmsKernelIdeal.main_arg3)
      ∧ m' ((c.tc : Thread Cert.QrmsReferenceIdeal.nD Cert.QrmsReferenceIdeal.τ).loc Cert.QrmsReferenceIdeal.main_arg4) = m ((c.tc : Thread Cert.QrmsKernelIdeal.nD Cert.QrmsKernelIdeal.τ).loc Cert.QrmsKernelIdeal.main_arg4)
      ∧ m' ((c.tc : Thread Cert.QrmsReferenceIdeal.nD Cert.QrmsReferenceIdeal.τ).loc Cert.QrmsReferenceIdeal.main_arg5) = m ((c.tc : Thread Cert.QrmsKernelIdeal.nD Cert.QrmsKernelIdeal.τ).loc Cert.QrmsKernelIdeal.main_arg5)
      ∧ m' ((c.tc : Thread Cert.QrmsReferenceIdeal.nD Cert.QrmsReferenceIdeal.τ).loc Cert.QrmsReferenceIdeal.main_arg6) = m ((c.tc : Thread Cert.QrmsKernelIdeal.nD Cert.QrmsKernelIdeal.τ).loc Cert.QrmsKernelIdeal.main_arg6)) →
    ∃ (v0 : (c : Dev Cert.QrmsKernelIdeal.nD) → Buf (Elt Ideal) ((c.tc : Thread Cert.QrmsKernelIdeal.nD Cert.QrmsKernelIdeal.τ).loc Cert.QrmsKernelIdeal.main_v18_0)) (v1 : (c : Dev Cert.QrmsKernelIdeal.nD) → Buf (Elt Ideal) ((c.tc : Thread Cert.QrmsKernelIdeal.nD Cert.QrmsKernelIdeal.τ).loc Cert.QrmsKernelIdeal.main_v18_1)) (v2 : (c : Dev Cert.QrmsKernelIdeal.nD) → Buf (Elt Ideal) ((c.tc : Thread Cert.QrmsKernelIdeal.nD Cert.QrmsKernelIdeal.τ).loc Cert.QrmsKernelIdeal.main_v18_2)) (v3 : (c : Dev Cert.QrmsKernelIdeal.nD) → Buf (Elt Ideal) ((c.tc : Thread Cert.QrmsKernelIdeal.nD Cert.QrmsKernelIdeal.τ).loc Cert.QrmsKernelIdeal.main_v18_3)),
      θ_run (Cert.QrmsKernelIdeal.defs (F := Ideal)) (onTc (τ := Cert.QrmsKernelIdeal.τ) (Cert.QrmsKernelIdeal.main (F := Ideal))) ⟨m, fun _ => 0, g⟩ (fun r => ∀ c : Dev Cert.QrmsKernelIdeal.nD,
          r.2.mem ((c.tc : Thread Cert.QrmsKernelIdeal.nD Cert.QrmsKernelIdeal.τ).loc Cert.QrmsKernelIdeal.main_v18_0) = v0 c
          ∧ r.2.mem ((c.tc : Thread Cert.QrmsKernelIdeal.nD Cert.QrmsKernelIdeal.τ).loc Cert.QrmsKernelIdeal.main_v18_1) = v1 c
          ∧ r.2.mem ((c.tc : Thread Cert.QrmsKernelIdeal.nD Cert.QrmsKernelIdeal.τ).loc Cert.QrmsKernelIdeal.main_v18_2) = v2 c
          ∧ r.2.mem ((c.tc : Thread Cert.QrmsKernelIdeal.nD Cert.QrmsKernelIdeal.τ).loc Cert.QrmsKernelIdeal.main_v18_3) = v3 c
          ∧ r.2.mem ((c.tc : Thread Cert.QrmsKernelIdeal.nD Cert.QrmsKernelIdeal.τ).loc Cert.QrmsKernelIdeal.main_arg0) = m ((c.tc : Thread Cert.QrmsKernelIdeal.nD Cert.QrmsKernelIdeal.τ).loc Cert.QrmsKernelIdeal.main_arg0)
          ∧ r.2.mem ((c.tc : Thread Cert.QrmsKernelIdeal.nD Cert.QrmsKernelIdeal.τ).loc Cert.QrmsKernelIdeal.main_arg1) = m ((c.tc : Thread Cert.QrmsKernelIdeal.nD Cert.QrmsKernelIdeal.τ).loc Cert.QrmsKernelIdeal.main_arg1)
          ∧ r.2.mem ((c.tc : Thread Cert.QrmsKernelIdeal.nD Cert.QrmsKernelIdeal.τ).loc Cert.QrmsKernelIdeal.main_arg2) = m ((c.tc : Thread Cert.QrmsKernelIdeal.nD Cert.QrmsKernelIdeal.τ).loc Cert.QrmsKernelIdeal.main_arg2)
          ∧ r.2.mem ((c.tc : Thread Cert.QrmsKernelIdeal.nD Cert.QrmsKernelIdeal.τ).loc Cert.QrmsKernelIdeal.main_arg3) = m ((c.tc : Thread Cert.QrmsKernelIdeal.nD Cert.QrmsKernelIdeal.τ).loc Cert.QrmsKernelIdeal.main_arg3)
          ∧ r.2.mem ((c.tc : Thread Cert.QrmsKernelIdeal.nD Cert.QrmsKernelIdeal.τ).loc Cert.QrmsKernelIdeal.main_arg4) = m ((c.tc : Thread Cert.QrmsKernelIdeal.nD Cert.QrmsKernelIdeal.τ).loc Cert.QrmsKernelIdeal.main_arg4)
          ∧ r.2.mem ((c.tc : Thread Cert.QrmsKernelIdeal.nD Cert.QrmsKernelIdeal.τ).loc Cert.QrmsKernelIdeal.main_arg5) = m ((c.tc : Thread Cert.QrmsKernelIdeal.nD Cert.QrmsKernelIdeal.τ).loc Cert.QrmsKernelIdeal.main_arg5)
          ∧ r.2.mem ((c.tc : Thread Cert.QrmsKernelIdeal.nD Cert.QrmsKernelIdeal.τ).loc Cert.QrmsKernelIdeal.main_arg6) = m ((c.tc : Thread Cert.QrmsKernelIdeal.nD Cert.QrmsKernelIdeal.τ).loc Cert.QrmsKernelIdeal.main_arg6))
      ∧ θ_run (Cert.QrmsReferenceIdeal.defs (F := Ideal)) (onTc (τ := Cert.QrmsReferenceIdeal.τ) (Cert.QrmsReferenceIdeal.main (F := Ideal))) ⟨m', fun _ => 0, g'⟩ (fun r => ∀ c : Dev Cert.QrmsReferenceIdeal.nD,
          r.2.mem ((c.tc : Thread Cert.QrmsReferenceIdeal.nD Cert.QrmsReferenceIdeal.τ).loc Cert.QrmsReferenceIdeal.main_v45) = v0 c
          ∧ r.2.mem ((c.tc : Thread Cert.QrmsReferenceIdeal.nD Cert.QrmsReferenceIdeal.τ).loc Cert.QrmsReferenceIdeal.main_v46) = v1 c
          ∧ r.2.mem ((c.tc : Thread Cert.QrmsReferenceIdeal.nD Cert.QrmsReferenceIdeal.τ).loc Cert.QrmsReferenceIdeal.main_v47) = v2 c
          ∧ r.2.mem ((c.tc : Thread Cert.QrmsReferenceIdeal.nD Cert.QrmsReferenceIdeal.τ).loc Cert.QrmsReferenceIdeal.main_v48) = v3 c
          ∧ r.2.mem ((c.tc : Thread Cert.QrmsReferenceIdeal.nD Cert.QrmsReferenceIdeal.τ).loc Cert.QrmsReferenceIdeal.main_arg0) = m' ((c.tc : Thread Cert.QrmsReferenceIdeal.nD Cert.QrmsReferenceIdeal.τ).loc Cert.QrmsReferenceIdeal.main_arg0)
          ∧ r.2.mem ((c.tc : Thread Cert.QrmsReferenceIdeal.nD Cert.QrmsReferenceIdeal.τ).loc Cert.QrmsReferenceIdeal.main_arg1) = m' ((c.tc : Thread Cert.QrmsReferenceIdeal.nD Cert.QrmsReferenceIdeal.τ).loc Cert.QrmsReferenceIdeal.main_arg1)
          ∧ r.2.mem ((c.tc : Thread Cert.QrmsReferenceIdeal.nD Cert.QrmsReferenceIdeal.τ).loc Cert.QrmsReferenceIdeal.main_arg2) = m' ((c.tc : Thread Cert.QrmsReferenceIdeal.nD Cert.QrmsReferenceIdeal.τ).loc Cert.QrmsReferenceIdeal.main_arg2)
          ∧ r.2.mem ((c.tc : Thread Cert.QrmsReferenceIdeal.nD Cert.QrmsReferenceIdeal.τ).loc Cert.QrmsReferenceIdeal.main_arg3) = m' ((c.tc : Thread Cert.QrmsReferenceIdeal.nD Cert.QrmsReferenceIdeal.τ).loc Cert.QrmsReferenceIdeal.main_arg3)
          ∧ r.2.mem ((c.tc : Thread Cert.QrmsReferenceIdeal.nD Cert.QrmsReferenceIdeal.τ).loc Cert.QrmsReferenceIdeal.main_arg4) = m' ((c.tc : Thread Cert.QrmsReferenceIdeal.nD Cert.QrmsReferenceIdeal.τ).loc Cert.QrmsReferenceIdeal.main_arg4)
          ∧ r.2.mem ((c.tc : Thread Cert.QrmsReferenceIdeal.nD Cert.QrmsReferenceIdeal.τ).loc Cert.QrmsReferenceIdeal.main_arg5) = m' ((c.tc : Thread Cert.QrmsReferenceIdeal.nD Cert.QrmsReferenceIdeal.τ).loc Cert.QrmsReferenceIdeal.main_arg5)
          ∧ r.2.mem ((c.tc : Thread Cert.QrmsReferenceIdeal.nD Cert.QrmsReferenceIdeal.τ).loc Cert.QrmsReferenceIdeal.main_arg6) = m' ((c.tc : Thread Cert.QrmsReferenceIdeal.nD Cert.QrmsReferenceIdeal.τ).loc Cert.QrmsReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v5_0)) (v1 : (c : Dev Cert.InKernelIdeal.nD) → Buf (Elt Ideal) ((c.tc : Thread Cert.InKernelIdeal.nD Cert.InKernelIdeal.τ).loc Cert.InKernelIdeal.main_v5_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v5_0) = v0 c
          ∧ r.2.mem ((c.tc : Thread Cert.InKernelIdeal.nD Cert.InKernelIdeal.τ).loc Cert.InKernelIdeal.main_v5_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v38) = v0 c
          ∧ r.2.mem ((c.tc : Thread Cert.InReferenceIdeal.nD Cert.InReferenceIdeal.τ).loc Cert.InReferenceIdeal.main_v39) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v22_0)) (v1 : (c : Dev Cert.FfnKernelIdeal.nD) → Buf (Elt Ideal) ((c.tc : Thread Cert.FfnKernelIdeal.nD Cert.FfnKernelIdeal.τ).loc Cert.FfnKernelIdeal.main_v22_1)) (v2 : (c : Dev Cert.FfnKernelIdeal.nD) → Buf (Elt Ideal) ((c.tc : Thread Cert.FfnKernelIdeal.nD Cert.FfnKernelIdeal.τ).loc Cert.FfnKernelIdeal.main_v22_2)) (v3 : (c : Dev Cert.FfnKernelIdeal.nD) → Buf (Elt Ideal) ((c.tc : Thread Cert.FfnKernelIdeal.nD Cert.FfnKernelIdeal.τ).loc Cert.FfnKernelIdeal.main_v22_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v22_0) = v0 c
          ∧ r.2.mem ((c.tc : Thread Cert.FfnKernelIdeal.nD Cert.FfnKernelIdeal.τ).loc Cert.FfnKernelIdeal.main_v22_1) = v1 c
          ∧ r.2.mem ((c.tc : Thread Cert.FfnKernelIdeal.nD Cert.FfnKernelIdeal.τ).loc Cert.FfnKernelIdeal.main_v22_2) = v2 c
          ∧ r.2.mem ((c.tc : Thread Cert.FfnKernelIdeal.nD Cert.FfnKernelIdeal.τ).loc Cert.FfnKernelIdeal.main_v22_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v50) = v1 c
          ∧ r.2.mem ((c.tc : Thread Cert.FfnReferenceIdeal.nD Cert.FfnReferenceIdeal.τ).loc Cert.FfnReferenceIdeal.main_v53) = v2 c
          ∧ r.2.mem ((c.tc : Thread Cert.FfnReferenceIdeal.nD Cert.FfnReferenceIdeal.τ).loc Cert.FfnReferenceIdeal.main_v54) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v18_0)) (v1 : (c : Dev Cert.LossKernelIdeal.nD) → Buf (Elt Ideal) ((c.tc : Thread Cert.LossKernelIdeal.nD Cert.LossKernelIdeal.τ).loc Cert.LossKernelIdeal.main_v18_1)) (v2 : (c : Dev Cert.LossKernelIdeal.nD) → Buf (Elt Ideal) ((c.tc : Thread Cert.LossKernelIdeal.nD Cert.LossKernelIdeal.τ).loc Cert.LossKernelIdeal.main_v18_2)) (v3 : (c : Dev Cert.LossKernelIdeal.nD) → Buf (Elt Ideal) ((c.tc : Thread Cert.LossKernelIdeal.nD Cert.LossKernelIdeal.τ).loc Cert.LossKernelIdeal.main_v18_3)) (v4 : (c : Dev Cert.LossKernelIdeal.nD) → Buf (Elt Ideal) ((c.tc : Thread Cert.LossKernelIdeal.nD Cert.LossKernelIdeal.τ).loc Cert.LossKernelIdeal.main_v18_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v18_0) = v0 c
          ∧ r.2.mem ((c.tc : Thread Cert.LossKernelIdeal.nD Cert.LossKernelIdeal.τ).loc Cert.LossKernelIdeal.main_v18_1) = v1 c
          ∧ r.2.mem ((c.tc : Thread Cert.LossKernelIdeal.nD Cert.LossKernelIdeal.τ).loc Cert.LossKernelIdeal.main_v18_2) = v2 c
          ∧ r.2.mem ((c.tc : Thread Cert.LossKernelIdeal.nD Cert.LossKernelIdeal.τ).loc Cert.LossKernelIdeal.main_v18_3) = v3 c
          ∧ r.2.mem ((c.tc : Thread Cert.LossKernelIdeal.nD Cert.LossKernelIdeal.τ).loc Cert.LossKernelIdeal.main_v18_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v71) = v0 c
          ∧ r.2.mem ((c.tc : Thread Cert.LossReferenceIdeal.nD Cert.LossReferenceIdeal.τ).loc Cert.LossReferenceIdeal.main_v72) = v1 c
          ∧ r.2.mem ((c.tc : Thread Cert.LossReferenceIdeal.nD Cert.LossReferenceIdeal.τ).loc Cert.LossReferenceIdeal.main_v70) = v2 c
          ∧ r.2.mem ((c.tc : Thread Cert.LossReferenceIdeal.nD Cert.LossReferenceIdeal.τ).loc Cert.LossReferenceIdeal.main_v73) = v3 c
          ∧ r.2.mem ((c.tc : Thread Cert.LossReferenceIdeal.nD Cert.LossReferenceIdeal.τ).loc Cert.LossReferenceIdeal.main_v74) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_AttnfKernel_AttnfKernelIdeal : Prop :=
  True

def algebraic_AttnfKernelIdeal_AttnfReferenceIdeal [hAttnfKernelIdeal : Cert.AttnfKernelIdeal.Facts] [hAttnfReferenceIdeal : Cert.AttnfReferenceIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg)
    (m' : (ℓ : Loc Cert.AttnfReferenceIdeal.nD Cert.AttnfReferenceIdeal.τ Cert.AttnfReferenceIdeal.sig) → Buf (Elt Ideal) ℓ) (g' : Dev Cert.AttnfReferenceIdeal.nD → PrngReg), Pre_AttnfKernelIdeal m →
    (∀ c : Dev Cert.AttnfKernelIdeal.nD,
      m' ((c.tc : Thread Cert.AttnfReferenceIdeal.nD Cert.AttnfReferenceIdeal.τ).loc Cert.AttnfReferenceIdeal.main_arg0) = m ((c.tc : Thread Cert.AttnfKernelIdeal.nD Cert.AttnfKernelIdeal.τ).loc Cert.AttnfKernelIdeal.main_arg0)
      ∧ m' ((c.tc : Thread Cert.AttnfReferenceIdeal.nD Cert.AttnfReferenceIdeal.τ).loc Cert.AttnfReferenceIdeal.main_arg1) = m ((c.tc : Thread Cert.AttnfKernelIdeal.nD Cert.AttnfKernelIdeal.τ).loc Cert.AttnfKernelIdeal.main_arg1)
      ∧ m' ((c.tc : Thread Cert.AttnfReferenceIdeal.nD Cert.AttnfReferenceIdeal.τ).loc Cert.AttnfReferenceIdeal.main_arg2) = m ((c.tc : Thread Cert.AttnfKernelIdeal.nD Cert.AttnfKernelIdeal.τ).loc Cert.AttnfKernelIdeal.main_arg2)
      ∧ m' ((c.tc : Thread Cert.AttnfReferenceIdeal.nD Cert.AttnfReferenceIdeal.τ).loc Cert.AttnfReferenceIdeal.main_arg3) = m ((c.tc : Thread Cert.AttnfKernelIdeal.nD Cert.AttnfKernelIdeal.τ).loc Cert.AttnfKernelIdeal.main_arg3)
      ∧ m' ((c.tc : Thread Cert.AttnfReferenceIdeal.nD Cert.AttnfReferenceIdeal.τ).loc Cert.AttnfReferenceIdeal.main_arg4) = m ((c.tc : Thread Cert.AttnfKernelIdeal.nD Cert.AttnfKernelIdeal.τ).loc Cert.AttnfKernelIdeal.main_arg4)) →
    ∃ (v0 : (c : Dev Cert.AttnfKernelIdeal.nD) → Buf (Elt Ideal) ((c.tc : Thread Cert.AttnfKernelIdeal.nD Cert.AttnfKernelIdeal.τ).loc Cert.AttnfKernelIdeal.main_v4_0)) (v1 : (c : Dev Cert.AttnfKernelIdeal.nD) → Buf (Elt Ideal) ((c.tc : Thread Cert.AttnfKernelIdeal.nD Cert.AttnfKernelIdeal.τ).loc Cert.AttnfKernelIdeal.main_v4_1)) (v2 : (c : Dev Cert.AttnfKernelIdeal.nD) → Buf (Elt Ideal) ((c.tc : Thread Cert.AttnfKernelIdeal.nD Cert.AttnfKernelIdeal.τ).loc Cert.AttnfKernelIdeal.main_v4_2)),
      θ_run (Cert.AttnfKernelIdeal.defs (F := Ideal)) (onTc (τ := Cert.AttnfKernelIdeal.τ) (Cert.AttnfKernelIdeal.main (F := Ideal))) ⟨m, fun _ => 0, g⟩ (fun r => ∀ c : Dev Cert.AttnfKernelIdeal.nD,
          r.2.mem ((c.tc : Thread Cert.AttnfKernelIdeal.nD Cert.AttnfKernelIdeal.τ).loc Cert.AttnfKernelIdeal.main_v4_0) = v0 c
          ∧ r.2.mem ((c.tc : Thread Cert.AttnfKernelIdeal.nD Cert.AttnfKernelIdeal.τ).loc Cert.AttnfKernelIdeal.main_v4_1) = v1 c
          ∧ r.2.mem ((c.tc : Thread Cert.AttnfKernelIdeal.nD Cert.AttnfKernelIdeal.τ).loc Cert.AttnfKernelIdeal.main_v4_2) = v2 c
          ∧ r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
          ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
          ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
          ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3)
          ∧ r.2.mem ((c.tc : Thread Cert.AttnfKernelIdeal.nD Cert.AttnfKernelIdeal.τ).loc Cert.AttnfKernelIdeal.main_arg4) = m ((c.tc : Thread Cert.AttnfKernelIdeal.nD Cert.AttnfKernelIdeal.τ).loc Cert.AttnfKernelIdeal.main_arg4))
      ∧ θ_run (Cert.AttnfReferenceIdeal.defs (F := Ideal)) (onTc (τ := Cert.AttnfReferenceIdeal.τ) (Cert.AttnfReferenceIdeal.main (F := Ideal))) ⟨m', fun _ => 0, g'⟩ (fun r => ∀ c : Dev Cert.AttnfReferenceIdeal.nD,
          r.2.mem ((c.tc : Thread Cert.AttnfReferenceIdeal.nD Cert.AttnfReferenceIdeal.τ).loc Cert.AttnfReferenceIdeal.main_v25) = v0 c
          ∧ r.2.mem ((c.tc : Thread Cert.AttnfReferenceIdeal.nD Cert.AttnfReferenceIdeal.τ).loc Cert.AttnfReferenceIdeal.main_v24) = v1 c
          ∧ r.2.mem ((c.tc : Thread Cert.AttnfReferenceIdeal.nD Cert.AttnfReferenceIdeal.τ).loc Cert.AttnfReferenceIdeal.main_v39) = v2 c
          ∧ r.2.mem ((c.tc : Thread Cert.AttnfReferenceIdeal.nD Cert.AttnfReferenceIdeal.τ).loc Cert.AttnfReferenceIdeal.main_arg0) = m' ((c.tc : Thread Cert.AttnfReferenceIdeal.nD Cert.AttnfReferenceIdeal.τ).loc Cert.AttnfReferenceIdeal.main_arg0)
          ∧ r.2.mem ((c.tc : Thread Cert.AttnfReferenceIdeal.nD Cert.AttnfReferenceIdeal.τ).loc Cert.AttnfReferenceIdeal.main_arg1) = m' ((c.tc : Thread Cert.AttnfReferenceIdeal.nD Cert.AttnfReferenceIdeal.τ).loc Cert.AttnfReferenceIdeal.main_arg1)
          ∧ r.2.mem ((c.tc : Thread Cert.AttnfReferenceIdeal.nD Cert.AttnfReferenceIdeal.τ).loc Cert.AttnfReferenceIdeal.main_arg2) = m' ((c.tc : Thread Cert.AttnfReferenceIdeal.nD Cert.AttnfReferenceIdeal.τ).loc Cert.AttnfReferenceIdeal.main_arg2)
          ∧ r.2.mem ((c.tc : Thread Cert.AttnfReferenceIdeal.nD Cert.AttnfReferenceIdeal.τ).loc Cert.AttnfReferenceIdeal.main_arg3) = m' ((c.tc : Thread Cert.AttnfReferenceIdeal.nD Cert.AttnfReferenceIdeal.τ).loc Cert.AttnfReferenceIdeal.main_arg3)
          ∧ r.2.mem ((c.tc : Thread Cert.AttnfReferenceIdeal.nD Cert.AttnfReferenceIdeal.τ).loc Cert.AttnfReferenceIdeal.main_arg4) = m' ((c.tc : Thread Cert.AttnfReferenceIdeal.nD Cert.AttnfReferenceIdeal.τ).loc Cert.AttnfReferenceIdeal.main_arg4))

def Claim : Prop :=
  ∃ (hKernel : Cert.Kernel.Facts) (hKernelIdeal : Cert.KernelIdeal.Facts) (hReferenceIdeal : Cert.ReferenceIdeal.Facts) (hAttnKernel : Cert.AttnKernel.Facts) (hAttnKernelIdeal : Cert.AttnKernelIdeal.Facts) (hAttnReferenceIdeal : Cert.AttnReferenceIdeal.Facts) (hLnKernel : Cert.LnKernel.Facts) (hLnKernelIdeal : Cert.LnKernelIdeal.Facts) (hLnReferenceIdeal : Cert.LnReferenceIdeal.Facts) (hMemKernel : Cert.MemKernel.Facts) (hMemKernelIdeal : Cert.MemKernelIdeal.Facts) (hMemReferenceIdeal : Cert.MemReferenceIdeal.Facts) (hQrmsKernel : Cert.QrmsKernel.Facts) (hQrmsKernelIdeal : Cert.QrmsKernelIdeal.Facts) (hQrmsReferenceIdeal : Cert.QrmsReferenceIdeal.Facts) (hInKernel : Cert.InKernel.Facts) (hInKernelIdeal : Cert.InKernelIdeal.Facts) (hInReferenceIdeal : Cert.InReferenceIdeal.Facts) (hFfnKernel : Cert.FfnKernel.Facts) (hFfnKernelIdeal : Cert.FfnKernelIdeal.Facts) (hFfnReferenceIdeal : Cert.FfnReferenceIdeal.Facts) (hLossKernel : Cert.LossKernel.Facts) (hLossKernelIdeal : Cert.LossKernelIdeal.Facts) (hLossReferenceIdeal : Cert.LossReferenceIdeal.Facts) (hAttnfKernel : Cert.AttnfKernel.Facts) (hAttnfKernelIdeal : Cert.AttnfKernelIdeal.Facts) (hAttnfReferenceIdeal : Cert.AttnfReferenceIdeal.Facts) (hPre_attention_finite : Cert.Pre_attention_finite.Facts) (hPre_norm_finite : Cert.Pre_norm_finite.Facts) (hPre_ffn_finite : Cert.Pre_ffn_finite.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_AttnKernel (hAttnKernel := hAttnKernel)
    ∧ quiescent_AttnKernelIdeal (hAttnKernelIdeal := hAttnKernelIdeal)
    ∧ quiescent_AttnKernelIdeal_pre_attention_finite (hAttnKernelIdeal := hAttnKernelIdeal) (hPre_attention_finite := hPre_attention_finite)
    ∧ quiescent_AttnReferenceIdeal (hAttnReferenceIdeal := hAttnReferenceIdeal)
    ∧ quiescent_AttnReferenceIdeal_pre_attention_finite (hAttnReferenceIdeal := hAttnReferenceIdeal) (hPre_attention_finite := hPre_attention_finite)
    ∧ quiescent_LnKernel (hLnKernel := hLnKernel)
    ∧ quiescent_LnKernelIdeal (hLnKernelIdeal := hLnKernelIdeal)
    ∧ quiescent_LnKernelIdeal_pre_norm_finite (hLnKernelIdeal := hLnKernelIdeal) (hPre_norm_finite := hPre_norm_finite)
    ∧ quiescent_LnReferenceIdeal (hLnReferenceIdeal := hLnReferenceIdeal)
    ∧ quiescent_LnReferenceIdeal_pre_norm_finite (hLnReferenceIdeal := hLnReferenceIdeal) (hPre_norm_finite := hPre_norm_finite)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_QrmsKernel (hQrmsKernel := hQrmsKernel)
    ∧ quiescent_QrmsKernelIdeal (hQrmsKernelIdeal := hQrmsKernelIdeal)
    ∧ quiescent_QrmsReferenceIdeal (hQrmsReferenceIdeal := hQrmsReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AttnfKernel (hAttnfKernel := hAttnfKernel)
    ∧ quiescent_AttnfKernelIdeal (hAttnfKernelIdeal := hAttnfKernelIdeal)
    ∧ quiescent_AttnfReferenceIdeal (hAttnfReferenceIdeal := hAttnfReferenceIdeal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_AttnKernel_AttnKernelIdeal
    ∧ algebraic_AttnKernelIdeal_AttnReferenceIdeal_pre_attention_finite (hAttnKernelIdeal := hAttnKernelIdeal) (hAttnReferenceIdeal := hAttnReferenceIdeal) (hPre_attention_finite := hPre_attention_finite)
    ∧ preserves_LnKernel_LnKernelIdeal
    ∧ algebraic_LnKernelIdeal_LnReferenceIdeal_pre_norm_finite (hLnKernelIdeal := hLnKernelIdeal) (hLnReferenceIdeal := hLnReferenceIdeal) (hPre_norm_finite := hPre_norm_finite)
    ∧ preserves_MemKernel_MemKernelIdeal
    ∧ algebraic_MemKernelIdeal_MemReferenceIdeal (hMemKernelIdeal := hMemKernelIdeal) (hMemReferenceIdeal := hMemReferenceIdeal)
    ∧ preserves_QrmsKernel_QrmsKernelIdeal
    ∧ algebraic_QrmsKernelIdeal_QrmsReferenceIdeal (hQrmsKernelIdeal := hQrmsKernelIdeal) (hQrmsReferenceIdeal := hQrmsReferenceIdeal)
    ∧ preserves_InKernel_InKernelIdeal
    ∧ algebraic_InKernelIdeal_InReferenceIdeal (hInKernelIdeal := hInKernelIdeal) (hInReferenceIdeal := hInReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_LossKernel_LossKernelIdeal
    ∧ algebraic_LossKernelIdeal_LossReferenceIdeal (hLossKernelIdeal := hLossKernelIdeal) (hLossReferenceIdeal := hLossReferenceIdeal)
    ∧ preserves_AttnfKernel_AttnfKernelIdeal
    ∧ algebraic_AttnfKernelIdeal_AttnfReferenceIdeal (hAttnfKernelIdeal := hAttnfKernelIdeal) (hAttnfReferenceIdeal := hAttnfReferenceIdeal)
-- ==== On_gate_columns.lean ====
abbrev S8192x1024 : Shape := ⟨2, ![8192, 1024]⟩
abbrev S1024x6144 : Shape := ⟨2, ![1024, 6144]⟩
abbrev S2x1024 : Shape := ⟨2, ![2, 1024]⟩
abbrev S1024x1024 : Shape := ⟨2, ![1024, 1024]⟩
abbrev S8192x6144 : Shape := ⟨2, ![8192, 6144]⟩
abbrev S_ : Shape := ⟨0, ![]⟩
abbrev S8x1024 : Shape := ⟨2, ![8, 1024]⟩

class Facts : Prop where
  bcast_S_S8192x6144 : S_.BroadcastsInDim S8192x6144 (![] : Fin 0 → Fin S8192x6144.rank)
  bcast_S_S8192x1024 : S_.BroadcastsInDim S8192x1024 (![] : Fin 0 → Fin S8192x1024.rank)
  bcast_S_S8x1024 : S_.BroadcastsInDim S8x1024 (![] : Fin 0 → Fin S8x1024.rank)
  bcast_S_S1024x1024 : S_.BroadcastsInDim S1024x1024 (![] : Fin 0 → Fin S1024x1024.rank)
  bcast_S_S1024x6144 : S_.BroadcastsInDim S1024x6144 (![] : Fin 0 → Fin S1024x6144.rank)

variable [Facts]

def fn {F : FTy → Type} [FloatOps F] (main_arg0 : FVec F S8192x1024 .f32) (main_arg1 : FVec F S1024x6144 .f32) (main_arg2 : FVec F S2x1024 .f32) (main_arg3 : FVec F S8192x1024 .f32) (main_arg4 : FVec F S8192x1024 .f32) (main_arg5 : FVec F S1024x1024 .f32) (main_arg6 : FVec F S8192x1024 .f32) : IVec S8192x6144 1 × IVec S8192x1024 1 × IVec S8192x1024 1 × IVec S8x1024 1 × IVec S1024x1024 1 × IVec S1024x6144 1 :=
  let main_v0 : IVec S8192x6144 32 := iotaInDim S8192x6144 32 1
  let main_c : IVec S_ 32 := constantI S_ 32 4096#32
  let main_v1 : IVec S8192x6144 32 := broadcastInDim S8192x6144 ![] bcast_S_S8192x6144 main_c
  let main_v2 : IVec S8192x6144 1 := cmpi .sge main_v0 main_v1
  let main_c_0 : IVec S_ 1 := constantI S_ 1 1#1
  let main_v3 : IVec S8192x1024 1 := broadcastInDim S8192x1024 ![] bcast_S_S8192x1024 main_c_0
  let main_c_1 : IVec S_ 1 := constantI S_ 1 1#1
  let main_v4 : IVec S8192x1024 1 := broadcastInDim S8192x1024 ![] bcast_S_S8192x1024 main_c_1
  let main_c_2 : IVec S_ 1 := constantI S_ 1 1#1
  let main_v5 : IVec S8x1024 1 := broadcastInDim S8x1024 ![] bcast_S_S8x1024 main_c_2
  let main_c_3 : IVec S_ 1 := constantI S_ 1 1#1
  let main_v6 : IVec S1024x1024 1 := broadcastInDim S1024x1024 ![] bcast_S_S1024x1024 main_c_3
  let main_v7 : IVec S1024x6144 32 := iotaInDim S1024x6144 32 1
  let main_c_4 : IVec S_ 32 := constantI S_ 32 4096#32
  let main_v8 : IVec S1024x6144 32 := broadcastInDim S1024x6144 ![] bcast_S_S1024x6144 main_c_4
  let main_v9 : IVec S1024x6144 1 := cmpi .sge main_v7 main_v8
  (main_v2, main_v3, main_v4, main_v5, main_v6, main_v9)
-- ==== Pre_attention_finite.lean ====
abbrev S8192x1024 : Shape := ⟨2, ![8192, 1024]⟩
abbrev S1024x2048 : Shape := ⟨2, ![1024, 2048]⟩
abbrev S_ : Shape := ⟨0, ![]⟩
abbrev S1024x1024 : Shape := ⟨2, ![1024, 1024]⟩

class Facts : Prop where
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024x2048 .f32) (main_arg2 : FVec F S8192x1024 .f32) : IVec S8192x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := (extractStridedSlice S1024x1024 ![0, 0] · slices_S1024x2048_S1024x1024_0_0) main_arg1
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  (main_v2, main_v6)
-- ==== Pre_ffn_finite.lean ====
abbrev S8192x1024 : Shape := ⟨2, ![8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1024x2816 : Shape := ⟨2, ![1024, 2816]⟩

class Facts : Prop where
  bcast_S_S1024 : S_.BroadcastsInDim S1024 (![] : Fin 0 → Fin S1024.rank)
  slices_S1024x5632_S1024x2816_0_2816 : S1024x5632.Slices ![0, 2816] S1024x2816
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x5632 .f32) (main_arg5 : FVec F S2816x1024 .f32) (main_arg6 : FVec F S8192x1024 .f32) : IVec S1024 1 × IVec S1024x2816 1 × IVec S2816x1024 1 × IVec S8192x1024 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := (extractStridedSlice S1024x2816 ![0, 2816] · slices_S1024x5632_S1024x2816_0_2816) main_arg4
  let main_v4 : FVec F S1024x2816 .f32 := Host.absf main_v3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_v7 : FVec F S2816x1024 .f32 := Host.absf main_arg5
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S8192x1024 .f32 := Host.absf main_arg6
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  (main_v2, main_v6, main_v9, main_v12)
-- ==== Pre_norm_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1024 .f32) (main_arg2 : FVec F S1024 .f32) (main_arg3 : FVec F S1024x1024 .f32) (main_arg4 : FVec F S8192x1024 .f32) : IVec S1024 1 × IVec S1024x1024 1 × IVec S8192x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := Host.absf main_arg3
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x1024 .f32 := Host.absf main_arg4
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S8192x1024 : Shape := ⟨2, ![8192, 1024]⟩
abbrev S1024x6144 : Shape := ⟨2, ![1024, 6144]⟩
abbrev S2x1024 : Shape := ⟨2, ![2, 1024]⟩
abbrev S1024x1024 : Shape := ⟨2, ![1024, 1024]⟩
abbrev S8192x6144 : Shape := ⟨2, ![8192, 6144]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S256x1024 : Shape := ⟨2, ![256, 1024]⟩
abbrev S256x2048 : Shape := ⟨2, ![256, 2048]⟩
abbrev S1024x2048 : Shape := ⟨2, ![1024, 2048]⟩

abbrev nBuf : Space → Nat
  | .hbm => 58
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S2x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x6144, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x6144, .bf16⟩
  | .hbm, ⟨44, _⟩ => ⟨S8192x1024, .bf16⟩
  | .hbm, ⟨45, _⟩ => ⟨S8192x1024, .bf16⟩
  | .hbm, ⟨46, _⟩ => ⟨S_, .i32⟩
  | .hbm, ⟨47, _⟩ => ⟨S_, .f32⟩
  | .hbm, ⟨48, _⟩ => ⟨S8x1024, .f32⟩
  | .hbm, ⟨49, _⟩ => ⟨S1024x1024, .bf16⟩
  | .hbm, ⟨50, _⟩ => ⟨S8192x1024, .bf16⟩
  | .hbm, ⟨51, _⟩ => ⟨S8192x1024, .bf16⟩
  | .hbm, ⟨52, _⟩ => ⟨S8192x6144, .bf16⟩
  | .hbm, ⟨53, _⟩ => ⟨S8192x1024, .bf16⟩
  | .hbm, ⟨54, _⟩ => ⟨S8192x1024, .bf16⟩
  | .hbm, ⟨55, _⟩ => ⟨S8x1024, .f32⟩
  | .hbm, ⟨56, _⟩ => ⟨S1024x1024, .bf16⟩
  | .hbm, ⟨57, _⟩ => ⟨S1024x6144, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S1024x1024, .bf16⟩
  | .local _ .vmem, ⟨16, _⟩ => ⟨S256x2048, .bf16⟩
  | .local _ .vmem, ⟨17, _⟩ => ⟨S256x2048, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | .local _ .vmem, ⟨23, _⟩ => ⟨S1024x1024, .bf16⟩
  | .local _ .vmem, ⟨24, _⟩ => ⟨S1024x2048, .bf16⟩
  | .local _ .vmem, ⟨25, _⟩ => ⟨S1024x1024, .f32⟩
  | .local _ .vmem, ⟨26, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev main_v39_3 : Ref sig .tc := ⟨.hbm, 55, rfl⟩
abbrev main_v39_4 : Ref sig .tc := ⟨.hbm, 56, rfl⟩
abbrev main_v39_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v92 : BitVec 1 := Scalar.cmpi .eq arg0 c31_i32
  let v93 : BitVec 32 := Scalar.extui v92
  let c0_i32_56 : BitVec 32 := 0#32
  let v94 : BitVec 1 := Scalar.cmpi .ne v93 c0_i32_56
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S1024x6144 : Shape := ⟨2, ![1024, 6144]⟩
abbrev S2x1024 : Shape := ⟨2, ![2, 1024]⟩
abbrev S1024x1024 : Shape := ⟨2, ![1024, 1024]⟩
abbrev S8192x6144 : Shape := ⟨2, ![8192, 6144]⟩
abbrev S1x1024 : Shape := ⟨2, ![1, 1024]⟩
abbrev S1024 : Shape := ⟨1, ![1024]⟩
abbrev S_ : Shape := ⟨0, ![]⟩
abbrev S6144x1024 : Shape := ⟨2, ![6144, 1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S2x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x6144, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x1024, .f32⟩
  | .hbm, ⟨53, _⟩ => ⟨S1024x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S2x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x6144, .f32⟩
  | .hbm, ⟨87, _⟩ => ⟨S6144x1024, .f32⟩
  | .hbm, ⟨88, _⟩ => ⟨S1024x6144, .f32⟩
  | .hbm, ⟨89, _⟩ => ⟨S8192x6144, .bf16⟩
  | .hbm, ⟨90, _⟩ => ⟨S8192x1024, .bf16⟩
  | .hbm, ⟨91, _⟩ => ⟨S8192x1024, .bf16⟩
  | .hbm, ⟨92, _⟩ => ⟨S_, .i32⟩
  | .hbm, ⟨93, _⟩ => ⟨S_, .f32⟩
  | .hbm, ⟨94, _⟩ => ⟨S8x1024, .f32⟩
  | .hbm, ⟨95, _⟩ => ⟨S1024x1024, .bf16⟩
  | .hbm, ⟨96, _⟩ => ⟨S1024x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c : Ref sig .tc := ⟨.hbm, 92, rfl⟩
abbrev main_call0_v0 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== AttnKernel.lean ====
abbrev S8192x1024 : Shape := ⟨2, ![8192, 1024]⟩
abbrev S1024x2048 : Shape := ⟨2, ![1024, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S8192x1024, .bf16⟩
  | .hbm, ⟨4, _⟩ => ⟨S1024x2048, .bf16⟩
  | .hbm, ⟨5, _⟩ => ⟨S8192x1024, .bf16⟩
  | .hbm, ⟨6, _⟩ => ⟨S8192x1024, .bf16⟩
  | .hbm, ⟨7, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | .local _ .vmem, ⟨9, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnReferenceIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S4x2048x4x256, .f32⟩
  | .hbm, ⟨4, _⟩ => ⟨S4x256x2048, .f32⟩
  | .hbm, ⟨5, _⟩ => ⟨S4x256x1024, .f32⟩
  | .hbm, ⟨6, _⟩ => ⟨S4x256x1024, .f32⟩
  | .hbm, ⟨7, _⟩ => ⟨S4x256x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .i1⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S_, .f32⟩
  | .hbm, ⟨25, _⟩ => ⟨S4x4x2048, .f32⟩
  | .hbm, ⟨26, _⟩ => ⟨S4x4x2048, .i1⟩
  | .hbm, ⟨27, _⟩ => ⟨S_, .f32⟩
  | .hbm, ⟨28, _⟩ => ⟨S4x4x2048, .f32⟩
  | .hbm, ⟨29, _⟩ => ⟨S4x4x2048, .i1⟩
  | .hbm, ⟨30, _⟩ => ⟨S_, .f32⟩
  | .hbm, ⟨31, _⟩ => ⟨S4x4x2048, .f32⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x1, .f32⟩
  | .hbm, ⟨48, _⟩ => ⟨S_, .f32⟩
  | .hbm, ⟨49, _⟩ => ⟨S4x4x2048x1, .f32⟩
  | .hbm, ⟨50, _⟩ => ⟨S4x4x2048x1, .f32⟩
  | .hbm, ⟨51, _⟩ => ⟨S4x4x256x2048, .f32⟩
  | .hbm, ⟨52, _⟩ => ⟨S4x2048x4x256, .f32⟩
  | .hbm, ⟨53, _⟩ => ⟨S8192x1024, .f32⟩
  | .hbm, ⟨54, _⟩ => ⟨S4x2048x4x256, .f32⟩
  | .hbm, ⟨55, _⟩ => ⟨S4x4x256x2048, .f32⟩
  | .hbm, ⟨56, _⟩ => ⟨S4x4x2048x256, .f32⟩
  | .hbm, ⟨57, _⟩ => ⟨S4x4x256x256, .f32⟩
  | .hbm, ⟨58, _⟩ => ⟨S4x256x4x256, .f32⟩
  | .hbm, ⟨59, _⟩ => ⟨S4x4x2048x256, .f32⟩
  | .hbm, ⟨60, _⟩ => ⟨S4x4x2048x256, .f32⟩
  | .hbm, ⟨61, _⟩ => ⟨S4x4x2048x256, .f32⟩
  | .hbm, ⟨62, _⟩ => ⟨S_, .f32⟩
  | .hbm, ⟨63, _⟩ => ⟨S4x4x2048, .f32⟩
  | .hbm, ⟨64, _⟩ => ⟨S4x4x2048x1, .f32⟩
  | .hbm, ⟨65, _⟩ => ⟨S4x4x2048x1, .f32⟩
  | .hbm, ⟨66, _⟩ => ⟨S4x4x2048x256, .f32⟩
  | .hbm, ⟨67, _⟩ => ⟨S4x4x2048x256, .f32⟩
  | .hbm, ⟨68, _⟩ => ⟨S_, .f32⟩
  | .hbm, ⟨69, _⟩ => ⟨S4x4x2048, .f32⟩
  | .hbm, ⟨70, _⟩ => ⟨S4x4x2048x256, .f32⟩
  | .hbm, ⟨71, _⟩ => ⟨S4x4x2048x256, .f32⟩
  | .hbm, ⟨72, _⟩ => ⟨S4x4x2048x256, .f32⟩
  | .hbm, ⟨73, _⟩ => ⟨S_, .f32⟩
  | .hbm, ⟨74, _⟩ => ⟨S4x4x2048x256, .f32⟩
  | .hbm, ⟨75, _⟩ => ⟨S4x4x2048x256, .f32⟩
  | .hbm, ⟨76, _⟩ => ⟨S4x4x256x256, .f32⟩
  | .hbm, ⟨77, _⟩ => ⟨S4x256x4x256, .f32⟩
  | .hbm, ⟨78, _⟩ => ⟨S4x4x2048x256, .f32⟩
  | .hbm, ⟨79, _⟩ => ⟨S4x2048x4x256, .f32⟩
  | .hbm, ⟨80, _⟩ => ⟨S4x256x1024, .f32⟩
  | .hbm, ⟨81, _⟩ => ⟨S4x256x1024, .f32⟩
  | .hbm, ⟨82, _⟩ => ⟨S4x256x2048, .f32⟩
  | .hbm, ⟨83, _⟩ => ⟨S1024x2048, .f32⟩
  | .hbm, ⟨84, _⟩ => ⟨S8192x1024, .f32⟩
  | .hbm, ⟨85, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== LnKernel.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1 : Shape := ⟨2, ![1024, 1]⟩

abbrev nBuf : Space → Nat
  | .hbm => 53
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S8192x1024, .bf16⟩
  | .hbm, ⟨46, _⟩ => ⟨S1024x1024, .bf16⟩
  | .hbm, ⟨47, _⟩ => ⟨S1x1024, .f32⟩
  | .hbm, ⟨48, _⟩ => ⟨S1x1024, .f32⟩
  | .hbm, ⟨49, _⟩ => ⟨S8192x1024, .bf16⟩
  | .hbm, ⟨50, _⟩ => ⟨S1x1024, .f32⟩
  | .hbm, ⟨51, _⟩ => ⟨S1x1024, .f32⟩
  | .hbm, ⟨52, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v31_2 : Ref sig .tc := ⟨.hbm, 51, rfl⟩
abbrev main_v31_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v92 : BitVec 1 := Scalar.cmpi .eq arg0 c7_i32
  let v93 : BitVec 32 := Scalar.extui v92
  let c0_i32_45 : BitVec 32 := 0#32
  let v94 : BitVec 1 := Scalar.cmpi .ne v93 c0_i32_45
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnReferenceIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x1024, .f32⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .bf16⟩
  | .hbm, ⟨107, _⟩ => ⟨S1x1024, .f32⟩
  | .hbm, ⟨108, _⟩ => ⟨S1x1024, .f32⟩
  | .hbm, ⟨109, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_cst_16 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== MemKernel.lean ====
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1024x2048, .f32⟩
  | .hbm, ⟨4, _⟩ => ⟨S1024x2048, .bf16⟩
  | .hbm, ⟨5, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemReferenceIdeal.lean ====
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S1024x1 : Shape := ⟨2, ![1024, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1024x2048, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x2048, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== QrmsKernel.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 32
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1024x1024, .bf16⟩
  | .hbm, ⟨25, _⟩ => ⟨S1x1024, .f32⟩
  | .hbm, ⟨26, _⟩ => ⟨S8192x1024, .bf16⟩
  | .hbm, ⟨27, _⟩ => ⟨S8192x1024, .bf16⟩
  | .hbm, ⟨28, _⟩ => ⟨S8192x1024, .f32⟩
  | .hbm, ⟨29, _⟩ => ⟨S1x1024, .f32⟩
  | .hbm, ⟨30, _⟩ => ⟨S1024x1024, .bf16⟩
  | .hbm, ⟨31, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v63 : BitVec 1 := Scalar.cmpi .eq arg0 c15_i32
  let v64 : BitVec 32 := Scalar.extui v63
  let c0_i32_40 : BitVec 32 := 0#32
  let v65 : BitVec 1 := Scalar.cmpi .ne v64 c0_i32_40
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== QrmsReferenceIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S1024x1024, .bf16⟩
  | .hbm, ⟨64, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== InKernel.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S1024x8x768 : Shape := ⟨3, ![1024, 8, 768]⟩
abbrev S8x1024x768 : Shape := ⟨3, ![8, 1024, 768]⟩
abbrev S1x1024 : Shape := ⟨2, ![1, 1024]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S1024x8x768, .f32⟩
  | .hbm, ⟨6, _⟩ => ⟨S8x1024x768, .f32⟩
  | .hbm, ⟨7, _⟩ => ⟨S8192x6144, .bf16⟩
  | .hbm, ⟨8, _⟩ => ⟨S8x1024x768, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x768, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InReferenceIdeal.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6144, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== FfnKernel.lean ====
abbrev S8192x1024 : Shape := ⟨2, ![8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S5632x1024 : Shape := ⟨2, ![5632, 1024]⟩
abbrev S256x1024 : Shape := ⟨2, ![256, 1024]⟩
abbrev S256x5632 : Shape := ⟨2, ![256, 5632]⟩
abbrev S1408x1024 : Shape := ⟨2, ![1408, 1024]⟩
abbrev S256x1408 : Shape := ⟨2, ![256, 1408]⟩
abbrev S256 : Shape := ⟨1, ![256]⟩
abbrev S256x1 : Shape := ⟨2, ![256, 1]⟩

abbrev nBuf : Space → Nat
  | .hbm => 36
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x5632, .bf16⟩
  | .hbm, ⟨27, _⟩ => ⟨S2816x1024, .bf16⟩
  | .hbm, ⟨28, _⟩ => ⟨S5632x1024, .f32⟩
  | .hbm, ⟨29, _⟩ => ⟨S5632x1024, .bf16⟩
  | .hbm, ⟨30, _⟩ => ⟨S1x1024, .f32⟩
  | .hbm, ⟨31, _⟩ => ⟨S1024x1024, .bf16⟩
  | .hbm, ⟨32, _⟩ => ⟨S8192x5632, .bf16⟩
  | .hbm, ⟨33, _⟩ => ⟨S8192x1024, .f32⟩
  | .hbm, ⟨34, _⟩ => ⟨S8192x1024, .bf16⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S5632x1024, .bf16⟩
  | .local _ .vmem, ⟨8, _⟩ => ⟨S1x1024, .f32⟩
  | .local _ .vmem, ⟨9, _⟩ => ⟨S1024x1024, .bf16⟩
  | .local _ .vmem, ⟨10, _⟩ => ⟨S256x5632, .bf16⟩
  | .local _ .vmem, ⟨11, _⟩ => ⟨S256x5632, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnReferenceIdeal.lean ====
abbrev S8192x1024 : Shape := ⟨2, ![8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x5632, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x5632, .bf16⟩
  | .hbm, ⟨84, _⟩ => ⟨S8192x1024, .bf16⟩
  | .hbm, ⟨85, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== LossKernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S8192x5632 : Shape := ⟨2, ![8192, 5632]⟩
abbrev S8192x2816 : Shape := ⟨2, ![8192, 2816]⟩
abbrev S1x1 : Shape := ⟨2, ![1, 1]⟩
abbrev S256x1024 : Shape := ⟨2, ![256, 1024]⟩
abbrev S256x5632 : Shape := ⟨2, ![256, 5632]⟩
abbrev S256x2816 : Shape := ⟨2, ![256, 2816]⟩
abbrev S1408x1024 : Shape := ⟨2, ![1408, 1024]⟩
abbrev S256x1408 : Shape := ⟨2, ![256, 1408]⟩
abbrev S256 : Shape := ⟨1, ![256]⟩
abbrev S256x1 : Shape := ⟨2, ![256, 1]⟩
abbrev S1 : Shape := ⟨1, ![1]⟩

abbrev nBuf : Space → Nat
  | .hbm => 32
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S5632x1024, .f32⟩
  | .hbm, ⟨24, _⟩ => ⟨S5632x1024, .bf16⟩
  | .hbm, ⟨25, _⟩ => ⟨S2816x1024, .bf16⟩
  | .hbm, ⟨26, _⟩ => ⟨S1x1024, .f32⟩
  | .hbm, ⟨27, _⟩ => ⟨S8192x5632, .bf16⟩
  | .hbm, ⟨28, _⟩ => ⟨S8192x2816, .bf16⟩
  | .hbm, ⟨29, _⟩ => ⟨S8192x1024, .f32⟩
  | .hbm, ⟨30, _⟩ => ⟨S1x1, .f32⟩
  | .hbm, ⟨31, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S5632x1024, .bf16⟩
  | .local _ .vmem, ⟨7, _⟩ => ⟨S2816x1024, .bf16⟩
  | .local _ .vmem, ⟨8, _⟩ => ⟨S1x1024, .f32⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .f32⟩
  | .local _ .vmem, ⟨14, _⟩ => ⟨S256x1024, .f32⟩
  | .local _ .vmem, ⟨15, _⟩ => ⟨S1x1, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x5632, .bf16⟩
  | .hbm, ⟨106, _⟩ => ⟨S8192x2816, .bf16⟩
  | .hbm, ⟨107, _⟩ => ⟨S1x1, .f32⟩
  | .hbm, ⟨108, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== AttnfKernel.lean ====
abbrev S8192x1024 : Shape := ⟨2, ![8192, 1024]⟩
abbrev S1024x2048 : Shape := ⟨2, ![1024, 2048]⟩
abbrev S1024x1024 : Shape := ⟨2, ![1024, 1024]⟩
abbrev S1024 : Shape := ⟨1, ![1024]⟩
abbrev S1x1024 : Shape := ⟨2, ![1, 1024]⟩
abbrev S256x2048 : Shape := ⟨2, ![256, 2048]⟩
abbrev S1024x256 : Shape := ⟨2, ![1024, 256]⟩
abbrev S256x256 : Shape := ⟨2, ![256, 256]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S8192x1024, .bf16⟩
  | .hbm, ⟨6, _⟩ => ⟨S1024x2048, .bf16⟩
  | .hbm, ⟨7, _⟩ => ⟨S1024x1024, .bf16⟩
  | .hbm, ⟨8, _⟩ => ⟨S1x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnfReferenceIdeal.lean ====
abbrev S8192x1024 : Shape := ⟨2, ![8192, 1024]⟩
abbrev S1024x2048 : Shape := ⟨2, ![1024, 2048]⟩
abbrev S1024x1024 : Shape := ⟨2, ![1024, 1024]⟩
abbrev S1024 : Shape := ⟨1, ![1024]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S4x2048x4x256, .f32⟩
  | .hbm, ⟨6, _⟩ => ⟨S4x256x2048, .f32⟩
  | .hbm, ⟨7, _⟩ => ⟨S4x256x1024, .f32⟩
  | .hbm, ⟨8, _⟩ => ⟨S4x256x1024, .f32⟩
  | .hbm, ⟨9, _⟩ => ⟨S4x256x4x256, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S_, .f32⟩
  | .hbm, ⟨18, _⟩ => ⟨S4x4x2048, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S4x4x2048x1, .f32⟩
  | .hbm, ⟨27, _⟩ => ⟨S4x4x2048x256, .f32⟩
  | .hbm, ⟨28, _⟩ => ⟨S4x4x2048x256, .f32⟩
  | .hbm, ⟨29, _⟩ => ⟨S4x4x256x2048, .f32⟩
  | .hbm, ⟨30, _⟩ => ⟨S4x2048x4x256, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.GatesHost.lean ====
/- What the gate call's windows read: the arrays that the host lines leave before the launch, each the corresponding stage
   of the reference's own lines at the program's arguments (over the reals a cast between floats is the identity). -/
module

public import proofs.«01_k».proof.Proof.Gen.KernelIdeal.Frame.Runs
public import proofs.«01_k».proof.Proof.Gen.ReferenceIdeal.Read
public import Idealize.ShloMosaic.Lib.Pointwise
public import Idealize.ShloMosaic.Lib.Pipeline.ValueKit

@[expose] public section
set_option maxRecDepth 16384
noncomputable section
namespace Cert.GatesKernel
open Cert.KernelIdeal Cert.KernelIdeal.Gen Idealize.ShloMosaic Idealize.ShloMosaic.TcCoe Idealize.SL.Sem
open Cert.ReferenceIdeal.Read
variable (m : (ℓ : Loc nD τ sig) → Buf (Elt Ideal) ℓ) (c : Dev nD)

abbrev aH1 : Vec Ideal S8192x1024 .f32 := m ((c.tc : Thread nD τ).loc main_arg0)
abbrev aWin : Vec Ideal S1024x6144 .f32 := m ((c.tc : Thread nD τ).loc main_arg1)
abbrev aBg : Vec Ideal S2x1024 .f32 := m ((c.tc : Thread nD τ).loc main_arg2)
abbrev aYa : Vec Ideal S8192x1024 .f32 := m ((c.tc : Thread nD τ).loc main_arg3)
abbrev aYb : Vec Ideal S8192x1024 .f32 := m ((c.tc : Thread nD τ).loc main_arg4)
abbrev aWmix : Vec Ideal S1024x1024 .f32 := m ((c.tc : Thread nD τ).loc main_arg5)
abbrev aDx : Vec Ideal S8192x1024 .f32 := m ((c.tc : Thread nD τ).loc main_arg6)

theorem V_p (i : S8192x6144.Idx) : V m c main_v32 i = val_main_v0 (F := Ideal) (aH1 m c) (aWin m c) i := by
  rfl
theorem V_merged (i : S8192x1024.Idx) :
    V m c main_v37 i = val_main_v37 (F := Ideal) (aH1 m c) (aWin m c) (aBg m c) (aYa m c) (aYb m c) i := by
  rfl
/-- The first two rows of the padded gate bias are the bias. -/
theorem V_bg (i : S8x1024.Idx) (r : Fin 2) (l : Fin 1024) (h0 : (i 0).val = r.val) (h1 : (i 1).val = l.val) :
    V m c main_v35 i = aBg m c (ix2 r l) := by
  have e : V m c main_v35 = pad S8x1024 ![0, 0] ![6, 0] ![0, 0] (aBg m c) (sitofp (F := Ideal) .f32 (constantI S_ 32 0#32)) pads_S2x1024_S8x1024_060_000 h_S_ := rfl
  rw [e]
  pointwise
  have hr := r.isLt
  rw [dif_pos (by omega)]
  exact congrArg _ (congrArg₂ ix2 (Fin.ext h0) (Fin.ext h1))
theorem V_ya (i : S8192x1024.Idx) : V m c main_v33 i = aYa m c i := rfl
theorem V_yb (i : S8192x1024.Idx) : V m c main_v34 i = aYb m c i := rfl
theorem V_wmix (i : S1024x1024.Idx) : V m c main_v36 i = aWmix m c i := rfl
theorem V_h1 (i : S8192x1024.Idx) : V m c main_v38 i = aH1 m c i := rfl
theorem V_dx (i : S8192x1024.Idx) : V m c main_arg6 i = aDx m c i := rfl

/-! ## The windows' blocks: point `t` reads rows `256 t` to `256 t + 255` -/

/-- Row `r` of point `t`'s block, as a row of the array. -/
abbrev row (t : Fin cfg0.N) (r : Fin 256) : Fin 8192 :=
  ⟨256 * t.val + r.val, by have h := lt_of_lt_of_eq t.isLt (show cfg0.N = 32 from N_0); omega⟩

theorem idx : ∀ t : Fin cfg0.N, win0_0.index t = ![t.val, 0] ∧ win0_1.index t = ![t.val, 4] ∧ win0_2.index t = ![t.val, 5]
    ∧ win0_3.index t = ![t.val, 0] ∧ win0_4.index t = ![t.val, 0] ∧ win0_5.index t = ![t.val, 0]
    ∧ win0_6.index t = ![t.val, 0] ∧ win0_7.index t = ![0, 0] ∧ win0_8.index t = ![0, 0]
    ∧ win0_9.index t = ![t.val, 2] ∧ win0_10.index t = ![t.val, 0] ∧ win0_11.index t = ![t.val, 0] :=
  (by decide +kernel : ∀ t : Fin grid0.N, _)

theorem blk0 (t : Fin cfg0.N) (r : Fin 256) (l : Fin 1024) : iblk m c 0 t (ix2 r l) = aDx m c (ix2 (row t r) l) := by
  blk_point [iblk, V, idx t]
theorem blk1 (t : Fin cfg0.N) (r : Fin 256) (l : Fin 1024) : iblk m c 1 t (ix2 r l)
    = val_main_v0 (F := Ideal) (aH1 m c) (aWin m c) (ix2 (row t r) ⟨4096 + l.val, by omega⟩) := by
  refine Eq.trans ?_ (V_p m c _)
  blk_point [iblk, idx t]
theorem blk2 (t : Fin cfg0.N) (r : Fin 256) (l : Fin 1024) : iblk m c 2 t (ix2 r l)
    = val_main_v0 (F := Ideal) (aH1 m c) (aWin m c) (ix2 (row t r) ⟨5120 + l.val, by omega⟩) := by
  refine Eq.trans ?_ (V_p m c _)
  blk_point [iblk, idx t]
theorem blk3 (t : Fin cfg0.N) (r : Fin 256) (l : Fin 1024) : iblk m c 3 t (ix2 r l) = aYa m c (ix2 (row t r) l) := by
  refine Eq.trans ?_ (V_ya m c _)
  blk_point [iblk, idx t]
theorem blk4 (t : Fin cfg0.N) (r : Fin 256) (l : Fin 1024) : iblk m c 4 t (ix2 r l) = aYb m c (ix2 (row t r) l) := by
  refine Eq.trans ?_ (V_yb m c _)
  blk_point [iblk, idx t]
theorem blk5 (t : Fin cfg0.N) (r : Fin 256) (l : Fin 1024) : iblk m c 5 t (ix2 r l)
    = val_main_v37 (F := Ideal) (aH1 m c) (aWin m c) (aBg m c) (aYa m c) (aYb m c) (ix2 (row t r) l) := by
  refine Eq.trans ?_ (V_merged m c _)
  blk_point [iblk, idx t]
theorem blk6 (t : Fin cfg0.N) (r : Fin 256) (l : Fin 1024) : iblk m c 6 t (ix2 r l) = aH1 m c (ix2 (row t r) l) := by
  refine Eq.trans ?_ (V_h1 m c _)
  blk_point [iblk, idx t]
theorem blk7 (t : Fin cfg0.N) (r : Fin 8) (q : Fin 2) (l : Fin 1024) (h : r.val = q.val) :
    iblk m c 7 t (ix2 r l) = aBg m c (ix2 q l) := by
  refine Eq.trans ?_ (V_bg m c (ix2 r l) q l h rfl)
  blk_point [iblk, idx t]
theorem blk8 (t : Fin cfg0.N) (d : Fin 1024) (l : Fin 1024) : iblk m c 8 t (ix2 d l) = aWmix m c (ix2 d l) := by
  refine Eq.trans ?_ (V_wmix m c _)
  blk_point [iblk, idx t]

end Cert.GatesKernel
end
-- ==== Proof.Sigmoid.lean ====
/- The logistic function in its two forms on the extended reals: half the hyperbolic tangent of half the argument plus
   one half (how the step's kernels compute it), and one over one plus the exponential of minus the argument (how the
   reference states it). -/
module

public import Idealize.ShloMosaic.PureOps.Ideal.Laws
public import Mathlib.Analysis.SpecialFunctions.Trigonometric.DerivHyp

@[expose] public section
noncomputable section
namespace Cert.Sigmoid
open Idealize.ShloMosaic

/-- On the reals the two forms agree. -/
theorem real_form (x : ℝ) : (1 / 2) * Real.tanh ((1 / 2) * x) + 1 / 2 = (1 + Real.exp (-x))⁻¹ := by
  have h : Real.exp (-x) = Real.exp (-(1 / 2 * x)) / Real.exp (1 / 2 * x) := by
    rw [← Real.exp_sub]; congr 1; ring
  rw [h, Real.tanh_eq_sinh_div_cosh, Real.sinh_eq, Real.cosh_eq]
  have h1 := Real.exp_pos (1 / 2 * x)
  have h2 := Real.exp_pos (-(1 / 2 * x))
  field_simp
  ring

/-- The half, as an extended real. -/
abbrev half : EReal := ((1 / 2 : ℝ) : EReal)

/-- On every extended real the two forms agree. -/
theorem tanh_form (v : EReal) : half * Ideal.tanh (half * v) + half = Ideal.logistic v := by
  induction v with
  | bot =>
    rw [EReal.coe_mul_bot_of_pos (by norm_num), Ideal.tanh_bot, Ideal.logistic_bot]
    have : half * (-1 : EReal) + half = (((1 / 2 : ℝ) * (-1) + 1 / 2 : ℝ) : EReal) := by
      push_cast; rfl
    rw [this]; norm_num
  | top =>
    rw [EReal.coe_mul_top_of_pos (by norm_num), Ideal.tanh_top, Ideal.logistic_top]
    have : half * (1 : EReal) + half = (((1 / 2 : ℝ) * 1 + 1 / 2 : ℝ) : EReal) := by
      push_cast; rfl
    rw [this]; norm_num
  | coe x =>
    rw [← EReal.coe_mul, Ideal.tanh_coe, Ideal.logistic_coe, ← EReal.coe_mul, ← EReal.coe_add, real_form]

end Cert.Sigmoid
end
-- ==== Proof.GatesPoint.lean ====
/- What one grid point of the gate call computes. -/
module

public import proofs.«01_k».proof.Proof.GatesHost
public import proofs.«01_k».proof.Proof.Sigmoid
public import proofs.«01_k».proof.Proof.Gen.KernelIdeal.Skeleton
public import Idealize.ShloMosaic.Lib.IdealHost

@[expose] public section
set_option maxRecDepth 16384
noncomputable section
namespace Cert.GatesKernel
open Cert.ReferenceIdeal.Read
open Cert.KernelIdeal Cert.KernelIdeal.Gen Idealize.ShloMosaic Idealize.ShloMosaic.TcCoe Idealize.SL.Sem

/-- The constant 0.5. -/
theorem half_word : Ideal.ofBits .f32 0x3F000000#32 = Cert.Sigmoid.half := by
  simp [Ideal.ofBits, Ideal.ieee, -EReal.coe_mul]; norm_num

/-! ## The body's expressions at an index, over any blocks -/

theorem pay11_at (x : Vec Ideal S256x1024 .f32) (w : Vec Ideal S1024x1024 .bf16) (r : Fin 256) (l : Fin 1024) :
    k0_pay11 x w (ix2 r l) = ∑ k : Fin 1024, x (ix2 r k) * w (ix2 l k) := by
  pointwise [k0_pay11, k0_pay9]
theorem pay12_at (x : Vec Ideal S256x1024 .bf16) (b : Vec Ideal S1x1024 .f32) (r : Fin 256) (l : Fin 1024) :
    k0_pay12 x b (ix2 r l) = Ideal.logistic (x (ix2 r l) + b (ix2 0 l)) := by
  pointwise [k0_pay12]
  rw [half_word, Cert.Sigmoid.tanh_form]
theorem pay14_at (x : Vec Ideal S256x1024 .bf16) (b : Vec Ideal S1x1024 .f32) (r : Fin 256) (l : Fin 1024) :
    k0_pay14 (k0_pay13 x) b (ix2 r l) = Ideal.logistic (x (ix2 r l) + b (ix2 0 l)) := by
  pointwise [k0_pay14, k0_pay13]
  rw [half_word, Cert.Sigmoid.tanh_form]
theorem pay15_at (a s : Vec Ideal S256x1024 .f32) (r : Fin 256) (l : Fin 1024) :
    Eq (α := EReal) (k0_pay15 (F := Ideal) a s (ix2 r l)) (a (ix2 r l) * s (ix2 r l)) := by
  pointwise [k0_pay15]
theorem pay16_at (a v : Vec Ideal S256x1024 .f32) (b : Vec Ideal S1x1024 .f32) (r : Fin 256) (l : Fin 1024) :
    Eq (α := EReal) (k0_pay16 (F := Ideal) a v b (ix2 r l)) (a (ix2 r l) * k0_pay14 v b (ix2 r l)) := by
  pointwise [k0_pay16]
theorem pay17_at (a s : Vec Ideal S256x1024 .f32) (y : Vec Ideal S256x1024 .bf16) (r : Fin 256) (l : Fin 1024) :
    k0_pay17 a s y (ix2 r l) = a (ix2 r l) * y (ix2 r l) * s (ix2 r l) * (1 - s (ix2 r l)) := by
  pointwise [k0_pay17]
theorem pay18_at (a v : Vec Ideal S256x1024 .f32) (b : Vec Ideal S1x1024 .f32) (y : Vec Ideal S256x1024 .bf16) (r : Fin 256) (l : Fin 1024) :
    k0_pay18 a v b y (ix2 r l) = a (ix2 r l) * y (ix2 r l) * k0_pay14 v b (ix2 r l) * (1 - k0_pay14 v b (ix2 r l)) := by
  pointwise [k0_pay18]
theorem pay1_at (g : Vec Ideal S256x1024 .f32) (a : Vec Ideal S1x1024 .f32) (z : Fin 1) (l : Fin 1024) :
    k0_pay1 g a (ix2 z l) = a (ix2 z l) + ∑ r : Fin 256, g (ix2 r l) := by
  pointwise [k0_pay1]
theorem pay2_at (g : Vec Ideal S256x1024 .f32) (a : Vec Ideal S1x1024 .f32) (z : Fin 1) (l : Fin 1024) :
    k0_pay2 g a (ix2 z l) = a (ix2 z l) + ∑ r : Fin 256, g (ix2 r l) := by
  pointwise [k0_pay2]
theorem pay3_at (a : Vec Ideal S1024x2048 .f32) (h : Vec Ideal S256x1024 .bf16) (g : Vec Ideal S256x2048 .bf16) (d : Fin 1024) (l : Fin 2048) :
    k0_pay3 a h g (ix2 d l) = a (ix2 d l) + ∑ r : Fin 256, h (ix2 r d) * g (ix2 r l) := by
  pointwise [k0_pay3]
theorem pay10_at (x : Vec Ideal S256x1024 .f32) (a : Vec Ideal S1024x1024 .f32) (g : Vec Ideal S256x1024 .bf16) (d : Fin 1024) (l : Fin 1024) :
    k0_pay10 x a g (ix2 d l) = a (ix2 d l) + ∑ r : Fin 256, g (ix2 r d) * x (ix2 r l) := by
  pointwise [k0_pay10, k0_pay9]

/-! ## The same at a grid point, over the reference's stages -/

variable (m : (ℓ : Loc nD τ sig) → Buf (Elt Ideal) ℓ) (c : Dev nD)

theorem ref17 (r : Fin 8192) (l : Fin 1024) :
    val_main_v17 (F := Ideal) (aH1 m c) (aWin m c) (aBg m c) (ix2 r l) =
      Ideal.logistic (val_main_v0 (F := Ideal) (aH1 m c) (aWin m c) (ix2 r ⟨4096 + l.val, by omega⟩) + aBg m c (ix2 0 l)) := by
  pointwise [val_main_v17, val_main_v15, val_main_v13, val_main_v12, val_main_v11, val_main_v5, val_main_v10, val_main_v9,
    val_main_v8, val_main_v7, val_main_v14, val_main_v16, val_main_cst, val_main_cst_0]
  rfl
theorem ref41 (r : Fin 8192) (l : Fin 1024) :
    val_main_v41 (F := Ideal) (aWmix m c) (aDx m c) (ix2 r l) = ∑ k : Fin 1024, aDx m c (ix2 r k) * aWmix m c (ix2 l k) := by
  pointwise [val_main_v41]

/-- The cotangent of the merged branches. -/
theorem dm_point (t : Fin cfg0.N) (r : Fin 256) (l : Fin 1024) : k0_pay11 (iblk m c 0 t) (iblk m c 8 t) (ix2 r l)
    = val_main_v41 (F := Ideal) (aWmix m c) (aDx m c) (ix2 (row t r) l) := by
  rw [ref41]
  refine (pay11_at _ _ r l).trans (Finset.sum_congr rfl fun k _ => ?_)
  exact Ideal.mul_congr (blk0 m c t r k) (blk8 m c t l k)

theorem ref32 (r : Fin 8192) (l : Fin 1024) :
    val_main_v32 (F := Ideal) (aH1 m c) (aWin m c) (aBg m c) (ix2 r l) =
      Ideal.logistic (val_main_v0 (F := Ideal) (aH1 m c) (aWin m c) (ix2 r ⟨5120 + l.val, by omega⟩) + aBg m c (ix2 1 l)) := by
  pointwise [val_main_v32, val_main_v30, val_main_v28, val_main_v27, val_main_v26, val_main_v6, val_main_v25, val_main_v24,
    val_main_v23, val_main_v22, val_main_v29, val_main_v31, val_main_cst_2, val_main_cst_3]
  rfl

/-- The gate of the convolution's branch, read from the point's column block and the first bias row. -/
theorem sa_point (t : Fin cfg0.N) (b : Vec Ideal S1x1024 .f32) (hb : ∀ l : Fin 1024, b (ix2 0 l) = aBg m c (ix2 0 l))
    (r : Fin 256) (l : Fin 1024) : k0_pay12 (iblk m c 1 t) b (ix2 r l)
    = val_main_v17 (F := Ideal) (aH1 m c) (aWin m c) (aBg m c) (ix2 (row t r) l) := by
  rw [ref17]
  refine (pay12_at _ _ r l).trans (congrArg Ideal.logistic ?_)
  exact Ideal.add_congr (blk1 m c t r l) (hb l)
/-- The gate of the spatial branch. -/
theorem sb_point (t : Fin cfg0.N) (b : Vec Ideal S1x1024 .f32) (hb : ∀ l : Fin 1024, b (ix2 0 l) = aBg m c (ix2 1 l))
    (r : Fin 256) (l : Fin 1024) : k0_pay14 (k0_pay13 (iblk m c 2 t)) b (ix2 r l)
    = val_main_v32 (F := Ideal) (aH1 m c) (aWin m c) (aBg m c) (ix2 (row t r) l) := by
  rw [ref32]
  refine (pay14_at _ _ r l).trans (congrArg Ideal.logistic ?_)
  exact Ideal.add_congr (blk2 m c t r l) (hb l)

/-- The two gradients of the branches' outputs and the two of the gates' arguments, at point `t` the rows `256 t …` of the
    reference's stages. -/
theorem dya_point (t : Fin cfg0.N) (b : Vec Ideal S1x1024 .f32) (hb : ∀ l : Fin 1024, b (ix2 0 l) = aBg m c (ix2 0 l))
    (r : Fin 256) (l : Fin 1024) :
    Eq (α := EReal) (k0_pay15 (F := Ideal) (k0_pay11 (iblk m c 0 t) (iblk m c 8 t)) (k0_pay12 (iblk m c 1 t) b) (ix2 r l))
      (val_main_v50 (F := Ideal) (aH1 m c) (aWin m c) (aBg m c) (aWmix m c) (aDx m c) (ix2 (row t r) l)) := by
  rw [pay15_at, dm_point, sa_point m c t b hb, mul_comm]
  rfl
theorem dyb_point (t : Fin cfg0.N) (b : Vec Ideal S1x1024 .f32) (hb : ∀ l : Fin 1024, b (ix2 0 l) = aBg m c (ix2 1 l))
    (r : Fin 256) (l : Fin 1024) :
    Eq (α := EReal) (k0_pay16 (F := Ideal) (k0_pay11 (iblk m c 0 t) (iblk m c 8 t)) (k0_pay13 (iblk m c 2 t)) b (ix2 r l))
      (val_main_v42 (F := Ideal) (aH1 m c) (aWin m c) (aBg m c) (aWmix m c) (aDx m c) (ix2 (row t r) l)) := by
  rw [pay16_at, dm_point, sb_point m c t b hb, mul_comm]
  rfl
theorem dga_point (t : Fin cfg0.N) (b : Vec Ideal S1x1024 .f32) (hb : ∀ l : Fin 1024, b (ix2 0 l) = aBg m c (ix2 0 l))
    (r : Fin 256) (l : Fin 1024) :
    k0_pay17 (F := Ideal) (k0_pay11 (iblk m c 0 t) (iblk m c 8 t)) (k0_pay12 (iblk m c 1 t) b) (iblk m c 3 t) (ix2 r l)
      = val_main_v52 (F := Ideal) (aH1 m c) (aWin m c) (aBg m c) (aYa m c) (aWmix m c) (aDx m c) (ix2 (row t r) l) := by
  refine (pay17_at _ _ _ r l).trans ?_
  rw [dm_point, sa_point m c t b hb, blk3, mul_assoc]
  pointwise [val_main_v52, val_main_v51, val_main_v20, val_main_v19, val_main_v18, val_main_cst_1]
theorem dgb_point (t : Fin cfg0.N) (b : Vec Ideal S1x1024 .f32) (hb : ∀ l : Fin 1024, b (ix2 0 l) = aBg m c (ix2 1 l))
    (r : Fin 256) (l : Fin 1024) :
    k0_pay18 (F := Ideal) (k0_pay11 (iblk m c 0 t) (iblk m c 8 t)) (k0_pay13 (iblk m c 2 t)) b (iblk m c 4 t) (ix2 r l)
      = val_main_v44 (F := Ideal) (aH1 m c) (aWin m c) (aBg m c) (aYb m c) (aWmix m c) (aDx m c) (ix2 (row t r) l) := by
  refine (pay18_at _ _ _ _ r l).trans ?_
  rw [dm_point, sb_point m c t b hb, blk4, mul_assoc]
  pointwise [val_main_v44, val_main_v43, val_main_v35, val_main_v34, val_main_v33, val_main_cst_4]

/-- The rows of the gate bias that the body loads. -/
theorem bg0 (t : Fin cfg0.N) (l : Fin 1024) :
    View.ld (iblk m c 7 t) (Rect.unit ![0, 0] ![1, 1024] inb_S8x1024_S1x1024_0_0) (ix2 0 l) = aBg m c (ix2 0 l) := by
  refine Eq.trans ?_ (blk7 m c t 0 0 l rfl)
  pointwise
theorem bg1 (t : Fin cfg0.N) (l : Fin 1024) :
    View.ld (iblk m c 7 t) (Rect.unit ![1, 0] ![1, 1024] inb_S8x1024_S1x1024_1_0) (ix2 0 l) = aBg m c (ix2 1 l) := by
  refine Eq.trans ?_ (blk7 m c t 1 1 l rfl)
  pointwise

end Cert.GatesKernel
end
-- ==== Proof.GatesState.lean ====
/- What the gate call's blocks and scratch hold after each grid point. -/
module

public import proofs.«01_k».proof.Proof.GatesPoint
public import proofs.«01_k».proof.Proof.Gen.KernelIdeal.Frame
public import Idealize.ShloMosaic.Lib.WritesUnit
public import Idealize.ShloMosaic.Lib.Pipeline.ReadBack

@[expose] public section
set_option maxRecDepth 16384
noncomputable section
namespace Cert.GatesKernel
open Cert.ReferenceIdeal.Read
open Cert.KernelIdeal Cert.KernelIdeal.Gen Idealize.ShloMosaic Idealize.ShloMosaic.TcCoe Idealize.SL.Sem

variable (m : (ℓ : Loc nD τ sig) → Buf (Elt Ideal) ℓ) (c : Dev nD)

/-- The gradient of the gates' arguments, both gates side by side. -/
def dgates (r : Fin 8192) (l : Fin 2048) : EReal :=
  if h : l.val < 1024 then
    val_main_v52 (F := Ideal) (aH1 m c) (aWin m c) (aBg m c) (aYa m c) (aWmix m c) (aDx m c) (ix2 r ⟨l.val, h⟩)
  else val_main_v44 (F := Ideal) (aH1 m c) (aWin m c) (aBg m c) (aYb m c) (aWmix m c) (aDx m c) (ix2 r ⟨l.val - 1024, by omega⟩)

theorem outs_dya (t : Fin cfg0.N) (r : Fin 256) (l : Fin 1024) :
    Eq (α := EReal) ((outsAt0 m c t.val t.isLt).2.1 (ix2 r l))
      (val_main_v50 (F := Ideal) (aH1 m c) (aWin m c) (aBg m c) (aWmix m c) (aDx m c) (ix2 (row t r) l)) := by
  by_cases h0 : t.val % 32 = 0
  · rw [outsAt0_A m c t h0 (by omega)]; frame_out; exact dya_point m c t _ (bg0 m c t) r l
  · by_cases h1 : t.val % 32 = 31
    · rw [outsAt0_C m c t h0 h1]; frame_out; exact dya_point m c t _ (bg0 m c t) r l
    · rw [outsAt0_B m c t h0 h1]; frame_out; exact dya_point m c t _ (bg0 m c t) r l
theorem outs_dyb (t : Fin cfg0.N) (r : Fin 256) (l : Fin 1024) :
    Eq (α := EReal) ((outsAt0 m c t.val t.isLt).2.2.1 (ix2 r l))
      (val_main_v42 (F := Ideal) (aH1 m c) (aWin m c) (aBg m c) (aWmix m c) (aDx m c) (ix2 (row t r) l)) := by
  by_cases h0 : t.val % 32 = 0
  · rw [outsAt0_A m c t h0 (by omega)]; frame_out; exact dyb_point m c t _ (bg1 m c t) r l
  · by_cases h1 : t.val % 32 = 31
    · rw [outsAt0_C m c t h0 h1]; frame_out; exact dyb_point m c t _ (bg1 m c t) r l
    · rw [outsAt0_B m c t h0 h1]; frame_out; exact dyb_point m c t _ (bg1 m c t) r l

theorem dgates_left (r : Fin 8192) (l : Fin 2048) (k : Fin 1024) (h : l.val = k.val) : dgates m c r l =
    val_main_v52 (F := Ideal) (aH1 m c) (aWin m c) (aBg m c) (aYa m c) (aWmix m c) (aDx m c) (ix2 r k) := by
  have hk := k.isLt
  unfold dgates
  rw [dif_pos (by omega)]
  exact congrArg _ (congrArg (ix2 r) (Fin.ext h))
theorem dgates_right (r : Fin 8192) (l : Fin 2048) (k : Fin 1024) (h : l.val = 1024 + k.val) : dgates m c r l =
    val_main_v44 (F := Ideal) (aH1 m c) (aWin m c) (aBg m c) (aYb m c) (aWmix m c) (aDx m c) (ix2 r k) := by
  unfold dgates
  rw [dif_neg (by omega)]
  exact congrArg _ (congrArg (ix2 r) (Fin.ext (by show l.val - 1024 = k.val; omega)))

theorem outs_dp (t : Fin cfg0.N) (r : Fin 256) (l : Fin 2048) :
    Eq (α := EReal) ((outsAt0 m c t.val t.isLt).1 (ix2 r l)) (dgates m c (row t r) l) := by
  by_cases h0 : t.val % 32 = 0
  on_goal 2 => by_cases h1 : t.val % 32 = 31
  on_goal 1 => rw [outsAt0_A m c t h0 (by omega)]
  on_goal 2 => rw [outsAt0_C m c t h0 h1]
  on_goal 3 => rw [outsAt0_B m c t h0 h1]
  all_goals
    frame_out
    canon_tiles x h
    · obtain ⟨r', k, rfl⟩ : ∃ (r' : Fin 256) (k : Fin 1024), x = ix2 r' k := ⟨x 0, x 1, by idx_vars x⟩
      obtain rfl : r = r' := Fin.ext h0
      refine (dgb_point m c t _ (bg1 m c t) r k).trans (dgates_right m c (row t r) l k h1).symm
    · obtain ⟨r', k, rfl⟩ : ∃ (r' : Fin 256) (k : Fin 1024), x = ix2 r' k := ⟨x 0, x 1, by idx_vars x⟩
      obtain rfl : r = r' := Fin.ext h0
      refine (dga_point m c t _ (bg0 m c t) r k).trans (dgates_left m c (row t r) l k h1).symm

/-- What point `t` adds to the gradient of `w_mix_out`, to that of `w_in`, and to the two rows of the gate bias. -/
def dwmPart (t : Fin cfg0.N) (p : Fin 1024 × Fin 1024) : EReal := ∑ r : Fin 256,
  val_main_v37 (F := Ideal) (aH1 m c) (aWin m c) (aBg m c) (aYa m c) (aYb m c) (ix2 (row t r) p.1) * aDx m c (ix2 (row t r) p.2)
def dwinPart (t : Fin cfg0.N) (p : Fin 1024 × Fin 2048) : EReal := ∑ r : Fin 256, aH1 m c (ix2 (row t r) p.1) * dgates m c (row t r) p.2
def dbgPart (t : Fin cfg0.N) (p : Fin 8 × Fin 1024) : EReal :=
  if p.1.val = 0 then ∑ r : Fin 256, val_main_v52 (F := Ideal) (aH1 m c) (aWin m c) (aBg m c) (aYa m c) (aWmix m c) (aDx m c) (ix2 (row t r) p.2)
  else if p.1.val = 1 then
    ∑ r : Fin 256, val_main_v44 (F := Ideal) (aH1 m c) (aWin m c) (aBg m c) (aYb m c) (aWmix m c) (aDx m c) (ix2 (row t r) p.2)
  else 0

theorem dwm_pay (t : Fin cfg0.N) (a : Vec Ideal S1024x1024 .f32) (p : Fin 1024 × Fin 1024) :
    k0_pay10 (F := Ideal) (iblk m c 0 t) a (iblk m c 5 t) (ix2 p.1 p.2) = a (ix2 p.1 p.2) + dwmPart m c t p := by
  refine (pay10_at _ _ _ p.1 p.2).trans (congrArg (_ + ·) (Finset.sum_congr rfl fun r _ => ?_))
  exact Ideal.mul_congr (blk5 m c t r p.1) (blk0 m c t r p.2)
theorem dwin_pay (t : Fin cfg0.N) (a : Vec Ideal S1024x2048 .f32) (g : Vec Ideal S256x2048 .bf16)
    (hg : ∀ (r : Fin 256) (l : Fin 2048), g (ix2 r l) = dgates m c (row t r) l) (p : Fin 1024 × Fin 2048) :
    k0_pay3 (F := Ideal) a (iblk m c 6 t) g (ix2 p.1 p.2) = a (ix2 p.1 p.2) + dwinPart m c t p := by
  refine (pay3_at _ _ _ p.1 p.2).trans (congrArg (_ + ·) (Finset.sum_congr rfl fun r _ => ?_))
  exact Ideal.mul_congr (blk6 m c t r p.1) (hg r p.2)

theorem outs_dwm_zero (t : Fin cfg0.N) (h0 : t.val % 32 = 0) (p : Fin 1024 × Fin 1024) :
    (outsAt0 m c t.val t.isLt).2.2.2.2.2.2.1 (ix2 p.1 p.2) = 0 + dwmPart m c t p := by
  rw [outsAt0_A m c t h0 (by omega)]; frame_out
  refine (dwm_pay m c t _ p).trans (congrArg (· + _) ?_)
  pointwise [k0_pay7]
theorem outs_dwm_step (t : Fin cfg0.N) (h0 : ¬ t.val % 32 = 0) (p : Fin 1024 × Fin 1024) :
    (outsAt0 m c t.val t.isLt).2.2.2.2.2.2.1 (ix2 p.1 p.2)
      = (outsAt0 m c (t.val - 1) (Nat.lt_of_le_of_lt (Nat.sub_le _ _) t.isLt)).2.2.2.2.2.2.1 (ix2 p.1 p.2) + dwmPart m c t p := by
  by_cases h1 : t.val % 32 = 31
  · rw [outsAt0_C m c t h0 h1]; frame_out; exact (dwm_pay m c t _ p).trans (congrArg (· + _) (congrFun ((Memref.isWhole_whole cc0_scratch0).read_unread _) _))
  · rw [outsAt0_B m c t h0 h1]; frame_out; exact (dwm_pay m c t _ p).trans (congrArg (· + _) (congrFun ((Memref.isWhole_whole cc0_scratch0).read_unread _) _))

theorem outs_dwin_zero (t : Fin cfg0.N) (h0 : t.val % 32 = 0) (p : Fin 1024 × Fin 2048) :
    (outsAt0 m c t.val t.isLt).2.2.2.2.2.2.2 (ix2 p.1 p.2) = 0 + dwinPart m c t p := by
  have hd := outs_dp m c t
  rw [outsAt0_A m c t h0 (by omega)] at hd ⊢
  revert hd
  frame_out
  intro hd
  refine (dwin_pay m c t _ _ (fun r l => ?_) p).trans (congrArg (· + _) ?_)
  · refine Eq.trans ?_ (hd r l)
    rw [View.readCov_eq_canon']
    pointwise
  · pointwise [k0_pay8]
theorem outs_dwin_step (t : Fin cfg0.N) (h0 : ¬ t.val % 32 = 0) (p : Fin 1024 × Fin 2048) :
    (outsAt0 m c t.val t.isLt).2.2.2.2.2.2.2 (ix2 p.1 p.2)
      = (outsAt0 m c (t.val - 1) (Nat.lt_of_le_of_lt (Nat.sub_le _ _) t.isLt)).2.2.2.2.2.2.2 (ix2 p.1 p.2) + dwinPart m c t p := by
  have hd := outs_dp m c t
  by_cases h1 : t.val % 32 = 31
  on_goal 1 => rw [outsAt0_C m c t h0 h1] at hd ⊢
  on_goal 2 => rw [outsAt0_B m c t h0 h1] at hd ⊢
  all_goals
    revert hd
    frame_out
    intro hd
    refine (dwin_pay m c t _ _ (fun r l => ?_) p).trans
      (congrArg (· + _) (congrFun ((Memref.isWhole_whole cc0_scratch1).read_unread _) _))
    refine Eq.trans ?_ (hd r l)
    rw [View.readCov_eq_canon']
    pointwise

/-- The rows of the gate bias's gradient: each of the two stores adds its own row; the other rows keep what they held. -/
theorem dbg_row0 (t : Fin cfg0.N) (a : Vec Ideal S1x1024 .f32) (l : Fin 1024) :
    k0_pay1 (k0_pay17 (k0_pay11 (iblk m c 0 t) (iblk m c 8 t)) (k0_pay12 (iblk m c 1 t)
      (View.ld (iblk m c 7 t) (Rect.unit ![0, 0] ![1, 1024] inb_S8x1024_S1x1024_0_0))) (iblk m c 3 t)) a (ix2 0 l)
      = a (ix2 0 l) + dbgPart m c t (0, l) := by
  refine (pay1_at _ _ 0 l).trans (congrArg (_ + ·) ?_)
  rw [dbgPart, if_pos (show ((0 : Fin 8), l).1.val = 0 from rfl)]
  exact Finset.sum_congr rfl fun r _ => dga_point m c t _ (bg0 m c t) r l
theorem dbg_row1 (t : Fin cfg0.N) (a : Vec Ideal S1x1024 .f32) (l : Fin 1024) :
    k0_pay2 (k0_pay18 (k0_pay11 (iblk m c 0 t) (iblk m c 8 t)) (k0_pay13 (iblk m c 2 t))
      (View.ld (iblk m c 7 t) (Rect.unit ![1, 0] ![1, 1024] inb_S8x1024_S1x1024_1_0)) (iblk m c 4 t)) a (ix2 0 l)
      = a (ix2 0 l) + dbgPart m c t (1, l) := by
  refine (pay2_at _ _ 0 l).trans (congrArg (_ + ·) ?_)
  rw [dbgPart, if_neg (show ¬ ((1 : Fin 8), l).1.val = 0 from (by decide : ¬ (1 : Fin 8).val = 0)), if_pos (show ((1 : Fin 8), l).1.val = 1 from rfl)]
  exact Finset.sum_congr rfl fun r _ => dgb_point m c t _ (bg1 m c t) r l
theorem dbg_rest (t : Fin cfg0.N) (d : Fin 8) (l : Fin 1024) (h0 : ¬ d.val = 0) (h1 : ¬ d.val = 1) : dbgPart m c t (d, l) = 0 := by
  rw [dbgPart, if_neg h0, if_neg h1]

/-- A buffer of eight rows whose last two stores are rows 0 and 1: row 1 holds the newest, row 0 the one before, the rest is as it was. -/
theorem two_rows {κ : Kind} {sp : Space} (v : View sig κ sp S8x1024 .f32) (f : v.ty.Contents (Elt Ideal)) (w1 w0 : Vec Ideal S1x1024 .f32)
    (L : List (Σ r : Rect S8x1024, (r.shape.Idx → Elt Ideal .f32))) (d : Fin 8) (l : Fin 1024) :
    v.read (Elt Ideal) (v.writes (Elt Ideal) f (⟨Rect.unit ![1, 0] ![1, 1024] inb_S8x1024_S1x1024_1_0, w1⟩ ::
        ⟨Rect.unit ![0, 0] ![1, 1024] inb_S8x1024_S1x1024_0_0, w0⟩ :: L)) (ix2 d l)
      = if d = 1 then w1 (ix2 0 l) else if d = 0 then w0 (ix2 0 l) else v.read (Elt Ideal) (v.writes (Elt Ideal) f L) (ix2 d l) := by
  by_cases e1 : d = 1
  · subst e1
    rw [if_pos rfl]
    exact View.read_writes_cons_rows_of_mem v f inb_S8x1024_S1x1024_1_0 w1 _ (ix2 1 l) (ix2 0 l) rfl rfl rfl
  have n1 : ¬ d.val = 1 := fun h => e1 (Fin.ext h)
  rw [if_neg e1]
  refine (View.read_writes_cons_rows_of_not_mem (o := 1) (W := 1) v f inb_S8x1024_S1x1024_1_0 w1 _ (ix2 d l) rfl rfl
    (by show d.val < 1 ∨ 1 + 1 ≤ d.val; omega)).trans ?_
  by_cases e0 : d = 0
  · subst e0
    rw [if_pos rfl]
    exact View.read_writes_cons_rows_of_mem v f inb_S8x1024_S1x1024_0_0 w0 _ (ix2 0 l) (ix2 0 l) rfl rfl rfl
  have n0 : ¬ d.val = 0 := fun h => e0 (Fin.ext h)
  rw [if_neg e0]
  exact View.read_writes_cons_rows_of_not_mem (o := 0) (W := 1) v f inb_S8x1024_S1x1024_0_0 w0 _ (ix2 d l) rfl rfl
    (by show d.val < 0 ∨ 0 + 1 ≤ d.val; omega)

theorem outs_dbg_step (t : Fin cfg0.N) (h0 : ¬ t.val % 32 = 0) (p : Fin 8 × Fin 1024) :
    (outsAt0 m c t.val t.isLt).2.2.2.1 (ix2 p.1 p.2)
      = (outsAt0 m c (t.val - 1) (Nat.lt_of_le_of_lt (Nat.sub_le _ _) t.isLt)).2.2.2.1 (ix2 p.1 p.2) + dbgPart m c t p := by
  obtain ⟨d, l⟩ := p
  by_cases h1 : t.val % 32 = 31
  on_goal 1 => rw [outsAt0_C m c t h0 h1]
  on_goal 2 => rw [outsAt0_B m c t h0 h1]
  all_goals
    frame_out
    refine (two_rows _ _ _ _ _ d l).trans ?_
    by_cases e1 : d = 1
    · subst e1
      rw [if_pos rfl]
      refine (dbg_row1 m c t _ l).trans (congrArg (· + _) ?_)
      pointwise
    rw [if_neg e1]
    by_cases e0 : d = 0
    · subst e0
      rw [if_pos rfl]
      refine (dbg_row0 m c t _ l).trans (congrArg (· + _) ?_)
      pointwise
    rw [if_neg e0, View.writes_nil, Memref.IsWhole.read_unread,
      dbg_rest m c t d l (fun h => e0 (Fin.ext h)) (fun h => e1 (Fin.ext h)), add_zero]

theorem outs_dbg_zero (t : Fin cfg0.N) (h0 : t.val % 32 = 0) (p : Fin 8 × Fin 1024) :
    (outsAt0 m c t.val t.isLt).2.2.2.1 (ix2 p.1 p.2) = 0 + dbgPart m c t p := by
  obtain ⟨d, l⟩ := p
  rw [outsAt0_A m c t h0 (by omega)]; frame_out
  rw [← View.read_writes_junk_apply_eq_canon (ms0_12 t).view]
  refine (two_rows _ _ _ _ _ d l).trans ?_
  by_cases e1 : d = 1
  · subst e1
    rw [if_pos rfl]
    refine (dbg_row1 m c t _ l).trans (congrArg (· + _) ?_)
    rw [View.readCov_skip _ _ _ _ _ (by decide), View.readCov_fill _ _ _ _ _ (by decide)]
    pointwise [k0_pay6]
  rw [if_neg e1]
  by_cases e0 : d = 0
  · subst e0
    rw [if_pos rfl]
    refine (dbg_row0 m c t _ l).trans (congrArg (· + _) ?_)
    rw [View.readCov_fill _ _ _ _ _ (by decide)]
    pointwise [k0_pay6]
  rw [if_neg e0, dbg_rest m c t d l (fun h => e0 (Fin.ext h)) (fun h => e1 (Fin.ext h)), add_zero,
    View.read_writes_junk_apply_eq_canon, View.canon_unit_zero (by funext a; fin_cases a <;> rfl)]
  pointwise [k0_pay6]

/-! ## After the last point: the sums over all points -/

theorem dwm_last (t : Fin cfg0.N) (ht : t.val + 1 = cfg0.N) (d l : Fin 1024) :
    Eq (α := EReal) ((outsAt0 m c t.val t.isLt).2.2.2.2.1 (ix2 d l)) (∑ p : Fin cfg0.N, dwmPart m c p (d, l)) := by
  have e := Pipeline.eq_sum_fin_of_reset_step_apply_last (fun n h (p : Fin 1024 × Fin 1024) => (outsAt0 m c n h).2.2.2.2.2.2.1 (ix2 p.1 p.2))
    32 (fun _ => (0 : EReal)) (dwmPart m c) (outs_dwm_zero m c) (outs_dwm_step m c) (le_of_eq N_0) t ht (d, l)
  rw [zero_add] at e
  refine Eq.trans ?_ e
  dsimp only
  have ht' : t.val + 1 = 32 := ht.trans N_0
  rw [outsAt0_C m c t (by omega) (by omega)]; frame_out
  pointwise [k0_pay4]
theorem dwin_last (t : Fin cfg0.N) (ht : t.val + 1 = cfg0.N) (d : Fin 1024) (l : Fin 2048) :
    Eq (α := EReal) ((outsAt0 m c t.val t.isLt).2.2.2.2.2.1 (ix2 d l)) (∑ p : Fin cfg0.N, dwinPart m c p (d, l)) := by
  have e := Pipeline.eq_sum_fin_of_reset_step_apply_last (fun n h (p : Fin 1024 × Fin 2048) => (outsAt0 m c n h).2.2.2.2.2.2.2 (ix2 p.1 p.2))
    32 (fun _ => (0 : EReal)) (dwinPart m c) (outs_dwin_zero m c) (outs_dwin_step m c) (le_of_eq N_0) t ht (d, l)
  rw [zero_add] at e
  refine Eq.trans ?_ e
  dsimp only
  have ht' : t.val + 1 = 32 := ht.trans N_0
  rw [outsAt0_C m c t (by omega) (by omega)]; frame_out
  pointwise [k0_pay5]
theorem dbg_last (t : Fin cfg0.N) (ht : t.val + 1 = cfg0.N) (d : Fin 8) (l : Fin 1024) :
    (outsAt0 m c t.val t.isLt).2.2.2.1 (ix2 d l) = ∑ p : Fin cfg0.N, dbgPart m c p (d, l) := by
  have e := Pipeline.eq_sum_fin_of_reset_step_apply_last (fun n h (p : Fin 8 × Fin 1024) => (outsAt0 m c n h).2.2.2.1 (ix2 p.1 p.2))
    32 (fun _ => (0 : EReal)) (dbgPart m c) (outs_dbg_zero m c) (outs_dbg_step m c) (le_of_eq N_0) t ht (d, l)
  rwa [zero_add] at e
end Cert.GatesKernel
end
-- ==== Proof.GatesArray.lean ====
/- The arrays the gate call leaves, against the reference's results. -/
module

public import proofs.«01_k».proof.Proof.GatesState
public import proofs.«01_k».proof.Proof.Gen.KernelIdeal.Value
public import proofs.«01_k».proof.Proof.Gen.On_gate_columns

@[expose] public section
set_option maxRecDepth 16384
noncomputable section
namespace Cert.GatesKernel
open Cert.ReferenceIdeal.Read
open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- Every row of the token arrays lies in one block. -/
theorem row_of (r : Fin 8192) : ∃ (t : Fin cfg0.N) (s : Fin 256), r = row t s := by
  have hr := r.isLt
  refine ⟨⟨r.val / 256, lt_of_lt_of_eq (by omega : r.val / 256 < 32) N_0.symm⟩, ⟨r.val % 256, by omega⟩, Fin.ext ?_⟩
  show r.val = 256 * (r.val / 256) + r.val % 256
  omega

/-- An index is known from its two coordinates. -/
theorem ix2_ext {n k : Nat} (i : (⟨2, ![n, k]⟩ : Shape).Idx) (a : Fin n) (b : Fin k) (h0 : (i 0).val = a.val) (h1 : (i 1).val = b.val) :
    i = ix2 a b := by
  funext x
  match x with
  | ⟨0, _⟩ => exact Fin.ext h0
  | ⟨1, _⟩ => exact Fin.ext h1

/-- The sums over the blocks and the rows of a block are the sum over all rows. -/
theorem sum_rows (f : Fin 8192 → EReal) : ∑ p : Fin cfg0.N, ∑ r : Fin 256, f (row p r) = ∑ r : Fin 8192, f r := by
  rw [Fin.sum_univ_tiles 32 256 rfl f]
  refine Fintype.sum_equiv (finCongr N_0) _ _ fun p => Finset.sum_congr rfl fun r _ => congrArg f (Fin.ext ?_)
  show 256 * p.val + r.val = p.val * 256 + r.val
  omega

/-! ## The arrays written one block at each point -/

theorem arr_dya (i : S8192x1024.Idx) : Eq (α := EReal) (G10 m c i)
    (val_main_v67 (F := Ideal) (aH1 m c) (aWin m c) (aBg m c) (aWmix m c) (aDx m c) i) := by
  obtain ⟨r, l, rfl⟩ : ∃ (r : Fin 8192) (l : Fin 1024), i = ix2 r l := ⟨i 0, i 1, by idx_vars i⟩
  obtain ⟨t, s, rfl⟩ := row_of r
  have hs := s.isLt
  have hl := l.isLt
  have e : pt10Of (ix2 (row t s) l) = t.val := by
    show 1 * ((256 * t.val + s.val) / 256 - 0) + 1 * (l.val / 1024 - 0) = t.val
    omega
  have hb : loc10Of (ix2 (row t s) l) = ix2 s l := ix2_ext _ s l
    (by show (256 * t.val + s.val) % 256 = s.val; omega) (by show l.val % 1024 = l.val; omega)
  refine Eq.trans ?_ (outs_dya m c t s l)
  unfold G10
  rw [dif_pos (lt_of_eq_of_lt e t.isLt), hb, outsAt0_sweep]
  exact congrFun (congrArg (fun s => s.2.1) (fold0_congr m c _ _ _ _ e)) _

theorem arr_dyb (i : S8192x1024.Idx) : Eq (α := EReal) (G11 m c i)
    (val_main_v68 (F := Ideal) (aH1 m c) (aWin m c) (aBg m c) (aWmix m c) (aDx m c) i) := by
  obtain ⟨r, l, rfl⟩ : ∃ (r : Fin 8192) (l : Fin 1024), i = ix2 r l := ⟨i 0, i 1, by idx_vars i⟩
  obtain ⟨t, s, rfl⟩ := row_of r
  have hs := s.isLt
  have hl := l.isLt
  have e : pt11Of (ix2 (row t s) l) = t.val := by
    show 1 * ((256 * t.val + s.val) / 256 - 0) + 1 * (l.val / 1024 - 0) = t.val
    omega
  have hb : loc11Of (ix2 (row t s) l) = ix2 s l := ix2_ext _ s l
    (by show (256 * t.val + s.val) % 256 = s.val; omega) (by show l.val % 1024 = l.val; omega)
  refine Eq.trans ?_ (outs_dyb m c t s l)
  unfold G11
  rw [dif_pos (lt_of_eq_of_lt e t.isLt), hb, outsAt0_sweep]
  exact congrFun (congrArg (fun s => s.2.2.1) (fold0_congr m c _ _ _ _ e)) _

/-- The reference's gradient of the projection, at the gates' columns. -/
theorem ref_dp (r : Fin 8192) (l : Fin 2048) (k : Fin 6144) (hk : k.val = 4096 + l.val) :
    Eq (α := EReal) (val_main_v63 (F := Ideal) (aH1 m c) (aWin m c) (aBg m c) (aYa m c) (aYb m c) (aWmix m c) (aDx m c) (ix2 r k))
      (dgates m c r l) := by
  have hl := l.isLt
  unfold dgates
  split
  · pointwise [val_main_v63]
    rw [dif_neg (by omega), dif_neg (by omega), dif_neg (by omega), dif_neg (by omega), dif_pos (by omega)]
    exact congrArg _ (congrArg (ix2 r) (Fin.ext (by show k.val - 1024 - 1024 - 1024 - 1024 = l.val; omega)))
  · pointwise [val_main_v63]
    rw [dif_neg (by omega), dif_neg (by omega), dif_neg (by omega), dif_neg (by omega), dif_neg (by omega)]
    exact congrArg _ (congrArg (ix2 r) (Fin.ext (by show k.val - 1024 - 1024 - 1024 - 1024 - 1024 = l.val - 1024; omega)))

theorem arr_dp (i : S8192x6144.Idx) (hi : 4096 ≤ (i 1).val) : Eq (α := EReal) (G9 m c i)
    (val_main_v66 (F := Ideal) (aH1 m c) (aWin m c) (aBg m c) (aYa m c) (aYb m c) (aWmix m c) (aDx m c) i) := by
  obtain ⟨r, k, rfl⟩ : ∃ (r : Fin 8192) (k : Fin 6144), i = ix2 r k := ⟨i 0, i 1, by idx_vars i⟩
  obtain ⟨t, s, rfl⟩ := row_of r
  have hi' : 4096 ≤ k.val := hi
  have hs := s.isLt
  have hk := k.isLt
  have e : pt9Of (ix2 (row t s) k) = t.val := by
    show 1 * ((256 * t.val + s.val) / 256 - 0) + 1 * (k.val / 2048 - 2) = t.val
    omega
  have hb : loc9Of (ix2 (row t s) k) = ix2 s ⟨k.val - 4096, by omega⟩ := ix2_ext _ _ _
    (by show (256 * t.val + s.val) % 256 = s.val; omega) (by show k.val % 2048 = k.val - 4096; omega)
  refine Eq.trans ?_ ((outs_dp m c t s ⟨k.val - 4096, by omega⟩).trans (ref_dp m c _ _ k (by show k.val = 4096 + (k.val - 4096); omega)).symm)
  unfold G9
  rw [dif_pos (lt_of_eq_of_lt e t.isLt), hb, outsAt0_sweep]
  exact congrFun (congrArg (fun s => s.1) (fold0_congr m c _ _ _ _ e)) _

/-! ## The accumulated arrays -/

/-- The last grid point. -/
def last : Fin cfg0.N := ⟨31, lt_of_lt_of_eq (by decide) N_0.symm⟩
theorem last_succ : last.val + 1 = cfg0.N := N_0.symm

theorem arr_dwm (i : S1024x1024.Idx) : Eq (α := EReal) (G13 m c i)
    (val_main_v70 (F := Ideal) (aH1 m c) (aWin m c) (aBg m c) (aYa m c) (aYb m c) (aDx m c) i) := by
  obtain ⟨d, l, rfl⟩ : ∃ (d : Fin 1024) (l : Fin 1024), i = ix2 d l := ⟨i 0, i 1, by idx_vars i⟩
  have e := dwm_last m c last last_succ d l
  rw [outsAt0_sweep] at e
  refine (congrFun (G13_last m c) _).trans
    ((congrFun (congrArg (fun s => s.2.2.2.2.1) (fold0_congr m c _ _ _ _ (rfl : 31 = last.val))) _).trans (e.trans ?_))
  refine (sum_rows (fun r => val_main_v37 (F := Ideal) (aH1 m c) (aWin m c) (aBg m c) (aYa m c) (aYb m c) (ix2 r d)
    * aDx m c (ix2 r l))).trans ?_
  refine Eq.symm ?_
  pointwise [val_main_v70, val_main_v40, val_main_v39]
  exact Finset.sum_congr rfl fun r _ => mul_comm _ _

theorem arr_dwin (i : S1024x6144.Idx) (hi : 4096 ≤ (i 1).val) : Eq (α := EReal) (G14 m c i)
    (val_main_v71 (F := Ideal) (aH1 m c) (aWin m c) (aBg m c) (aYa m c) (aYb m c) (aWmix m c) (aDx m c) i) := by
  obtain ⟨d, k, rfl⟩ : ∃ (d : Fin 1024) (k : Fin 6144), i = ix2 d k := ⟨i 0, i 1, by idx_vars i⟩
  have hi' : 4096 ≤ k.val := hi
  have hd := d.isLt
  have hk := k.isLt
  have e : pt14Of (ix2 d k) = last.val := by
    show 32 * (1 * (d.val / 1024 - 0) + 1 * (k.val / 2048 - 2)) + 31 = 31
    omega
  have hb : loc14Of (ix2 d k) = ix2 d ⟨k.val - 4096, by omega⟩ := ix2_ext _ _ _
    (by show d.val % 1024 = d.val; omega) (by show k.val % 2048 = k.val - 4096; omega)
  have s := dwin_last m c last last_succ d ⟨k.val - 4096, by omega⟩
  rw [outsAt0_sweep] at s
  unfold G14
  rw [dif_pos (lt_of_eq_of_lt e last.isLt), hb]
  refine (congrFun (congrArg (fun s => s.2.2.2.2.2.1) (fold0_congr m c _ _ _ _ e)) _).trans (s.trans ?_)
  unfold dwinPart
  refine (sum_rows (fun r => aH1 m c (ix2 r d) * dgates m c r ⟨k.val - 4096, by omega⟩)).trans ?_
  refine Eq.symm ?_
  pointwise [val_main_v71, val_main_v65, val_main_v64]
  exact Finset.sum_congr rfl fun r _ => (congrArg (· * _) (ref_dp m c r ⟨k.val - 4096, by omega⟩ k
    (by show k.val = 4096 + (k.val - 4096); omega))).trans (mul_comm _ _)

theorem arr_dbg (i : S8x1024.Idx) : Eq (α := EReal) (G12 m c i)
    (val_main_v69 (F := Ideal) (aH1 m c) (aWin m c) (aBg m c) (aYa m c) (aYb m c) (aWmix m c) (aDx m c) i) := by
  obtain ⟨d, l, rfl⟩ : ∃ (d : Fin 8) (l : Fin 1024), i = ix2 d l := ⟨i 0, i 1, by idx_vars i⟩
  have e := dbg_last m c last last_succ d l
  rw [outsAt0_sweep] at e
  refine (congrFun (G12_last m c) _).trans
    ((congrFun (congrArg (fun s => s.2.2.2.1) (fold0_congr m c _ _ _ _ (rfl : 31 = last.val))) _).trans (e.trans ?_))
  refine Eq.symm ?_
  pointwise [val_main_v69, val_main_v58, val_main_v49, val_main_v57, val_main_v48, val_main_v56, val_main_v47, val_main_v55,
    val_main_v46, val_main_v54, val_main_v45, val_main_v53, val_main_cst_5, val_main_cst_6, val_main_cst_7, val_main_cst_8,
    val_main_cst_9, val_main_cst_10, val_main_call0_v0, val_main_c]
  by_cases h0 : d.val = 0
  · refine Eq.trans ?_ ((Finset.sum_congr rfl fun t _ => if_pos h0).trans
      (sum_rows (fun r => val_main_v52 (F := Ideal) (aH1 m c) (aWin m c) (aBg m c) (aYa m c) (aWmix m c) (aDx m c) (ix2 r l)))).symm
    simp [h0]
  by_cases h1 : d.val = 1
  · refine Eq.trans ?_ ((Finset.sum_congr rfl fun t _ => (if_neg h0).trans (if_pos h1)).trans
      (sum_rows (fun r => val_main_v44 (F := Ideal) (aH1 m c) (aWin m c) (aBg m c) (aYb m c) (aWmix m c) (aDx m c) (ix2 r l)))).symm
    simp [h1]
  · refine Eq.trans ?_ (Finset.sum_eq_zero fun t _ => dbg_rest m c t d l h0 h1).symm
    simp only [show ¬ d.val < 2 by omega, dif_neg, not_false_eq_true]
    show (((0#32).toInt : ℝ) : EReal) = 0
    simp

/-! ## The columns the claim is read at -/

theorem mask_dp (x0 x1 x2 x3 x4 x5 x6) (i : S8192x6144.Idx) (h : (Cert.On_gate_columns.fn (F := Ideal) x0 x1 x2 x3 x4 x5 x6).1 i = 1#1) :
    4096 ≤ (i 1).val := by
  obtain ⟨d, k, rfl⟩ : ∃ (d : Fin 8192) (k : Fin 6144), i = ix2 d k := ⟨i 0, i 1, by idx_vars i⟩
  revert h
  pointwise [Cert.On_gate_columns.fn]
  intro h
  have hk := k.isLt
  rw [WordCmp.cmpi_sge_ofNat (w := 32) (a := k.val) (b := 4096) (by norm_num; omega) (by norm_num)] at h
  by_contra hc
  simp [hc] at h

theorem mask_dwin (x0 x1 x2 x3 x4 x5 x6) (i : S1024x6144.Idx)
    (h : (Cert.On_gate_columns.fn (F := Ideal) x0 x1 x2 x3 x4 x5 x6).2.2.2.2.2 i = 1#1) : 4096 ≤ (i 1).val := by
  obtain ⟨d, k, rfl⟩ : ∃ (d : Fin 1024) (k : Fin 6144), i = ix2 d k := ⟨i 0, i 1, by idx_vars i⟩
  revert h
  pointwise [Cert.On_gate_columns.fn]
  intro h
  have hk := k.isLt
  rw [WordCmp.cmpi_sge_ofNat (w := 32) (a := k.val) (b := 4096) (by norm_num; omega) (by norm_num)] at h
  by_contra hc
  simp [hc] at h
end Cert.GatesKernel
end
-- ==== Proof.Gates.lean ====
/- The claims about the gate call, assembled. -/
module

public import proofs.«01_k».proof.Defs
public import proofs.«01_k».proof.Proof.GatesArray
public import proofs.«01_k».proof.Proof.Gen.Kernel
public import proofs.«01_k».proof.Proof.Gen.ReferenceIdeal.Run

@[expose] public section
set_option maxRecDepth 16384
noncomputable section
namespace Cert.GatesKernel
open Idealize.ShloMosaic Idealize.ShloMosaic.TcCoe Idealize.SL.Sem

/-- The two programs have one text, so at the bits they are one program. -/
theorem defs_eq : Cert.Kernel.defs (F := Bits) = Cert.KernelIdeal.defs (F := Bits) := by sl_kernel_rfl
theorem main_eq : Cert.Kernel.main (F := Bits) = Cert.KernelIdeal.main (F := Bits) := by sl_kernel_rfl

/-- The run of the ideal program holds over any floats: at the bits it is the run of the program itself. -/
theorem frame_bits : Cert.quiescent_Kernel := fun m ρ _ => by
  rw [defs_eq, main_eq]
  exact Cert.KernelIdeal.Gen.frame (F := Bits) m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2.2,
    Idealize.ShloMosaic.sem_eq_zero_of_no_sems (by decide) r.2⟩) (Cert.ReferenceIdeal.Value.run m ρ)

theorem equal : Cert.algebraic_KernelIdeal_ReferenceIdeal_on_gate_columns := fun m ρ m' ρ' _ hin => by
  refine ⟨fun c => Cert.ReferenceIdeal.Read.val_main_v66 (F := Ideal) (aH1 m c) (aWin m c) (aBg m c) (aYa m c) (aYb m c) (aWmix m c) (aDx m c),
    fun c => Cert.ReferenceIdeal.Read.val_main_v67 (F := Ideal) (aH1 m c) (aWin m c) (aBg m c) (aWmix m c) (aDx m c),
    fun c => Cert.ReferenceIdeal.Read.val_main_v68 (F := Ideal) (aH1 m c) (aWin m c) (aBg m c) (aWmix m c) (aDx m c),
    fun c => Cert.ReferenceIdeal.Read.val_main_v69 (F := Ideal) (aH1 m c) (aWin m c) (aBg m c) (aYa m c) (aYb m c) (aWmix m c) (aDx m c),
    fun c => Cert.ReferenceIdeal.Read.val_main_v70 (F := Ideal) (aH1 m c) (aWin m c) (aBg m c) (aYa m c) (aYb m c) (aDx m c),
    fun c => Cert.ReferenceIdeal.Read.val_main_v71 (F := Ideal) (aH1 m c) (aWin m c) (aBg m c) (aYa m c) (aYb m c) (aWmix m c) (aDx m c), ?_, ?_⟩
  · refine (θ_run Cert.KernelIdeal.defs _ _).mono (fun r h c => ?_) (Cert.KernelIdeal.Value.run m ρ)
    obtain ⟨h0, h1, h2, h3, h4, h5, hargs⟩ := h c
    refine ⟨fun i hi => ?_, fun i _ => (congrFun h1 i).trans (arr_dya m c i), fun i _ => (congrFun h2 i).trans (arr_dyb m c i),
      fun i _ => (congrFun h3 i).trans (arr_dbg m c i), fun i _ => (congrFun h4 i).trans (arr_dwm m c i), fun i hi => ?_, hargs⟩
    · have hc := mask_dp _ _ _ _ _ _ _ i hi
      exact (congrFun h0 i).trans ((if_pos ⟨Nat.zero_le _, (i 0).isLt, hc, (i 1).isLt⟩).trans (arr_dp m c i hc))
    · have hc := mask_dwin _ _ _ _ _ _ _ i hi
      exact (congrFun h5 i).trans ((if_pos ⟨Nat.zero_le _, (i 0).isLt, hc, (i 1).isLt⟩).trans (arr_dwin m c i hc))
  · refine (θ_run Cert.ReferenceIdeal.defs _ _).mono (fun r h c => ?_) (Cert.ReferenceIdeal.Value.run m' ρ')
    obtain ⟨h0, h1, h2, h3, h4, h5, hargs⟩ := h c
    obtain ⟨a0, a1, a2, a3, a4, a5, a6⟩ := hin c
    refine ⟨fun i _ => congrFun (h0.trans ((Cert.ReferenceIdeal.Read.val_main_v66_eq m' c).trans ?_)) i,
      fun i _ => congrFun (h1.trans ((Cert.ReferenceIdeal.Read.val_main_v67_eq _ _ _ _ _).trans ?_)) i,
      fun i _ => congrFun (h2.trans ((Cert.ReferenceIdeal.Read.val_main_v68_eq _ _ _ _ _).trans ?_)) i,
      fun i _ => congrFun (h3.trans ((Cert.ReferenceIdeal.Read.val_main_v69_eq m' c).trans ?_)) i,
      fun i _ => congrFun (h4.trans ((Cert.ReferenceIdeal.Read.val_main_v70_eq _ _ _ _ _ _).trans ?_)) i,
      fun i _ => congrFun (h5.trans ((Cert.ReferenceIdeal.Read.val_main_v71_eq m' c).trans ?_)) i, hargs⟩ <;>
    simp only [a0, a1, a2, a3, a4, a5, a6] <;> rfl
end Cert.GatesKernel
end
-- ==== Proof.Finite.lean ====
/- An entry whose absolute value compares below the format's infinity is a real number. -/
module

public import Idealize.ShloMosaic.Lib.IdealHost

@[expose] public section
noncomputable section
namespace Cert.RealArrays
open Idealize.ShloMosaic

theorem top_word : Ideal.ofBits .f32 0x7F800000#32 = (⊤ : EReal) := by
  simp [Ideal.ofBits, Ideal.ieee, -EReal.coe_mul]

theorem real_of_abs (x : EReal) (h : Ideal.cmp .olt (max x (-x)) (Ideal.ofBits .f32 0x7F800000#32) = 1#1) : (x.toReal : EReal) = x := by
  rw [top_word] at h
  refine EReal.coe_toReal ?_ ?_ <;> rintro rfl <;> revert h <;> simp [Ideal.cmp]
end Cert.RealArrays
end
-- ==== Proof.RealSoftmax.lean ====
/- Sums, maxima, quotients and the softmax of finite extended reals, read over the reals. -/
module

public import Idealize.ShloMosaic.PureOps.Ideal
public import Mathlib.Data.EReal.Inv
public import Mathlib.Analysis.SpecialFunctions.Exp
public import Mathlib.Tactic.Ring

@[expose] public section
noncomputable section
namespace Cert.RealSoftmax
open Idealize.ShloMosaic

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe (a b : ℝ) (h : b ≠ 0) : Ideal.div (a : EReal) (b : EReal) = ((a / b : ℝ) : EReal) := by
  have h' : ¬ (b : EReal) = 0 := fun e => h (EReal.coe_eq_zero.mp e)
  rw [Ideal.div, if_neg h', ← EReal.coe_inv, ← EReal.coe_mul, div_eq_mul_inv]

/-- The maximum of finitely many reals, started at minus infinity, is a real. -/
theorem max_coe {ι : Type*} [Fintype ι] [Nonempty ι] (f : ι → ℝ) :
    ∃ M : ℝ, Finset.univ.fold max (⊥ : EReal) (fun i => ((f i : ℝ) : EReal)) = (M : EReal) := by
  classical
  have key : ∀ s : Finset ι, s.Nonempty → ∃ M : ℝ, s.fold max (⊥ : EReal) (fun i => ((f i : ℝ) : EReal)) = (M : EReal) := by
    intro s hs
    induction hs using Finset.Nonempty.cons_induction with
    | singleton a => exact ⟨f a, by simp⟩
    | cons a s h _ ih =>
      obtain ⟨M, hM⟩ := ih
      refine ⟨max (f a) M, ?_⟩
      rw [Finset.fold_cons, hM]
      exact (EReal.coe_strictMono.monotone.map_max).symm
  exact key _ Finset.univ_nonempty

/-- The softmax of a row. -/
def soft {n : Nat} (s : Fin n → ℝ) (j : Fin n) : ℝ := Real.exp (s j) / ∑ i : Fin n, Real.exp (s i)

theorem sum_exp_pos {n : Nat} (s : Fin (n + 1) → ℝ) : 0 < ∑ i, Real.exp (s i) :=
  Finset.sum_pos (fun i _ => Real.exp_pos _) Finset.univ_nonempty

/-- The scores may be shifted by any constant. -/
theorem soft_shift {n : Nat} (s : Fin (n + 1) → ℝ) (M : ℝ) (j : Fin (n + 1)) :
    Real.exp (s j - M) / ∑ i, Real.exp (s i - M) = soft s j := by
  have e : ∀ i, Real.exp (s i - M) = Real.exp (-M) * Real.exp (s i) := fun i => by rw [← Real.exp_add]; congr 1; ring
  simp only [e, ← Finset.mul_sum]
  rw [mul_div_mul_left _ _ (Real.exp_ne_zero _), soft]

/-- The softmax as it is computed: each entry's exponential after the row's maximum is subtracted, over their sum. -/
theorem soft_row {n : Nat} (s : Fin (n + 1) → ℝ) (j : Fin (n + 1)) :
    Ideal.div (Ideal.exp ((s j : EReal) - Finset.univ.fold max ⊥ (fun i => (s i : EReal))))
      (∑ i, Ideal.exp ((s i : EReal) - Finset.univ.fold max ⊥ (fun i => (s i : EReal)))) = (soft s j : EReal) := by
  obtain ⟨M, hM⟩ := max_coe s
  simp only [hM, ← EReal.coe_sub, Ideal.exp_coe, sum_coe]
  rw [div_coe _ _ (sum_exp_pos (fun i => s i - M)).ne', soft_shift]

end Cert.RealSoftmax
end
-- ==== Proof.RealNorm.lean ====
/- A row's normalisation and the gradient of its argument, in the form a kernel computes and in the form the chain rule gives
   through the row's variance and mean. -/
module

public import proofs.«01_k».proof.Proof.RealSoftmax
public import Idealize.ShloMosaic.PureOps.Ideal.Laws

@[expose] public section
noncomputable section
namespace Cert.RealNorm
open Idealize.ShloMosaic Cert.RealSoftmax

theorem width_word : Ideal.ofBits .f32 0x44800000#32 = ((1024 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem neg_half_word : Ideal.ofBits .f32 0xBF000000#32 = ((-(1 / 2) : ℝ) : EReal) := by
  simp [Ideal.ofBits, Ideal.ieee, -EReal.coe_mul]; norm_num
/-- The constant the variance is kept from zero by: the format's nearest to one hundred-thousandth. -/
def eps : ℝ := 10995116 / 2 ^ 40
theorem eps_word : Ideal.ofBits .f32 0x3727C5AC#32 = (eps : EReal) := by
  simp [Ideal.ofBits, Ideal.ieee, -EReal.coe_mul, eps]; norm_num
theorem eps_pos : 0 < eps := by unfold eps; norm_num

/-- A quotient by the width of a row. -/
theorem div_width (a : ℝ) : Ideal.div (a : EReal) (Ideal.ofBits .f32 0x44800000#32) = ((a / 1024 : ℝ) : EReal) := by
  rw [width_word, div_coe _ _ (by norm_num)]

/-! ## A row of real numbers -/

namespace Row
variable (x d : Fin 1024 → ℝ) (j : Fin 1024)

def dev : ℝ := x j - (∑ k, x k) / 1024
def var : ℝ := (∑ k, dev x k * dev x k) / 1024
def rstd : ℝ := (√(var x + eps))⁻¹

theorem var_nonneg : 0 ≤ var x := div_nonneg (Finset.sum_nonneg fun k _ => mul_self_nonneg _) (by norm_num)
theorem var_eps_pos : 0 < var x + eps := add_pos_of_nonneg_of_pos (var_nonneg x) eps_pos
theorem rstd_sq : rstd x * rstd x = (var x + eps)⁻¹ := by
  rw [rstd, ← mul_inv, Real.mul_self_sqrt (var_eps_pos x).le]
theorem sum_dev : ∑ k, dev x k = 0 := by
  simp only [dev, Finset.sum_sub_distrib, Finset.sum_const, Finset.card_univ, Fintype.card_fin, nsmul_eq_mul]
  push_cast
  ring

theorem dev_coe : (x j : EReal) - Ideal.div (∑ k, (x k : EReal)) (Ideal.ofBits .f32 0x44800000#32) = (dev x j : EReal) := by
  rw [sum_coe, div_width, ← EReal.coe_sub, dev]
theorem var_coe : Ideal.div (∑ k, (dev x k : EReal) * (dev x k : EReal)) (Ideal.ofBits .f32 0x44800000#32)
    + Ideal.ofBits .f32 0x3727C5AC#32 = ((var x + eps : ℝ) : EReal) := by
  simp only [← EReal.coe_mul, sum_coe, div_width, eps_word, ← EReal.coe_add, var]
theorem rstd_coe : Ideal.rsqrt ((var x + eps : ℝ) : EReal) = (rstd x : EReal) := by
  rw [Ideal.rsqrt_coe, if_neg (var_eps_pos x).not_gt, if_neg (var_eps_pos x).ne', rstd]

/-- The gradient of the variance, per entry of the row. -/
def dvar : ℝ := (∑ k, dev x k * d k) * (-(1 / 2) * (rstd x / (var x + eps))) / 1024

/-- The gradient of the row's argument as the chain rule gives it, and in one formula. -/
theorem chain_rule : d j * rstd x + dvar x d * (2 * dev x j)
    + (∑ k, -(d k * rstd x) + ∑ k, -(dvar x d * (2 * dev x k))) / 1024
    = rstd x * (d j - (∑ k, d k) / 1024 - dev x j * rstd x * ((∑ k, d k * (dev x k * rstd x)) / 1024)) := by
  have e1 : ∑ k, -(d k * rstd x) = -((∑ k, d k) * rstd x) := by rw [Finset.sum_neg_distrib, Finset.sum_mul]
  have e2 : ∑ k, -(dvar x d * (2 * dev x k)) = 0 := by
    rw [Finset.sum_neg_distrib, ← Finset.mul_sum, ← Finset.mul_sum, sum_dev, mul_zero, mul_zero, neg_zero]
  have e3 : ∑ k, d k * (dev x k * rstd x) = (∑ k, dev x k * d k) * rstd x := by
    rw [Finset.sum_mul]
    exact Finset.sum_congr rfl fun k _ => by ring
  rw [e1, e2, e3, dvar, div_eq_mul_inv (rstd x), ← rstd_sq]
  ring
end Row

/-! ## Any row: where an entry is infinite, the deviation is infinite and its reciprocal zero -/

variable (x : Fin 1024 → EReal) (d : Fin 1024 → ℝ) (j : Fin 1024)

def dev : EReal := x j - Ideal.div (∑ k, x k) (Ideal.ofBits .f32 0x44800000#32)
def var : EReal := Ideal.div (∑ k, dev x k * dev x k) (Ideal.ofBits .f32 0x44800000#32) + Ideal.ofBits .f32 0x3727C5AC#32
def rstd : ℝ := (Ideal.rsqrt (var x)).toReal
def hat : ℝ := (dev x j).toReal * rstd x
/-- The gradient of the row, from the gradient `d` of its normalised entries. -/
def dnorm : ℝ := rstd x * (d j - (∑ k, d k) / 1024 - hat x j * ((∑ k, d k * hat x k) / 1024))

theorem dev_real (f : Fin 1024 → ℝ) : dev (fun k => (f k : EReal)) j = (Row.dev f j : EReal) := Row.dev_coe f j
theorem var_real (f : Fin 1024 → ℝ) : var (fun k => (f k : EReal)) = ((Row.var f + eps : ℝ) : EReal) := by
  simp only [var, dev_real]
  exact Row.var_coe f
theorem rstd_real (f : Fin 1024 → ℝ) : rstd (fun k => (f k : EReal)) = Row.rstd f := by
  rw [rstd, var_real, Row.rstd_coe, EReal.toReal_coe]

theorem width_top : Ideal.div ⊤ (Ideal.ofBits .f32 0x44800000#32) = ⊤ := by
  rw [width_word, Ideal.div, if_neg (by norm_num), ← EReal.coe_inv]
  exact EReal.top_mul_coe_of_pos (by norm_num)
theorem width_bot : Ideal.div ⊥ (Ideal.ofBits .f32 0x44800000#32) = ⊥ := by
  rw [width_word, Ideal.div, if_neg (by norm_num), ← EReal.coe_inv]
  exact EReal.bot_mul_coe_of_pos (by norm_num)
theorem mul_self_nonneg' (y : EReal) : 0 ≤ y * y := by
  induction y with
  | bot => simp
  | top => simp
  | coe r => rw [← EReal.coe_mul]; exact EReal.coe_nonneg.mpr (mul_self_nonneg r)

theorem dev_infinite {k : Fin 1024} (h : x k = ⊤ ∨ x k = ⊥) : dev x k = ⊤ ∨ dev x k = ⊥ := by
  have e := (Finset.add_sum_erase Finset.univ x (Finset.mem_univ k)).symm
  rw [dev, e]
  rcases h with h | h
  · by_cases hr : ∑ i ∈ Finset.univ.erase k, x i = ⊥
    · rw [h, hr, EReal.add_bot, width_bot]; exact Or.inl rfl
    · rw [h, EReal.top_add_of_ne_bot hr, width_top]; exact Or.inr rfl
  · rw [h, EReal.bot_add, width_bot]; exact Or.inr rfl

theorem var_infinite {k : Fin 1024} (h : x k = ⊤ ∨ x k = ⊥) : var x = ⊤ := by
  have e := (Finset.add_sum_erase Finset.univ (fun i => dev x i * dev x i) (Finset.mem_univ k)).symm
  have hs : dev x k * dev x k = ⊤ := by rcases dev_infinite x h with h | h <;> rw [h] <;> rfl
  have hr : ∑ i ∈ Finset.univ.erase k, dev x i * dev x i ≠ ⊥ := fun h =>
    absurd (Finset.sum_nonneg fun i (_ : i ∈ Finset.univ.erase k) => mul_self_nonneg' (dev x i)) (by rw [h]; simp)
  rw [var, e, hs, EReal.top_add_of_ne_bot hr, width_top, eps_word, EReal.top_add_coe]

/-- A row is real, or its variance is infinite. -/
theorem row_cases : (∃ f : Fin 1024 → ℝ, x = fun k => (f k : EReal)) ∨ (var x = ⊤ ∧ rstd x = 0) := by
  by_cases h : ∃ k, x k = ⊤ ∨ x k = ⊥
  · obtain ⟨k, hk⟩ := h
    exact Or.inr ⟨var_infinite x hk, by rw [rstd, var_infinite x hk]; rfl⟩
  · simp only [not_exists, not_or] at h
    exact Or.inl ⟨fun k => (x k).toReal, funext fun k => (EReal.coe_toReal (h k).1 (h k).2).symm⟩

theorem rstd_coe : Ideal.rsqrt (var x) = (rstd x : EReal) := by
  rcases row_cases x with ⟨f, rfl⟩ | ⟨h, h'⟩
  · rw [rstd_real, var_real, Row.rstd_coe]
  · rw [h, h']; rfl
theorem hat_coe : dev x j * (rstd x : EReal) = (hat x j : EReal) := by
  rcases row_cases x with ⟨f, rfl⟩ | ⟨_, h⟩
  · rw [hat, dev_real, EReal.toReal_coe, EReal.coe_mul]
  · rw [hat, h, EReal.coe_zero, mul_zero, mul_zero, EReal.coe_zero]

/-- The gradient as a kernel computes it. -/
theorem dnorm_coe : (rstd x : EReal) * ((d j : EReal) - Ideal.div (∑ k, (d k : EReal)) (Ideal.ofBits .f32 0x44800000#32)
    - (hat x j : EReal) * Ideal.div (∑ k, (d k : EReal) * (hat x k : EReal)) (Ideal.ofBits .f32 0x44800000#32)) = (dnorm x d j : EReal) := by
  simp only [← EReal.coe_mul, sum_coe, div_width, ← EReal.coe_sub, dnorm]

/-- The gradient of the variance, per entry of the row. -/
def dvar : EReal := Ideal.div ((∑ k, dev x k * (d k : EReal)) * (Ideal.ofBits .f32 0xBF000000#32 * Ideal.div (rstd x : EReal) (var x)))
  (Ideal.ofBits .f32 0x44800000#32)

/-- The gradient as the chain rule gives it. -/
theorem chain_rule : (d j : EReal) * (rstd x : EReal) + dvar x d * (Ideal.ofBits .f32 0x40000000#32 * dev x j)
    + Ideal.div (∑ k, -((d k : EReal) * (rstd x : EReal)) + ∑ k, -(dvar x d * (Ideal.ofBits .f32 0x40000000#32 * dev x k)))
      (Ideal.ofBits .f32 0x44800000#32) = (dnorm x d j : EReal) := by
  rcases row_cases x with ⟨f, rfl⟩ | ⟨h, h'⟩
  · have e : dvar (fun k => (f k : EReal)) d = (Row.dvar f d : EReal) := by
      simp only [dvar, dev_real, var_real, rstd_real, neg_half_word, div_coe _ _ (Row.var_eps_pos f).ne', ← EReal.coe_mul, sum_coe,
        div_width, Row.dvar]
    simp only [e, dev_real, rstd_real, two_word, ← EReal.coe_mul, ← EReal.coe_neg, sum_coe, ← EReal.coe_add, div_width, dnorm, hat,
      EReal.toReal_coe]
    exact congrArg _ (Row.chain_rule f d j)
  · have z : Ideal.div 0 (Ideal.ofBits .f32 0x44800000#32) = 0 := by
      rw [← EReal.coe_zero, div_width, zero_div]
    have e : dvar x d = 0 := by
      have q : Ideal.div 0 (⊤ : EReal) = 0 := by simp [Ideal.div]
      rw [dvar, h, h', EReal.coe_zero, q, mul_zero, mul_zero, z]
    simp only [e, h', EReal.coe_zero, mul_zero, zero_mul, neg_zero, Finset.sum_const_zero, add_zero, z, dnorm]

/-! ## The activation `a ↦ a · logistic a` -/

/-- Its derivative, a real number at the infinities too. -/
def slope (a : EReal) : ℝ := (Ideal.logistic a * (((1 : ℝ) : EReal) + a * (((1 : ℝ) : EReal) - Ideal.logistic a))).toReal
theorem logistic_top : Ideal.logistic ⊤ = ((1 : ℝ) : EReal) := by
  have e : Ideal.exp (-⊤) = 0 := rfl
  simp [Ideal.logistic, e, Ideal.div]
theorem logistic_bot : Ideal.logistic ⊥ = ((0 : ℝ) : EReal) := by
  have e : Ideal.exp (-⊥) = ⊤ := rfl
  have h : (1 : EReal) + ⊤ = ⊤ := EReal.top_add_coe 1 ▸ add_comm _ _
  simp [Ideal.logistic, e, h, Ideal.div]
theorem one_sub_one : ((1 : ℝ) : EReal) - ((1 : ℝ) : EReal) = 0 := by
  rw [← EReal.coe_sub, sub_self, EReal.coe_zero]
/-- A gradient through it, in the form a kernel computes and in the form the product's rule gives. -/
theorem slope_product (u : ℝ) (a : EReal) : (u : EReal) * (Ideal.logistic a * (((1 : ℝ) : EReal) + a * (((1 : ℝ) : EReal) - Ideal.logistic a)))
    = ((u * slope a : ℝ) : EReal) := by
  induction a with
  | bot => simp [slope, logistic_bot]
  | top => rw [slope, logistic_top, one_sub_one]; simp
  | coe r => simp only [slope, Ideal.logistic_coe, ← EReal.coe_sub, ← EReal.coe_mul, ← EReal.coe_add, EReal.toReal_coe]
theorem slope_sum (u : ℝ) (a : EReal) : (u : EReal) * Ideal.logistic a
    + a * (u : EReal) * (Ideal.logistic a * (((1 : ℝ) : EReal) - Ideal.logistic a)) = ((u * slope a : ℝ) : EReal) := by
  induction a with
  | bot => simp [slope, logistic_bot]
  | top => rw [slope, logistic_top, one_sub_one]; simp
  | coe r =>
    simp only [slope, Ideal.logistic_coe, ← EReal.coe_sub, ← EReal.coe_mul, ← EReal.coe_add, EReal.toReal_coe]
    exact congrArg _ (by ring)
end Cert.RealNorm
end
-- ==== Proof.RmsNorm.lean ====
/- A row divided by its root mean square, and the gradient of its argument, in the form a kernel computes and in the form the
   chain rule gives: the two agree at the infinities too. -/
module

public import proofs.«01_k».proof.Proof.RealNorm

@[expose] public section
noncomputable section
namespace Cert.RmsNorm
open Idealize.ShloMosaic Cert.RealSoftmax Cert.RealNorm

/-- The constant the mean square is kept from zero by: the format's nearest to one millionth. -/
def eps : ℝ := 8796093 / 2 ^ 43
theorem eps_word : Ideal.ofBits .f32 0x358637BD#32 = (eps : EReal) := by
  simp [Ideal.ofBits, Ideal.ieee, -EReal.coe_mul, eps]; norm_num
theorem eps_pos : 0 < eps := by unfold eps; norm_num

/-- A quotient by the width of a row is a product. -/
theorem div_width_mul (a : EReal) : Ideal.div a (Ideal.ofBits .f32 0x44800000#32) = a * ((1024⁻¹ : ℝ) : EReal) := by
  rw [width_word, Ideal.div, if_neg (by norm_num), ← EReal.coe_inv]

/-- A nonnegative real number is a factor of a sum's terms. -/
theorem sum_mul_real {ι : Type} (s : Finset ι) (f : ι → EReal) {a : ℝ} (ha : 0 ≤ a) :
    ∑ k ∈ s, f k * (a : EReal) = (∑ k ∈ s, f k) * (a : EReal) := by
  classical
  induction s using Finset.induction_on with
  | empty => simp
  | insert k s hk ih =>
    rw [Finset.sum_insert hk, Finset.sum_insert hk, ih,
      EReal.right_distrib_of_nonneg_of_ne_top (EReal.coe_nonneg.mpr ha) (EReal.coe_ne_top a)]
theorem add_self_real (y : EReal) (a : ℝ) : y * (a : EReal) + y * (a : EReal) = y * ((a * 2 : ℝ) : EReal) := by
  have h : ∀ z : EReal, z + z = z * ((2 : ℝ) : EReal) := fun z => by
    induction z with
    | bot => rw [EReal.bot_mul_coe_of_pos (by norm_num)]; rfl
    | top => rw [EReal.top_mul_coe_of_pos (by norm_num)]; rfl
    | coe r => rw [← EReal.coe_add, ← EReal.coe_mul]; exact congrArg _ (by ring)
  rw [h, mul_assoc, ← EReal.coe_mul]

variable (x d : Fin 1024 → EReal) (j : Fin 1024)

def ms : EReal := Ideal.div (∑ k, x k * x k) (Ideal.ofBits .f32 0x44800000#32) + Ideal.ofBits .f32 0x358637BD#32
def rms : ℝ := (Ideal.rsqrt (ms x)).toReal
/-- The gradient of the row, from the gradient `d` of its normalised entries. -/
def dnorm : EReal := (rms x : EReal) * (d j - x j * (rms x : EReal)
  * Ideal.div (∑ k, d k * (x k * (rms x : EReal))) (Ideal.ofBits .f32 0x44800000#32))

theorem ms_real (f : Fin 1024 → ℝ) : ms (fun k => (f k : EReal)) = (((∑ k, f k * f k) / 1024 + eps : ℝ) : EReal) := by
  simp only [ms, ← EReal.coe_mul, sum_coe, div_width, eps_word, ← EReal.coe_add]
theorem ms_pos (f : Fin 1024 → ℝ) : 0 < (∑ k, f k * f k) / 1024 + eps :=
  add_pos_of_nonneg_of_pos (div_nonneg (Finset.sum_nonneg fun k _ => mul_self_nonneg _) (by norm_num)) eps_pos
theorem rms_real (f : Fin 1024 → ℝ) : rms (fun k => (f k : EReal)) = (√((∑ k, f k * f k) / 1024 + eps))⁻¹ := by
  rw [rms, ms_real, Ideal.rsqrt_coe, if_neg (ms_pos f).not_gt, if_neg (ms_pos f).ne', EReal.toReal_coe]

theorem ms_infinite {k : Fin 1024} (h : x k = ⊤ ∨ x k = ⊥) : ms x = ⊤ := by
  have e := (Finset.add_sum_erase Finset.univ (fun i => x i * x i) (Finset.mem_univ k)).symm
  have hs : x k * x k = ⊤ := by rcases h with h | h <;> rw [h] <;> rfl
  have hr : ∑ i ∈ Finset.univ.erase k, x i * x i ≠ ⊥ := fun h =>
    absurd (Finset.sum_nonneg fun i (_ : i ∈ Finset.univ.erase k) => mul_self_nonneg' (x i)) (by rw [h]; simp)
  rw [ms, e, hs, EReal.top_add_of_ne_bot hr, width_top, eps_word, EReal.top_add_coe]

/-- A row is real, or its mean square is infinite. -/
theorem row_cases : (∃ f : Fin 1024 → ℝ, x = fun k => (f k : EReal)) ∨ (ms x = ⊤ ∧ rms x = 0) := by
  by_cases h : ∃ k, x k = ⊤ ∨ x k = ⊥
  · obtain ⟨k, hk⟩ := h
    exact Or.inr ⟨ms_infinite x hk, by rw [rms, ms_infinite x hk]; rfl⟩
  · simp only [not_exists, not_or] at h
    exact Or.inl ⟨fun k => (x k).toReal, funext fun k => (EReal.coe_toReal (h k).1 (h k).2).symm⟩

theorem rms_coe : Ideal.rsqrt (ms x) = (rms x : EReal) := by
  rcases row_cases x with ⟨f, rfl⟩ | ⟨h, h'⟩
  · rw [rms_real, ms_real, Ideal.rsqrt_coe, if_neg (ms_pos f).not_gt, if_neg (ms_pos f).ne']
  · rw [h, h']; rfl
/-- The normalised entries are real numbers. -/
theorem hat_real : ∃ a : ℝ, x j * (rms x : EReal) = (a : EReal) := by
  rcases row_cases x with ⟨f, rfl⟩ | ⟨_, h⟩
  · exact ⟨_, (EReal.coe_mul _ _).symm⟩
  · exact ⟨0, by rw [h, EReal.coe_zero, mul_zero]⟩

/-- The gradient of the mean square, per entry of the row. -/
def dms : EReal := Ideal.div ((∑ k, x k * d k) * (Ideal.ofBits .f32 0xBF000000#32 * Ideal.div (rms x : EReal) (ms x)))
  (Ideal.ofBits .f32 0x44800000#32)

/-- The gradient as the chain rule gives it. -/
theorem chain_rule : d j * (rms x : EReal) + (dms x d * x j + dms x d * x j) = dnorm x d j := by
  rcases row_cases x with ⟨f, rfl⟩ | ⟨h, h'⟩
  · obtain ⟨v, hv⟩ : ∃ v, v = (∑ k, f k * f k) / 1024 + eps := ⟨_, rfl⟩
    obtain ⟨ρ, hρ⟩ : ∃ ρ, ρ = (√v)⁻¹ := ⟨_, rfl⟩
    have v0 : 0 < v := hv ▸ ms_pos f
    have ρ0 : 0 ≤ ρ := hρ ▸ inv_nonneg.mpr (Real.sqrt_nonneg v)
    have ρv : ρ * ρ = v⁻¹ := by rw [hρ, ← mul_inv, Real.mul_self_sqrt v0.le]
    have e : ∀ k, d k * ((f k : EReal) * (ρ : EReal)) = (f k : EReal) * d k * (ρ : EReal) := fun k => by
      rw [← mul_assoc, mul_comm (d k)]
    rw [dnorm, dms, rms_real, ms_real, ← hv, ← hρ]
    simp only [e]
    rw [sum_mul_real _ _ ρ0, neg_half_word, div_coe _ _ v0.ne', div_width_mul, div_width_mul]
    generalize ∑ k, (f k : EReal) * d k = S
    have q : S * (((-(1 / 2) : ℝ) : EReal) * ((ρ / v : ℝ) : EReal)) * ((1024⁻¹ : ℝ) : EReal) * (f j : EReal)
        = S * ((-(1 / 2) * (ρ / v) * 1024⁻¹ * f j : ℝ) : EReal) := by
      simp only [EReal.coe_mul, mul_assoc]
    have p : (f j : EReal) * (ρ : EReal) * (S * (ρ : EReal) * ((1024⁻¹ : ℝ) : EReal)) = S * ((f j * ρ * ρ * 1024⁻¹ : ℝ) : EReal) := by
      rw [mul_comm, mul_assoc, mul_assoc, ← EReal.coe_mul, ← EReal.coe_mul, ← EReal.coe_mul]
      exact congrArg (S * ·) (congrArg _ (by ring))
    rw [q, p, add_self_real, sub_eq_add_neg, EReal.left_distrib_of_nonneg_of_ne_top (EReal.coe_nonneg.mpr ρ0) (EReal.coe_ne_top ρ),
      mul_comm (d j), ← mul_neg, ← EReal.coe_neg, mul_left_comm (ρ : EReal) S, ← EReal.coe_mul]
    refine congrArg ((ρ : EReal) * d j + S * ·) (congrArg _ ?_)
    rw [div_eq_mul_inv ρ, ← ρv]
    ring
  · have q : Ideal.div 0 (⊤ : EReal) = 0 := by simp [Ideal.div]
    rw [dnorm, dms, h, h', EReal.coe_zero, q]
    simp only [mul_zero, zero_mul, div_width_mul, add_zero]
end Cert.RmsNorm
end
-- ==== Proof.AttnPoint.lean ====
/- What one grid point of the attention's backward call computes for one head, where the queries and keys are real. -/
module

public import proofs.«01_k».proof.Proof.RmsNorm
public import proofs.«01_k».proof.Proof.Gen.AttnKernelIdeal.Skeleton
public import Idealize.ShloMosaic.Lib.Pointwise
public import Idealize.ShloMosaic.Lib.IdealHost

@[expose] public section
set_option maxRecDepth 16384
noncomputable section
namespace Cert.AttnKernel
open Cert.AttnKernelIdeal Cert.AttnKernelIdeal.Gen Idealize.ShloMosaic Idealize.ShloMosaic.TcCoe Idealize.SL.Sem
open Cert.RealSoftmax

/-! ## The gradient of a row's scores -/

/-- The gradient of the row's scores, from the gradient `d` of its softmax. -/
def dsoft {n : Nat} (s : Fin n → ℝ) (d : Fin n → EReal) (j : Fin n) : EReal :=
  (soft s j : EReal) * (d j - ∑ i : Fin n, d i * (soft s i : EReal))

/-- The gradient of the scores as the quotient rule gives it, for exponentials with sum `S`. -/
theorem quotient_rule {n : Nat} (s : Fin (n + 1) → ℝ) (d : Fin (n + 1) → EReal) (M S : ℝ) (hS : ∑ i, Real.exp (s i - M) = S)
    (j : Fin (n + 1)) :
    (Ideal.div (d j) (S : EReal) + -(∑ i, d i * ((1 / (S * S) : ℝ) : EReal) * (Real.exp (s i - M) : EReal))) * (Real.exp (s j - M) : EReal)
      = dsoft s d j := by
  have p : 0 < S := hS ▸ sum_exp_pos fun i => s i - M
  have hr : (0 : ℝ) ≤ S⁻¹ := (inv_pos.mpr p).le
  have e (i : Fin (n + 1)) : d i * ((1 / (S * S) : ℝ) : EReal) * (Real.exp (s i - M) : EReal)
      = d i * ((Real.exp (s i - M) / S : ℝ) : EReal) * ((S⁻¹ : ℝ) : EReal) := by
    rw [mul_assoc, mul_assoc, ← EReal.coe_mul, ← EReal.coe_mul]
    refine congrArg (d i * ·) (congrArg _ ?_)
    field_simp
  have q : Ideal.div (d j) (S : EReal) = d j * ((S⁻¹ : ℝ) : EReal) := by
    rw [Ideal.div, if_neg (fun h => p.ne' (EReal.coe_eq_zero.mp h)), ← EReal.coe_inv]
  simp only [e]
  rw [q, Cert.RmsNorm.sum_mul_real _ _ hr, dsoft, ← EReal.neg_mul,
    ← EReal.right_distrib_of_nonneg_of_ne_top (EReal.coe_nonneg.mpr hr) (EReal.coe_ne_top _), mul_assoc, ← EReal.coe_mul, mul_comm,
    sub_eq_add_neg (d j)]
  simp only [← soft_shift s M, hS]
  exact congrArg (· * _) (congrArg _ (by rw [div_eq_mul_inv, mul_comm]))

/-! ## One row of queries against one head's keys and values -/

/-- The scaled scores of a query against the keys. -/
def scores (q : Fin 256 → ℝ) (k : Fin 256 → Fin 256 → ℝ) (j : Fin 256) : ℝ := (∑ e : Fin 256, q e * k j e) * (1 / 16)
/-- The gradient of the probabilities: the output's gradient against the values. -/
def dprob (g : Fin 256 → EReal) (v : Fin 256 → Fin 256 → EReal) (j : Fin 256) : EReal := ∑ e : Fin 256, g e * v j e
/-- The gradient of the unscaled scores. -/
def dscore (q : Fin 256 → ℝ) (k : Fin 256 → Fin 256 → ℝ) (v : Fin 256 → Fin 256 → EReal) (g : Fin 256 → EReal) (j : Fin 256) : EReal :=
  dsoft (scores q k) (dprob g v) j * ((1 / 16 : ℝ) : EReal)

/-- The constants 1/16 and minus infinity. -/
theorem scale_word : Ideal.ofBits .f32 0x3D800000#32 = ((1 / 16 : ℝ) : EReal) := by
  simp [Ideal.ofBits, Ideal.ieee, -EReal.coe_mul]; norm_num
theorem bot_word : Ideal.ofBits .f32 0xFF800000#32 = (⊥ : EReal) := by
  simp [Ideal.ofBits, Ideal.ieee, -EReal.coe_mul]

variable {x g : Vec Ideal S1024x256 .bf16} {y w : Vec Ideal S256x256 .bf16} {q : Fin 1024 → Fin 256 → ℝ} {d : Fin 1024 → Fin 256 → EReal}
  {k : Fin 256 → Fin 256 → ℝ} {v : Fin 256 → Fin 256 → EReal}

/-- The probabilities. -/
theorem prob_at (hx : ∀ r e, x (ix2 r e) = (q r e : EReal)) (hy : ∀ j e, y (ix2 j e) = (k j e : EReal))
    (r : Fin 1024) (j : Fin 256) : k0_pay6 x y (ix2 r j) = (soft (scores (q r) k) j : EReal) := by
  have hs : ∀ j, (∑ e : Fin 256, x (ix2 r e) * y (ix2 j e)) * Ideal.ofBits .f32 0x3D800000#32 = ((scores (q r) k j : ℝ) : EReal) := by
    intro j
    simp only [hx, hy, scale_word, ← EReal.coe_mul, sum_coe, scores]
  rw [← soft_row]
  pointwise [k0_pay6, k0_pay3, k0_pay4]
  simp only [hs, bot_word]

theorem dscore_at (hx : ∀ r e, x (ix2 r e) = (q r e : EReal)) (hy : ∀ j e, y (ix2 j e) = (k j e : EReal))
    (hw : ∀ j e, w (ix2 j e) = v j e) (hg : ∀ r e, g (ix2 r e) = d r e) (r : Fin 1024) (j : Fin 256) :
    Eq (α := EReal) (k0_pay9 (F := Ideal) (k0_pay6 x y) (k0_pay8 x y w g) (ix2 r j)) (dscore (q r) k v (d r) j) := by
  pointwise [k0_pay9, k0_pay8, k0_pay5]
  simp only [prob_at hx hy, hw, hg, scale_word]
  rfl

/-- The gradient of the queries. -/
theorem dq_at (hx : ∀ r e, x (ix2 r e) = (q r e : EReal)) (hy : ∀ j e, y (ix2 j e) = (k j e : EReal))
    (hw : ∀ j e, w (ix2 j e) = v j e) (hg : ∀ r e, g (ix2 r e) = d r e) (r : Fin 1024) (e : Fin 256) :
    Eq (α := EReal) (k0_pay10 (F := Ideal) (k0_pay4 y) (k0_pay6 x y) (k0_pay8 x y w g) (ix2 r e))
      (∑ j : Fin 256, dscore (q r) k v (d r) j * (k j e : EReal)) := by
  pointwise [k0_pay10, k0_pay4]
  simp only [dscore_at hx hy hw hg, hy]

/-- What the point adds to the gradient of the keys and to that of the values. -/
theorem dk_at (hx : ∀ r e, x (ix2 r e) = (q r e : EReal)) (hy : ∀ j e, y (ix2 j e) = (k j e : EReal))
    (hw : ∀ j e, w (ix2 j e) = v j e) (hg : ∀ r e, g (ix2 r e) = d r e) (a : Vec Ideal S256x256 .f32) (j e : Fin 256) :
    k0_pay11 (F := Ideal) (k0_pay3 x) (k0_pay6 x y) (k0_pay8 x y w g) a (ix2 j e)
      = a (ix2 j e) + ∑ r : Fin 1024, dscore (q r) k v (d r) j * (q r e : EReal) := by
  pointwise [k0_pay11, k0_pay3]
  simp only [dscore_at hx hy hw hg, hx]
theorem dv_at (hx : ∀ r e, x (ix2 r e) = (q r e : EReal)) (hy : ∀ j e, y (ix2 j e) = (k j e : EReal))
    (hg : ∀ r e, g (ix2 r e) = d r e) (a : Vec Ideal S256x256 .f32) (j e : Fin 256) :
    k0_pay7 (F := Ideal) x y g a (ix2 j e) = a (ix2 j e) + ∑ r : Fin 1024, (soft (scores (q r) k) j : EReal) * d r e := by
  pointwise [k0_pay7, k0_pay5]
  simp only [prob_at hx hy, hg]

/-! ## The four heads' texts are the first head's -/

variable (x g : Vec Ideal S1024x256 .bf16) (y w : Vec Ideal S256x256 .bf16) (a : Vec Ideal S256x256 .f32)

theorem head1_dq : k0_pay19 (F := Ideal) (k0_pay13 y) (k0_pay15 x y) (k0_pay16 w g) = k0_pay10 (k0_pay4 y) (k0_pay6 x y) (k0_pay8 x y w g) := rfl
theorem head2_dq : k0_pay29 (F := Ideal) (k0_pay22 y) (k0_pay23 w) (k0_pay24 g) (k0_pay25 x y) = k0_pay10 (k0_pay4 y) (k0_pay6 x y) (k0_pay8 x y w g) := rfl
theorem head3_dq : k0_pay37 (F := Ideal) (k0_pay31 x) y w g = k0_pay10 (k0_pay4 y) (k0_pay6 x y) (k0_pay8 x y w g) := rfl
theorem head1_dv : k0_pay17 (F := Ideal) (k0_pay14 g) (k0_pay15 x y) a = k0_pay7 x y g a := rfl
theorem head2_dv : k0_pay27 (F := Ideal) (k0_pay24 g) (k0_pay25 x y) a = k0_pay7 x y g a := rfl
theorem head3_dv : k0_pay35 (F := Ideal) (k0_pay31 x) y g a = k0_pay7 x y g a := rfl
theorem head1_dk : k0_pay20 (F := Ideal) (k0_pay12 x) (k0_pay15 x y) (k0_pay16 w g) a = k0_pay11 (k0_pay3 x) (k0_pay6 x y) (k0_pay8 x y w g) a := rfl
theorem head2_dk : k0_pay30 (F := Ideal) (k0_pay21 x) (k0_pay23 w) (k0_pay24 g) (k0_pay25 x y) a = k0_pay11 (k0_pay3 x) (k0_pay6 x y) (k0_pay8 x y w g) a := rfl
theorem head3_dk : k0_pay1 (F := Ideal) (k0_pay31 x) (k0_pay36 (k0_pay31 x) y w g) a = k0_pay11 (k0_pay3 x) (k0_pay6 x y) (k0_pay8 x y w g) a := rfl
end Cert.AttnKernel
end
-- ==== Proof.AttnHost.lean ====
/- What the attention call's windows read: its arguments, the queries and keys over the reals, finite by the precondition. -/
module

public import proofs.«01_k».proof.Proof.AttnPoint
public import proofs.«01_k».proof.Proof.Gen.AttnKernelIdeal.Frame.Runs
public import Idealize.ShloMosaic.Lib.Pipeline.ValueKit

@[expose] public section
set_option maxRecDepth 16384
noncomputable section
namespace Cert.AttnKernel
open Cert.AttnKernelIdeal Cert.AttnKernelIdeal.Gen Idealize.ShloMosaic Idealize.ShloMosaic.TcCoe Idealize.SL.Sem
variable (m : (ℓ : Loc nD τ sig) → Buf (Elt Ideal) ℓ) (c : Dev nD)

abbrev aQ : Vec Ideal S8192x1024 .f32 := m ((c.tc : Thread nD τ).loc main_arg0)
abbrev aKV : Vec Ideal S1024x2048 .f32 := m ((c.tc : Thread nD τ).loc main_arg1)
abbrev aDo : Vec Ideal S8192x1024 .f32 := m ((c.tc : Thread nD τ).loc main_arg2)

/-- Column `e` of head `h`, among the queries' columns; its keys have the same columns, its values the same after 1024. -/
abbrev col (h : Fin 4) (e : Fin 256) : Fin 1024 := ⟨256 * h.val + e.val, by omega⟩
abbrev kcol (h : Fin 4) (e : Fin 256) : Fin 2048 := ⟨256 * h.val + e.val, by omega⟩
abbrev vcol (h : Fin 4) (e : Fin 256) : Fin 2048 := ⟨1024 + 256 * h.val + e.val, by omega⟩
/-- Token `s` of sequence `b`, and memory slot `j` of sequence `b`, as rows of the arrays. -/
abbrev tok (b : Fin 4) (s : Fin 2048) : Fin 8192 := ⟨2048 * b.val + s.val, by omega⟩
abbrev slot (b : Fin 4) (j : Fin 256) : Fin 1024 := ⟨256 * b.val + j.val, by omega⟩

/-- The queries and keys over the reals, the values and the output's gradient, by head. -/
def rQ (r : Fin 8192) (h : Fin 4) (e : Fin 256) : ℝ := (aQ m c (ix2 r (col h e))).toReal
def rK (b h : Fin 4) (j e : Fin 256) : ℝ := (aKV m c (ix2 (slot b j) (kcol h e))).toReal
def rV (b h : Fin 4) (j e : Fin 256) : EReal := aKV m c (ix2 (slot b j) (vcol h e))
def rG (r : Fin 8192) (h : Fin 4) (e : Fin 256) : EReal := aDo m c (ix2 r (col h e))

/-- Every entry of the queries and of the keys is a real number. -/
structure Finite : Prop where
  q : ∀ i, ((aQ m c i).toReal : EReal) = aQ m c i
  k : ∀ j h e, ((aKV m c (ix2 j (kcol h e))).toReal : EReal) = aKV m c (ix2 j (kcol h e))

/-! ## The windows' blocks: points `2 b` and `2 b + 1` are the two halves of sequence `b` -/

abbrev batch (t : Fin cfg0.N) : Fin 4 := ⟨t.val / 2, by have h := lt_of_lt_of_eq t.isLt (show cfg0.N = 8 from N_0); omega⟩
abbrev row (t : Fin cfg0.N) (r : Fin 1024) : Fin 8192 :=
  ⟨1024 * t.val + r.val, by have h := lt_of_lt_of_eq t.isLt (show cfg0.N = 8 from N_0); omega⟩

theorem idx : ∀ t : Fin cfg0.N, win0_0.index t = ![t.val, 0] ∧ win0_1.index t = ![t.val / 2, 0] ∧ win0_2.index t = ![t.val, 0] :=
  (by decide +kernel : ∀ t : Fin grid0.N, _)

theorem V_q (i : S8192x1024.Idx) : V m c main_v0 i = aQ m c i := rfl
theorem V_kv (i : S1024x2048.Idx) : V m c main_v1 i = aKV m c i := rfl
theorem V_do (i : S8192x1024.Idx) : V m c main_v2 i = aDo m c i := rfl

theorem blk0 (t : Fin cfg0.N) (r : Fin 1024) (l : Fin 1024) : iblk m c 0 t (ix2 r l) = aQ m c (ix2 (row t r) l) := by
  refine Eq.trans ?_ (V_q m c _)
  blk_point [iblk, idx t]
theorem blk1 (t : Fin cfg0.N) (j : Fin 256) (l : Fin 2048) : iblk m c 1 t (ix2 j l) = aKV m c (ix2 (slot (batch t) j) l) := by
  refine Eq.trans ?_ (V_kv m c _)
  blk_point [iblk, idx t]
theorem blk2 (t : Fin cfg0.N) (r : Fin 1024) (l : Fin 1024) : iblk m c 2 t (ix2 r l) = aDo m c (ix2 (row t r) l) := by
  refine Eq.trans ?_ (V_do m c _)
  blk_point [iblk, idx t]

/-! ## One head's columns of the blocks -/

variable {m c}
theorem ldQ (hf : Finite m c) (t : Fin cfg0.N) (h : Fin 4) (o : Nat) (ho : o = 256 * h.val)
    (hb : ∀ a, (![0, o] : Fin 2 → Nat) a + S1024x256.size a ≤ S1024x1024.size a) (r : Fin 1024) (e : Fin 256) :
    View.ld (iblk m c 0 t) (Rect.unit ![0, o] S1024x256.size hb) (ix2 r e) = (rQ m c (row t r) h e : EReal) := by
  subst ho
  refine Eq.trans ?_ ((blk0 m c t r (col h e)).trans (hf.q _).symm)
  pointwise
theorem ldG (t : Fin cfg0.N) (h : Fin 4) (o : Nat) (ho : o = 256 * h.val)
    (hb : ∀ a, (![0, o] : Fin 2 → Nat) a + S1024x256.size a ≤ S1024x1024.size a) (r : Fin 1024) (e : Fin 256) :
    View.ld (iblk m c 2 t) (Rect.unit ![0, o] S1024x256.size hb) (ix2 r e) = rG m c (row t r) h e := by
  subst ho
  refine Eq.trans ?_ (blk2 m c t r (col h e))
  pointwise
theorem ldK (hf : Finite m c) (t : Fin cfg0.N) (h : Fin 4) (o : Nat) (ho : o = 256 * h.val)
    (hb : ∀ a, (![0, o] : Fin 2 → Nat) a + S256x256.size a ≤ S256x2048.size a) (j e : Fin 256) :
    View.ld (iblk m c 1 t) (Rect.unit ![0, o] S256x256.size hb) (ix2 j e) = (rK m c (batch t) h j e : EReal) := by
  subst ho
  refine Eq.trans ?_ ((blk1 m c t j (kcol h e)).trans (hf.k _ _ _).symm)
  pointwise
theorem ldV (t : Fin cfg0.N) (h : Fin 4) (o : Nat) (ho : o = 1024 + 256 * h.val)
    (hb : ∀ a, (![0, o] : Fin 2 → Nat) a + S256x256.size a ≤ S256x2048.size a) (j e : Fin 256) :
    View.ld (iblk m c 1 t) (Rect.unit ![0, o] S256x256.size hb) (ix2 j e) = rV m c (batch t) h j e := by
  subst ho
  refine Eq.trans ?_ (blk1 m c t j (vcol h e))
  pointwise
end Cert.AttnKernel
end
-- ==== Proof.AttnState.lean ====
/- What the attention call's blocks hold after each grid point. -/
module

public import proofs.«01_k».proof.Proof.AttnHost
public import proofs.«01_k».proof.Proof.Gen.AttnKernelIdeal.Frame
public import Idealize.ShloMosaic.Lib.WritesUnit
public import Idealize.ShloMosaic.Lib.Pipeline.ReadBack

@[expose] public section
set_option maxRecDepth 16384
noncomputable section
namespace Cert.AttnKernel
open Cert.AttnKernelIdeal Cert.AttnKernelIdeal.Gen Idealize.ShloMosaic Idealize.ShloMosaic.TcCoe Idealize.SL.Sem
open Cert.RealSoftmax

variable (m : (ℓ : Loc nD τ sig) → Buf (Elt Ideal) ℓ) (c : Dev nD)

/-- The gradients, one token's row `r` of sequence `b` at a time: of its query, and what it adds to those of the sequence's keys
and values. -/
def gS (b : Fin 4) (r : Fin 8192) (h : Fin 4) (j : Fin 256) : EReal := dscore (rQ m c r h) (rK m c b h) (rV m c b h) (rG m c r h) j
def gQ (b : Fin 4) (r : Fin 8192) (h : Fin 4) (e : Fin 256) : EReal := ∑ j : Fin 256, gS m c b r h j * (rK m c b h j e : EReal)
def gK (b : Fin 4) (r : Fin 8192) (h : Fin 4) (j e : Fin 256) : EReal := gS m c b r h j * (rQ m c r h e : EReal)
def gV (b : Fin 4) (r : Fin 8192) (h : Fin 4) (j e : Fin 256) : EReal := (soft (scores (rQ m c r h) (rK m c b h)) j : EReal) * rG m c r h e

/-- A column belongs to one head. -/
theorem col_eq (h h' : Fin 4) (e e' : Fin 256) (hx : 256 * h.val + e.val = 256 * h'.val + e'.val) : h = h' ∧ e = e' :=
  ⟨Fin.ext (by omega), Fin.ext (by omega)⟩

variable {m c}

/-! ## The tiles of one head -/

section Tiles
variable (hf : Finite m c) (t : Fin cfg0.N) (h : Fin 4) (o o' : Nat) (ho : o = 256 * h.val) (ho' : o' = 1024 + 256 * h.val)
  (hq : ∀ a, (![0, o] : Fin 2 → Nat) a + S1024x256.size a ≤ S1024x1024.size a)
  (hk : ∀ a, (![0, o] : Fin 2 → Nat) a + S256x256.size a ≤ S256x2048.size a)
  (hv : ∀ a, (![0, o'] : Fin 2 → Nat) a + S256x256.size a ≤ S256x2048.size a)
include hf ho

theorem dv_tile (a : Vec Ideal S256x256 .f32) (j e : Fin 256) :
    k0_pay7 (View.ld (iblk m c 0 t) (Rect.unit ![0, o] S1024x256.size hq)) (View.ld (iblk m c 1 t) (Rect.unit ![0, o] S256x256.size hk))
        (View.ld (iblk m c 2 t) (Rect.unit ![0, o] S1024x256.size hq)) a (ix2 j e)
      = a (ix2 j e) + (∑ r : Fin 1024, gV m c (batch t) (row t r) h j e) :=
  dv_at (ldQ hf t h o ho hq) (ldK hf t h o ho hk) (ldG t h o ho hq) a j e

include ho'
theorem dq_tile (r : Fin 1024) (e : Fin 256) :
    Eq (α := EReal) (k0_pay10 (F := Ideal) (k0_pay4 (View.ld (iblk m c 1 t) (Rect.unit ![0, o] S256x256.size hk)))
        (k0_pay6 (View.ld (iblk m c 0 t) (Rect.unit ![0, o] S1024x256.size hq)) (View.ld (iblk m c 1 t) (Rect.unit ![0, o] S256x256.size hk)))
        (k0_pay8 (View.ld (iblk m c 0 t) (Rect.unit ![0, o] S1024x256.size hq)) (View.ld (iblk m c 1 t) (Rect.unit ![0, o] S256x256.size hk))
          (View.ld (iblk m c 1 t) (Rect.unit ![0, o'] S256x256.size hv)) (View.ld (iblk m c 2 t) (Rect.unit ![0, o] S1024x256.size hq))) (ix2 r e))
      (gQ m c (batch t) (row t r) h e) :=
  dq_at (ldQ hf t h o ho hq) (ldK hf t h o ho hk) (ldV t h o' ho' hv) (ldG t h o ho hq) r e

theorem dk_tile (a : Vec Ideal S256x256 .f32) (j e : Fin 256) :
    k0_pay11 (F := Ideal) (k0_pay3 (View.ld (iblk m c 0 t) (Rect.unit ![0, o] S1024x256.size hq)))
        (k0_pay6 (View.ld (iblk m c 0 t) (Rect.unit ![0, o] S1024x256.size hq)) (View.ld (iblk m c 1 t) (Rect.unit ![0, o] S256x256.size hk)))
        (k0_pay8 (View.ld (iblk m c 0 t) (Rect.unit ![0, o] S1024x256.size hq)) (View.ld (iblk m c 1 t) (Rect.unit ![0, o] S256x256.size hk))
          (View.ld (iblk m c 1 t) (Rect.unit ![0, o'] S256x256.size hv)) (View.ld (iblk m c 2 t) (Rect.unit ![0, o] S1024x256.size hq))) a (ix2 j e)
      = a (ix2 j e) + (∑ r : Fin 1024, gK m c (batch t) (row t r) h j e) :=
  dk_at (ldQ hf t h o ho hq) (ldK hf t h o ho hk) (ldV t h o' ho' hv) (ldG t h o ho hq) a j e
end Tiles

theorem outs_dq (hf : Finite m c) (t : Fin cfg0.N) (r : Fin 1024) (h : Fin 4) (e : Fin 256) :
    Eq (α := EReal) ((outsAt0 m c t.val t.isLt).1 (ix2 r (col h e))) (gQ m c (batch t) (row t r) h e) := by
  by_cases h0 : t.val % 2 = 0
  on_goal 1 => rw [outsAt0_A m c t h0]
  on_goal 2 => rw [outsAt0_B m c t h0]
  all_goals
    frame_out
    canon_tiles x hx
    all_goals
      obtain ⟨r', k, rfl⟩ : ∃ (r' : Fin 1024) (k : Fin 256), x = ix2 r' k := ⟨x 0, x 1, by idx_vars x⟩
      obtain rfl : r = r' := Fin.ext hx0
    · obtain ⟨rfl, rfl⟩ : h = 3 ∧ e = k := col_eq h 3 e k hx1
      rw [head3_dq]; exact dq_tile hf t 3 768 1792 rfl rfl _ _ _ r e
    · obtain ⟨rfl, rfl⟩ : h = 2 ∧ e = k := col_eq h 2 e k hx1
      rw [head2_dq]; exact dq_tile hf t 2 512 1536 rfl rfl _ _ _ r e
    · obtain ⟨rfl, rfl⟩ : h = 1 ∧ e = k := col_eq h 1 e k hx1
      rw [head1_dq]; exact dq_tile hf t 1 256 1280 rfl rfl _ _ _ r e
    · obtain ⟨rfl, rfl⟩ : h = 0 ∧ e = k := col_eq h 0 e k (hx1.trans (Nat.zero_add _).symm)
      exact dq_tile hf t 0 0 1024 rfl rfl _ _ _ r e

/-- What a token adds to the gradients of the sequence's keys and values, side by side. -/
def gKV (b : Fin 4) (r : Fin 8192) (j : Fin 256) (l : Fin 2048) : EReal :=
  if hl : l.val < 1024 then gK m c b r ⟨l.val / 256, by omega⟩ j ⟨l.val % 256, by omega⟩
  else gV m c b r ⟨(l.val - 1024) / 256, by omega⟩ j ⟨l.val % 256, by omega⟩
theorem gKV_k (b : Fin 4) (r : Fin 8192) (j : Fin 256) (h : Fin 4) (e : Fin 256) (l : Fin 2048) (hl : l.val = 256 * h.val + e.val) :
    gKV (m := m) (c := c) b r j l = gK m c b r h j e := by
  unfold gKV
  rw [dif_pos (by omega)]
  congr 1 <;> exact Fin.ext (by dsimp only; omega)
theorem gKV_v (b : Fin 4) (r : Fin 8192) (j : Fin 256) (h : Fin 4) (e : Fin 256) (l : Fin 2048) (hl : l.val = 1024 + 256 * h.val + e.val) :
    gKV (m := m) (c := c) b r j l = gV m c b r h j e := by
  unfold gKV
  rw [dif_neg (by omega)]
  congr 1 <;> exact Fin.ext (by dsimp only; omega)

theorem ld_cols (P : Vec Ideal S256x2048 .f32) (o : Nat) (hb : ∀ a, (![0, o] : Fin 2 → Nat) a + S256x256.size a ≤ S256x2048.size a)
    (j e : Fin 256) (l : Fin 2048) (hl : l.val = o + e.val) :
    View.ld P (Rect.unit ![0, o] S256x256.size hb) (ix2 j e) = P (ix2 j l) := by
  obtain ⟨l, h⟩ := l
  dsimp only at hl
  subst hl
  pointwise

/-- A tile of the keys' or values' gradient adds to what the buffer held there. -/
theorem k_tile {P : Vec Ideal S256x2048 .f32} {w : EReal} {t : Fin cfg0.N} (h : Fin 4) (o : Nat)
    (hb : ∀ a, (![0, o] : Fin 2 → Nat) a + S256x256.size a ≤ S256x2048.size a) {j e : Fin 256} {l : Fin 2048} (hl : l.val = o + e.val)
    (ho : o = 256 * h.val)
    (hw : w = View.ld P (Rect.unit ![0, o] S256x256.size hb) (ix2 j e) + (∑ r : Fin 1024, gK m c (batch t) (row t r) h j e)) :
    w = P (ix2 j l) + (∑ r : Fin 1024, gKV (m := m) (c := c) (batch t) (row t r) j l) := by
  rw [hw, ld_cols P o hb j e l hl]
  simp only [gKV_k _ _ j h e l (hl.trans (by rw [ho]))]
theorem v_tile {P : Vec Ideal S256x2048 .f32} {w : EReal} {t : Fin cfg0.N} (h : Fin 4) (o : Nat)
    (hb : ∀ a, (![0, o] : Fin 2 → Nat) a + S256x256.size a ≤ S256x2048.size a) {j e : Fin 256} {l : Fin 2048} (hl : l.val = o + e.val)
    (ho : o = 1024 + 256 * h.val)
    (hw : w = View.ld P (Rect.unit ![0, o] S256x256.size hb) (ix2 j e) + (∑ r : Fin 1024, gV m c (batch t) (row t r) h j e)) :
    w = P (ix2 j l) + (∑ r : Fin 1024, gKV (m := m) (c := c) (batch t) (row t r) j l) := by
  rw [hw, ld_cols P o hb j e l hl]
  simp only [gKV_v _ _ j h e l (hl.trans (by rw [ho]))]

/-- What the second output's buffer holds when a point begins its accumulation. -/
def held (m : (ℓ : Loc nD τ sig) → Buf (Elt Ideal) ℓ) (c : Dev nD) (t : Fin cfg0.N) : Vec Ideal S256x2048 .f32 :=
  if t.val % 2 = 0 then k0_pay2 (F := Ideal) else (outsAt0 m c (t.val - 1) (Nat.lt_of_le_of_lt (Nat.sub_le _ _) t.isLt)).2

/-- Lists of stores that read alike at an index do so under a further store. -/
theorem cons_congr {S : Shape} {e : EltTy} (p : View.Piece (Elt Ideal) S e) (L L' : List (View.Piece (Elt Ideal) S e)) (y : S.Idx)
    (h : y ∉ p.1.set → View.canon L y = View.canon L' y) : View.canon (p :: L) y = View.canon (p :: L') y := by
  by_cases hm : y ∈ p.1.set
  · obtain ⟨x, rfl⟩ := p.1.exists_idx_of_mem hm
    exact (View.canon_cons_emb p.1 p.2 _ x).trans (View.canon_cons_emb p.1 p.2 _ x).symm
  · rw [View.canon_cons_of_not_mem _ _ hm, View.canon_cons_of_not_mem _ _ hm, h hm]

theorem off_tile {o : Nat} (hb : ∀ a, (![0, o] : Fin 2 → Nat) a + S256x256.size a ≤ S256x2048.size a) {y : S256x2048.Idx}
    (h : y ∉ (Rect.unit (s := S256x2048) ![0, o] S256x256.size hb).set) : ¬ (o ≤ (y 1).val ∧ (y 1).val < o + 256) :=
  fun hy => h (Rect.mem_set_unit.mpr fun a => match a with
    | ⟨0, _⟩ => ⟨Nat.zero_le _, lt_of_lt_of_eq (y 0).isLt (Nat.zero_add _).symm⟩
    | ⟨1, _⟩ => hy)

/-- Eight tiles of columns stored over a whole store: what is read is the tiles. -/
theorem tiles_over (w0 w1 w2 w3 w4 w5 w6 w7 : Vec Ideal S256x256 .f32) (z : Vec Ideal S256x2048 .f32) (y : S256x2048.Idx) :
    View.canon (Val := Elt Ideal) (s := S256x2048) (e := .f32)
      [⟨Rect.unit ![0, 768] ![256, 256] inb_S256x2048_S256x256_0_768, w7⟩, ⟨Rect.unit ![0, 1792] ![256, 256] inb_S256x2048_S256x256_0_1792, w6⟩,
        ⟨Rect.unit ![0, 512] ![256, 256] inb_S256x2048_S256x256_0_512, w5⟩, ⟨Rect.unit ![0, 1536] ![256, 256] inb_S256x2048_S256x256_0_1536, w4⟩,
        ⟨Rect.unit ![0, 256] ![256, 256] inb_S256x2048_S256x256_0_256, w3⟩, ⟨Rect.unit ![0, 1280] ![256, 256] inb_S256x2048_S256x256_0_1280, w2⟩,
        ⟨Rect.unit ![0, 0] ![256, 256] inb_S256x2048_S256x256_0_0, w1⟩, ⟨Rect.unit ![0, 1024] ![256, 256] inb_S256x2048_S256x256_0_1024, w0⟩,
        ⟨Rect.unit ![0, 0] ![256, 2048] inb_S256x2048_S256x2048_0_0, z⟩] y
      = View.canon (Val := Elt Ideal) (s := S256x2048) (e := .f32)
      [⟨Rect.unit ![0, 768] ![256, 256] inb_S256x2048_S256x256_0_768, w7⟩, ⟨Rect.unit ![0, 1792] ![256, 256] inb_S256x2048_S256x256_0_1792, w6⟩,
        ⟨Rect.unit ![0, 512] ![256, 256] inb_S256x2048_S256x256_0_512, w5⟩, ⟨Rect.unit ![0, 1536] ![256, 256] inb_S256x2048_S256x256_0_1536, w4⟩,
        ⟨Rect.unit ![0, 256] ![256, 256] inb_S256x2048_S256x256_0_256, w3⟩, ⟨Rect.unit ![0, 1280] ![256, 256] inb_S256x2048_S256x256_0_1280, w2⟩,
        ⟨Rect.unit ![0, 0] ![256, 256] inb_S256x2048_S256x256_0_0, w1⟩, ⟨Rect.unit ![0, 1024] ![256, 256] inb_S256x2048_S256x256_0_1024, w0⟩] y := by
  have hl : (y 1).val < 2048 := (y 1).isLt
  refine cons_congr _ _ _ y fun h7 => cons_congr _ _ _ y fun h6 => cons_congr _ _ _ y fun h5 => cons_congr _ _ _ y fun h4 =>
    cons_congr _ _ _ y fun h3 => cons_congr _ _ _ y fun h2 => cons_congr _ _ _ y fun h1 => cons_congr _ _ _ y fun h0 => ?_
  have := off_tile inb_S256x2048_S256x256_0_768 h7; have := off_tile inb_S256x2048_S256x256_0_1792 h6
  have := off_tile inb_S256x2048_S256x256_0_512 h5; have := off_tile inb_S256x2048_S256x256_0_1536 h4
  have := off_tile inb_S256x2048_S256x256_0_256 h3; have := off_tile inb_S256x2048_S256x256_0_1280 h2
  have := off_tile inb_S256x2048_S256x256_0_0 h1; have := off_tile inb_S256x2048_S256x256_0_1024 h0
  omega

theorem outs_dkv (hf : Finite m c) (t : Fin cfg0.N) (j : Fin 256) (l : Fin 2048) :
    Eq (α := EReal) ((outsAt0 m c t.val t.isLt).2 (ix2 j l))
      (held m c t (ix2 j l) + (∑ r : Fin 1024, gKV (m := m) (c := c) (batch t) (row t r) j l)) := by
  unfold held
  split
  next h0 =>
    rw [outsAt0_A m c t h0]
    frame_out
    refine (tiles_over _ _ _ _ _ _ _ _ _ _).trans ?_
    canon_tiles x hx
    all_goals
      obtain ⟨r', k, rfl⟩ : ∃ (r' : Fin 256) (k : Fin 256), x = ix2 r' k := ⟨x 0, x 1, by idx_vars x⟩
      obtain rfl : j = r' := Fin.ext hx0
      repeat rw [View.readCov_skip _ _ _ _ _ (by decide)]
      rw [View.readCov_fill _ _ _ _ _ (by decide)]
    · rw [head3_dk]; exact k_tile 3 768 _ hx1 rfl (dk_tile hf t 3 768 1792 rfl rfl _ _ _ _ j k)
    · rw [head3_dv]; exact v_tile 3 1792 _ hx1 rfl (dv_tile hf t 3 768 rfl _ _ _ j k)
    · rw [head2_dk]; exact k_tile 2 512 _ hx1 rfl (dk_tile hf t 2 512 1536 rfl rfl _ _ _ _ j k)
    · rw [head2_dv]; exact v_tile 2 1536 _ hx1 rfl (dv_tile hf t 2 512 rfl _ _ _ j k)
    · rw [head1_dk]; exact k_tile 1 256 _ hx1 rfl (dk_tile hf t 1 256 1280 rfl rfl _ _ _ _ j k)
    · rw [head1_dv]; exact v_tile 1 1280 _ hx1 rfl (dv_tile hf t 1 256 rfl _ _ _ j k)
    · exact k_tile 0 0 _ (hx1.trans (Nat.zero_add _).symm) rfl (dk_tile hf t 0 0 1024 rfl rfl _ _ _ _ j k)
    · exact v_tile 0 1024 _ hx1 rfl (dv_tile hf t 0 0 rfl _ _ _ j k)
  next h0 =>
    rw [outsAt0_B m c t h0]
    frame_out
    canon_tiles x hx
    all_goals
      obtain ⟨r', k, rfl⟩ : ∃ (r' : Fin 256) (k : Fin 256), x = ix2 r' k := ⟨x 0, x 1, by idx_vars x⟩
      obtain rfl : j = r' := Fin.ext hx0
    · rw [head3_dk]; exact k_tile 3 768 _ hx1 rfl (dk_tile hf t 3 768 1792 rfl rfl _ _ _ _ j k)
    · rw [head3_dv]; exact v_tile 3 1792 _ hx1 rfl (dv_tile hf t 3 768 rfl _ _ _ j k)
    · rw [head2_dk]; exact k_tile 2 512 _ hx1 rfl (dk_tile hf t 2 512 1536 rfl rfl _ _ _ _ j k)
    · rw [head2_dv]; exact v_tile 2 1536 _ hx1 rfl (dv_tile hf t 2 512 rfl _ _ _ j k)
    · rw [head1_dk]; exact k_tile 1 256 _ hx1 rfl (dk_tile hf t 1 256 1280 rfl rfl _ _ _ _ j k)
    · rw [head1_dv]; exact v_tile 1 1280 _ hx1 rfl (dv_tile hf t 1 256 rfl _ _ _ j k)
    · exact k_tile 0 0 _ (hx1.trans (Nat.zero_add _).symm) rfl (dk_tile hf t 0 0 1024 rfl rfl _ _ _ _ j k)
    · exact v_tile 0 1024 _ hx1 rfl (dv_tile hf t 0 0 rfl _ _ _ j k)

/-- After a sequence's second point its keys' and values' gradients are the sums over both halves. -/
theorem outs_last (hf : Finite m c) (t : Fin cfg0.N) (h0 : t.val % 2 = 1) (j : Fin 256) (l : Fin 2048) :
    Eq (α := EReal) ((outsAt0 m c t.val t.isLt).2 (ix2 j l))
      (∑ s : Fin 2048, gKV (m := m) (c := c) (batch t) (tok (batch t) s) j l) := by
  have ht := lt_of_lt_of_eq t.isLt (show cfg0.N = 8 from N_0)
  obtain ⟨t', ht'⟩ : ∃ t' : Fin cfg0.N, t'.val + 1 = t.val := ⟨⟨t.val - 1, by omega⟩, by show t.val - 1 + 1 = t.val; omega⟩
  have e : held m c t = (outsAt0 m c t'.val t'.isLt).2 := by
    unfold held
    rw [if_neg (by omega)]
    have : t.val - 1 = t'.val := by omega
    simp only [this]
  have hb : batch t' = batch t := Fin.ext (by show t'.val / 2 = t.val / 2; omega)
  have z : held m c t' (ix2 j l) = 0 := by
    unfold held
    rw [if_pos (by omega)]
    pointwise [k0_pay2]
  rw [outs_dkv hf t j l, e, outs_dkv hf t' j l, z, zero_add, hb]
  refine Eq.trans ?_ (Fin.sum_univ_add (a := 1024) (b := 1024) fun s => gKV (m := m) (c := c) (batch t) (tok (batch t) s) j l).symm
  refine congrArg₂ (· + ·) (Finset.sum_congr rfl fun r _ => congrArg (gKV _ · j l) (Fin.ext ?_))
    (Finset.sum_congr rfl fun r _ => congrArg (gKV _ · j l) (Fin.ext ?_))
  · show 1024 * t'.val + r.val = 2048 * (t.val / 2) + r.val; omega
  · show 1024 * t.val + r.val = 2048 * (t.val / 2) + (1024 + r.val); omega
end Cert.AttnKernel
end
-- ==== Proof.AttnReference.lean ====
/- The stages of the attention reference, where the queries and keys are real. -/
module

public import proofs.«01_k».proof.Proof.AttnState
public import proofs.«01_k».proof.Proof.Gen.AttnReferenceIdeal.Read

@[expose] public section
set_option maxRecDepth 16384
noncomputable section
namespace Cert.AttnKernel
open Cert.AttnReferenceIdeal Cert.AttnReferenceIdeal.Gen Cert.AttnReferenceIdeal.Read
open Idealize.ShloMosaic Idealize.ShloMosaic.TcCoe Idealize.SL.Sem
open Cert.RealSoftmax

/-! ## Rows of the scores' array: what is constant along one, and what is summed or maximized along one -/

theorem over_row (x : FVec Ideal S4x4x2048 .f32) (b h : Fin 4) (s : Fin 2048) (j : Fin 256) :
    broadcastInDim S4x4x2048x256 ![0, 1, 2, 3] bcast_S4x4x2048x1_S4x4x2048x256_0_1_2_3
      (broadcastInDim S4x4x2048x1 ![0, 1, 2] bcast_S4x4x2048_S4x4x2048x1_0_1_2 x) (ix4 b h s j) = x (ix3 b h s) := by
  pointwise
theorem over_col (x : FVec Ideal S4x4x2048x1 .f32) (b h : Fin 4) (s : Fin 2048) (j : Fin 256) :
    broadcastInDim S4x4x2048x256 ![0, 1, 2, 3] bcast_S4x4x2048x1_S4x4x2048x256_0_1_2_3 x (ix4 b h s j) = x (ix4 b h s 0) := by
  pointwise
theorem as_col (x : FVec Ideal S4x4x2048 .f32) (b h : Fin 4) (s : Fin 2048) (j : Fin 1) :
    broadcastInDim S4x4x2048x1 ![0, 1, 2] bcast_S4x4x2048_S4x4x2048x1_0_1_2 x (ix4 b h s j) = x (ix3 b h s) := by
  pointwise
theorem row_sum (x : FVec Ideal S4x4x2048x256 .f32) (b h : Fin 4) (s : Fin 2048) :
    Host.reduceAdd x (constant S_ .f32 0x00000000#32) reducesTo_S4x4x2048x256_S4x4x2048_d3 h_S_ (ix3 b h s)
      = ∑ j : Fin 256, x (ix4 b h s j) := by
  pointwise
/-- The negated sums, laid out as a column and summed along its one entry. -/
theorem row_neg (x : FVec Ideal S4x4x2048 .f32) (b h : Fin 4) (s : Fin 2048) (j : Fin 256) :
    broadcastInDim S4x4x2048x256 ![0, 1, 2] bcast_S4x4x2048_S4x4x2048x256_0_1_2
      (Host.reduceAdd (Host.negf (shapeCast _ x shapeCasts_S4x4x2048_S4x4x2048x1)) (constant S_ .f32 0x00000000#32)
        reducesTo_S4x4x2048x1_S4x4x2048_d3 h_S_) (ix4 b h s j) = -x (ix3 b h s) := by
  pointwise
  exact Fin.sum_univ_one _

theorem one_word : Ideal.ofBits .f32 0x3F800000#32 = ((1 : ℝ) : EReal) := by
  simp [Ideal.ofBits, Ideal.ieee, -EReal.coe_mul]; norm_num

/-- The maximum along an axis of an array of reals is a real. -/
theorem max_real (s : Shape) {t u : Shape} {a : Fin s.rank} (x : FVec Ideal s .f32) (init : FVec Ideal u .f32) (h' : s.ReducesTo [a] t)
    (h : s.Reduces [a] t) (hu : 0 < u.numel) (hi : init (Shape.Idx.first hu) = (⊥ : EReal)) (hn : 0 < s.size a)
    (hx : ∀ i, ∃ r : ℝ, x i = (r : EReal)) (j : t.Idx) :
    ∃ M : ℝ, Host.reduce FloatOps.maximumf x init h' hu j = (M : EReal) := by
  choose f hf using hx
  have : Nonempty (Fin (s.size a)) := ⟨⟨0, hn⟩⟩
  obtain ⟨M, hM⟩ := max_coe fun k => f (h.lift j k)
  refine ⟨M, (Host.reduce_eq_fold_single (α := EReal) max x init h' h hu j).trans ?_⟩
  rw [hi, ← hM]
  exact congrArg (fun g => Finset.univ.fold max (⊥ : EReal) g) (funext fun k => hf _)

variable {m : (ℓ : Loc Cert.AttnKernelIdeal.nD Cert.AttnKernelIdeal.τ Cert.AttnKernelIdeal.sig) → Buf (Elt Ideal) ℓ}
  {c : Dev Cert.AttnKernelIdeal.nD}

/-! ## The arguments by head -/

theorem q_at (hf : Finite m c) (b : Fin 4) (s : Fin 2048) (h : Fin 4) (e : Fin 256) :
    val_main_v0 (F := Ideal) (aQ m c) (ix4 b s h e) = (rQ m c (tok b s) h e : EReal) := by
  refine Eq.trans ?_ (hf.q (ix2 (tok b s) (col h e))).symm
  pointwise [val_main_v0]
  exact congrArg _ (congrArg₂ ix2 (Fin.ext (by dsimp only; omega)) (Fin.ext (by dsimp only; omega)))
theorem k_at (hf : Finite m c) (b : Fin 4) (j : Fin 256) (h : Fin 4) (e : Fin 256) :
    val_main_v4 (F := Ideal) (aKV m c) (ix4 b j h e) = (rK m c b h j e : EReal) := by
  refine Eq.trans ?_ (hf.k (slot b j) h e).symm
  pointwise [val_main_v4, val_main_v2, val_main_v1]
  exact congrArg _ (congrArg₂ ix2 (Fin.ext (by dsimp only; omega)) (Fin.ext (by dsimp only; omega)))
theorem v_at (b : Fin 4) (j : Fin 256) (h : Fin 4) (e : Fin 256) : val_main_v5 (F := Ideal) (aKV m c) (ix4 b j h e) = rV m c b h j e := by
  unfold rV
  pointwise [val_main_v5, val_main_v3, val_main_v1]
  exact congrArg _ (congrArg₂ ix2 (Fin.ext (by dsimp only; omega)) (Fin.ext (by dsimp only; omega)))
theorem g_at (b h : Fin 4) (e : Fin 256) (s : Fin 2048) : val_main_v41 (F := Ideal) (aDo m c) (ix4 b h e s) = rG m c (tok b s) h e := by
  unfold rG
  pointwise [val_main_v41, val_main_v40]
  exact congrArg _ (congrArg₂ ix2 (Fin.ext (by dsimp only; omega)) (Fin.ext (by dsimp only; omega)))

/-! ## The scores, and the gradient of the probabilities -/

theorem s_at (hf : Finite m c) (b h : Fin 4) (s : Fin 2048) (j : Fin 256) :
    val_main_v8 (F := Ideal) (aQ m c) (aKV m c) (ix4 b h s j) = (scores (rQ m c (tok b s) h) (rK m c b h) j : EReal) := by
  pointwise [val_main_v8, val_main_v6, val_main_v7, val_main_cst]
  simp only [q_at hf, k_at hf, scale_word, ← EReal.coe_mul, sum_coe, scores]
theorem d_at (b h : Fin 4) (s : Fin 2048) (j : Fin 256) :
    Eq (α := EReal) (val_main_v42 (F := Ideal) (aKV m c) (aDo m c) (ix4 b h s j)) (dprob (rG m c (tok b s) h) (rV m c b h) j) := by
  pointwise [val_main_v42]
  simp only [g_at, v_at, dprob]
theorem s_real (hf : Finite m c) (i : S4x4x2048x256.Idx) : ∃ r : ℝ, val_main_v8 (F := Ideal) (aQ m c) (aKV m c) i = (r : EReal) := by
  obtain ⟨b, h, s, j, rfl⟩ : ∃ (b h : Fin 4) (s : Fin 2048) (j : Fin 256), i = ix4 b h s j := ⟨i 0, i 1, i 2, i 3, by idx_vars i⟩
  exact ⟨_, s_at hf b h s j⟩

/-! ## The softmax and the gradient of the scores -/

/-- A row's exponentials, after a real is subtracted from its scores, and their sum. -/
theorem row_at (hf : Finite m c) (b h : Fin 4) (s : Fin 2048) : ∃ M : ℝ,
    (∀ j, val_main_v29 (F := Ideal) (aQ m c) (aKV m c) (ix4 b h s j) = (Real.exp (scores (rQ m c (tok b s) h) (rK m c b h) j - M) : EReal)) ∧
    val_main_v30 (F := Ideal) (aQ m c) (aKV m c) (ix3 b h s)
      = ((∑ j : Fin 256, Real.exp (scores (rQ m c (tok b s) h) (rK m c b h) j - M) : ℝ) : EReal) := by
  obtain ⟨M, hM⟩ : ∃ M : ℝ, val_main_v9 (F := Ideal) (aQ m c) (aKV m c) (ix3 b h s) = (M : EReal) := by
    unfold val_main_v9
    exact max_real _ _ _ _ (by decide) h_S_ bot_word (by decide) (s_real hf) _
  have h16 : val_main_v16 (F := Ideal) (aQ m c) (aKV m c) (ix3 b h s) = (M : EReal) := by
    rw [val_main_v16_apply, val_main_v15_apply, hM]
    exact (congrArg (fun z => max z (M : EReal)) bot_word).trans (max_eq_right bot_le)
  have h29 (j : Fin 256) : val_main_v29 (F := Ideal) (aQ m c) (aKV m c) (ix4 b h s j)
      = (Real.exp (scores (rQ m c (tok b s) h) (rK m c b h) j - M) : EReal) := by
    have h27 : val_main_v27 (F := Ideal) (aQ m c) (aKV m c) (ix4 b h s j) = (M : EReal) := (over_row _ b h s j).trans h16
    have h28 : val_main_v28 (F := Ideal) (aQ m c) (aKV m c) (ix4 b h s j)
        = ((scores (rQ m c (tok b s) h) (rK m c b h) j - M : ℝ) : EReal) := by
      rw [val_main_v28_apply, s_at hf, h27]
      exact (EReal.coe_sub _ _).symm
    rw [val_main_v29_apply, h28]
    exact Ideal.exp_coe _
  refine ⟨M, h29, (row_sum _ b h s).trans ?_⟩
  simp only [h29, sum_coe]

theorem soft_at (hf : Finite m c) (b h : Fin 4) (s : Fin 2048) (j : Fin 256) :
    val_main_v33 (F := Ideal) (aQ m c) (aKV m c) (ix4 b h s j) = (soft (scores (rQ m c (tok b s) h) (rK m c b h)) j : EReal) := by
  obtain ⟨M, hE, hS⟩ := row_at hf b h s
  have h32 := (over_row (val_main_v30 (F := Ideal) (aQ m c) (aKV m c)) b h s j).trans hS
  rw [val_main_v33_apply, hE, show val_main_v32 (F := Ideal) (aQ m c) (aKV m c) (ix4 b h s j) = _ from h32]
  refine (div_coe _ _ (sum_exp_pos fun i => scores (rQ m c (tok b s) h) (rK m c b h) i - M).ne').trans ?_
  rw [soft_shift]

theorem gS_at (hf : Finite m c) (b h : Fin 4) (s : Fin 2048) (j : Fin 256) :
    Eq (α := EReal) (val_main_v58 (F := Ideal) (aQ m c) (aKV m c) (aDo m c) (ix4 b h s j)) (gS m c b (tok b s) h j) := by
  obtain ⟨M, hE, hS⟩ := row_at hf b h s
  have hp := sum_exp_pos fun i => scores (rQ m c (tok b s) h) (rK m c b h) i - M
  obtain ⟨S, eS⟩ : ∃ S, ∑ i : Fin 256, Real.exp (scores (rQ m c (tok b s) h) (rK m c b h) i - M) = S := ⟨_, rfl⟩
  rw [eS] at hS hp
  have key := quotient_rule (scores (rQ m c (tok b s) h) (rK m c b h)) (dprob (rG m c (tok b s) h) (rV m c b h)) M S eS j
  unfold gS dscore
  rw [← key]
  have h36 : val_main_v36 (F := Ideal) (aQ m c) (aKV m c) (ix4 b h s 0) = ((1 / (S * S) : ℝ) : EReal) := by
    have h31 : val_main_v31 (F := Ideal) (aQ m c) (aKV m c) (ix4 b h s 0) = (S : EReal) := (as_col _ b h s 0).trans hS
    rw [val_main_v36_apply, val_main_v34_apply, val_main_v35_apply, h31]
    refine Eq.trans ?_ (div_coe 1 (S * S) (mul_ne_zero hp.ne' hp.ne'))
    refine congrArg₂ Ideal.div ?_ (EReal.coe_mul _ _).symm
    exact one_word
  have h47 (i : Fin 256) : Eq (α := EReal) (val_main_v47 (F := Ideal) (aQ m c) (aKV m c) (aDo m c) (ix4 b h s i))
      (dprob (rG m c (tok b s) h) (rV m c b h) i * ((1 / (S * S) : ℝ) : EReal)
        * (Real.exp (scores (rQ m c (tok b s) h) (rK m c b h) i - M) : EReal)) := by
    have h45 : val_main_v45 (F := Ideal) (aQ m c) (aKV m c) (ix4 b h s i) = ((1 / (S * S) : ℝ) : EReal) := (over_col _ b h s i).trans h36
    rw [val_main_v47_apply, val_main_v46_apply, d_at, hE, h45]
    rfl
  have h54 := (row_neg (val_main_v48 (F := Ideal) (aQ m c) (aKV m c) (aDo m c)) b h s j).trans
    (congrArg (fun z : EReal => -z) ((row_sum (val_main_v47 (F := Ideal) (aQ m c) (aKV m c) (aDo m c)) b h s).trans
      (Finset.sum_congr rfl fun i _ => h47 i)))
  have h51 : val_main_v51 (F := Ideal) (aQ m c) (aKV m c) (ix4 b h s j) = (S : EReal) := (over_row _ b h s j).trans hS
  have h52 : Eq (α := EReal) (val_main_v52 (F := Ideal) (aQ m c) (aKV m c) (aDo m c) (ix4 b h s j))
      (Ideal.div (dprob (rG m c (tok b s) h) (rV m c b h) j) (S : EReal)) := by
    rw [val_main_v52_apply, d_at, h51]
    rfl
  rw [val_main_v58_apply, val_main_v56_apply, val_main_v55_apply, val_main_v57_apply, h52, hE,
    show val_main_v54 (F := Ideal) (aQ m c) (aKV m c) (aDo m c) (ix4 b h s j) = _ from h54]
  exact congrArg (fun z : EReal => _ * z) scale_word

/-! ## The gradients of the arguments -/

theorem q_layout (x : FVec Ideal S4x4x2048x256 .f32) (b : Fin 4) (s : Fin 2048) (h : Fin 4) (e : Fin 256) :
    shapeCast S8192x1024 (transpose S4x2048x4x256 [0, 2, 1, 3] x transposes_S4x4x2048x256_S4x2048x4x256_0_2_1_3)
      shapeCasts_S4x2048x4x256_S8192x1024 (ix2 (tok b s) (col h e)) = x (ix4 b h s e) := by
  pointwise
  congr 2 <;> exact Fin.ext (by dsimp only; omega)
theorem dq_ref (hf : Finite m c) (b : Fin 4) (s : Fin 2048) (h : Fin 4) (e : Fin 256) :
    Eq (α := EReal) (val_main_v68 (F := Ideal) (aQ m c) (aKV m c) (aDo m c) (ix2 (tok b s) (col h e))) (gQ m c b (tok b s) h e) := by
  refine (q_layout (val_main_v61 (F := Ideal) (aQ m c) (aKV m c) (aDo m c)) b s h e).trans ?_
  pointwise [val_main_v61]
  simp only [gS_at hf, k_at hf, gQ]
theorem dk_ref (hf : Finite m c) (b h : Fin 4) (j e : Fin 256) :
    Eq (α := EReal) (val_main_v60 (F := Ideal) (aQ m c) (aKV m c) (aDo m c) (ix4 b j h e)) (∑ s : Fin 2048, gK m c b (tok b s) h j e) := by
  pointwise [val_main_v60, val_main_v59]
  simp only [gS_at hf, q_at hf, gK]
theorem dv_ref (hf : Finite m c) (b h : Fin 4) (j e : Fin 256) :
    Eq (α := EReal) (val_main_v44 (F := Ideal) (aQ m c) (aKV m c) (aDo m c) (ix4 b j h e)) (∑ s : Fin 2048, gV m c b (tok b s) h j e) := by
  pointwise [val_main_v44, val_main_v43]
  simp only [soft_at hf, g_at, gV, mul_comm]

/-- The keys' gradients and then the values', side by side. -/
theorem kv_layout (x y : FVec Ideal S4x256x4x256 .f32) (b : Fin 4) (j : Fin 256) (l : Fin 2048) :
    shapeCast S1024x2048 (concatenate S4x256x2048 2 [⟨S4x256x1024, shapeCast S4x256x1024 x shapeCasts_S4x256x4x256_S4x256x1024⟩,
        ⟨S4x256x1024, shapeCast S4x256x1024 y shapeCasts_S4x256x4x256_S4x256x1024⟩] concatenates_S4x256x1024_S4x256x1024_S4x256x2048_d2)
      shapeCasts_S4x256x2048_S1024x2048 (ix2 (slot b j) l)
      = if hl : l.val < 1024 then x (ix4 b j ⟨l.val / 256, by omega⟩ ⟨l.val % 256, by omega⟩)
        else y (ix4 b j ⟨(l.val - 1024) / 256, by omega⟩ ⟨l.val % 256, by omega⟩) := by
  pointwise
  by_cases hl : l.val < 1024
  · rw [dif_pos hl, dif_pos hl]
    congr 2 <;> exact Fin.ext (by dsimp only; omega)
  · rw [dif_neg hl, dif_neg hl]
    congr 2 <;> exact Fin.ext (by dsimp only; omega)
theorem dkv_ref (hf : Finite m c) (b : Fin 4) (j : Fin 256) (l : Fin 2048) :
    Eq (α := EReal) (val_main_v66 (F := Ideal) (aQ m c) (aKV m c) (aDo m c) (ix2 (slot b j) l))
      (∑ s : Fin 2048, gKV (m := m) (c := c) b (tok b s) j l) := by
  refine (kv_layout (val_main_v60 (F := Ideal) (aQ m c) (aKV m c) (aDo m c)) (val_main_v44 (F := Ideal) (aQ m c) (aKV m c) (aDo m c)) b j l).trans ?_
  unfold gKV
  by_cases hl : l.val < 1024
  · simp only [hl, dif_pos, dk_ref hf]
  · simp only [hl, dif_neg, not_false_eq_true, dv_ref hf]
end Cert.AttnKernel
end
-- ==== Proof.AttnArray.lean ====
/- The arrays the attention call leaves, against the reference's results. -/
module

public import proofs.«01_k».proof.Proof.AttnReference
public import proofs.«01_k».proof.Proof.Gen.AttnKernelIdeal.Value

@[expose] public section
set_option maxRecDepth 16384
noncomputable section
namespace Cert.AttnKernel
open Cert.AttnReferenceIdeal.Read
open Cert.AttnKernelIdeal Cert.AttnKernelIdeal.Gen Idealize.ShloMosaic Idealize.ShloMosaic.TcCoe Idealize.SL.Sem

variable {m : (ℓ : Loc nD τ sig) → Buf (Elt Ideal) ℓ} {c : Dev nD}

theorem idx_out : ∀ t : Fin cfg0.N, win0_3.index t = ![t.val, 0] ∧ win0_4.index t = ![t.val / 2, 0] :=
  (by decide +kernel : ∀ t : Fin grid0.N, _)

/-- A column of the queries is a head's. -/
theorem col_of (l : Fin 1024) : ∃ (h : Fin 4) (e : Fin 256), l = col h e :=
  ⟨⟨l.val / 256, by omega⟩, ⟨l.val % 256, by omega⟩, Fin.ext (by dsimp only; omega)⟩
/-- A row of point `t`'s block is a token of its sequence. -/
theorem tok_of (t : Fin cfg0.N) (r : Fin 1024) : ∃ s : Fin 2048, row t r = tok (batch t) s :=
  ⟨⟨1024 * (t.val % 2) + r.val, by omega⟩, Fin.ext (by dsimp only; omega)⟩

theorem arr_dq (hf : Finite m c) : Eq (α := S8192x1024.Idx → EReal) ((dats m 0 c).arrAt 3 cfg0.N)
    (val_main_v68 (F := Ideal) (aQ m c) (aKV m c) (aDo m c)) := by
  refine (dats m 0 c).arrAt_eq_of_covers 3 _ (by decide +kernel) fun t _ y => ?_
  blk_simp
  rw [after0_3]
  obtain ⟨r, l, rfl⟩ : ∃ (r : Fin 1024) (l : Fin 1024), y = ix2 r l := ⟨y 0, y 1, by idx_vars y⟩
  obtain ⟨h, e, rfl⟩ := col_of l
  obtain ⟨s, hs⟩ := tok_of t r
  have key : Eq (α := EReal) (gQ m c (batch t) (row t r) h e)
      (val_main_v68 (F := Ideal) (aQ m c) (aKV m c) (aDo m c) (ix2 (row t r) (col h e))) := by
    rw [hs]
    exact (dq_ref hf (batch t) s h e).symm
  refine ((outs_dq hf t r h e).trans key).trans ?_
  blk_ext [idx_out t]

theorem arr_dkv (hf : Finite m c) : Eq (α := S1024x2048.Idx → EReal) ((dats m 0 c).arrAt 4 cfg0.N)
    (val_main_v66 (F := Ideal) (aQ m c) (aKV m c) (aDo m c)) := by
  refine (dats m 0 c).arrAt_eq_of_covers 4 _ (by decide +kernel) fun t ht y => ?_
  blk_simp
  rw [after0_4]
  obtain ⟨j, l, rfl⟩ : ∃ (j : Fin 256) (l : Fin 2048), y = ix2 j l := ⟨y 0, y 1, by idx_vars y⟩
  refine ((outs_last hf t ((flush0_4 t).mp ht) j l).trans (dkv_ref hf (batch t) j l).symm).trans ?_
  blk_ext [idx_out t]
end Cert.AttnKernel
end
-- ==== Proof.Attn.lean ====
/- The claims about the attention call, assembled. -/
module

public import proofs.«01_k».proof.Defs
public import proofs.«01_k».proof.Proof.Finite
public import proofs.«01_k».proof.Proof.AttnArray
public import proofs.«01_k».proof.Proof.Gen.AttnKernel
public import proofs.«01_k».proof.Proof.Gen.AttnReferenceIdeal.Run
public import proofs.«01_k».proof.Proof.Gen.Pre_attention_finite

@[expose] public section
set_option maxRecDepth 16384
noncomputable section
namespace Cert.AttnKernel
open Idealize.ShloMosaic Idealize.ShloMosaic.TcCoe Idealize.SL.Sem

/-- The two programs have one text, so at the bits they are one program. -/
theorem defs_eq : Cert.AttnKernel.defs (F := Bits) = Cert.AttnKernelIdeal.defs (F := Bits) := by sl_kernel_rfl
theorem main_eq : Cert.AttnKernel.main (F := Bits) = Cert.AttnKernelIdeal.main (F := Bits) := by sl_kernel_rfl

/-- The run of the ideal program holds over any floats: at the bits it is the run of the program itself. -/
theorem frame_bits : Cert.quiescent_AttnKernel := fun m ρ _ => by
  rw [defs_eq, main_eq]
  exact Cert.AttnKernelIdeal.Gen.frame (F := Bits) m ρ

theorem frame_ideal : Cert.quiescent_AttnKernelIdeal := fun m ρ _ => Cert.AttnKernelIdeal.Gen.frame m ρ
theorem frame_ideal_finite : Cert.quiescent_AttnKernelIdeal_pre_attention_finite := fun m ρ _ => Cert.AttnKernelIdeal.Gen.frame m ρ

theorem frame_reference : Cert.quiescent_AttnReferenceIdeal := fun m ρ _ =>
  (θ_run Cert.AttnReferenceIdeal.defs _ _).mono (fun r h => ⟨fun c => (h c).2.2,
    Idealize.ShloMosaic.sem_eq_zero_of_no_sems (by decide) r.2⟩) (Cert.AttnReferenceIdeal.Value.run m ρ)
theorem frame_reference_finite : Cert.quiescent_AttnReferenceIdeal_pre_attention_finite := fun m ρ _ => frame_reference m ρ trivial

theorem finite_of_pre {m : (ℓ : Loc Cert.AttnKernelIdeal.nD Cert.AttnKernelIdeal.τ Cert.AttnKernelIdeal.sig) → Buf (Elt Ideal) ℓ}
    (h : Cert.Pre_AttnKernelIdeal_attention_finite m) (c : Dev Cert.AttnKernelIdeal.nD) : Finite m c :=
  ⟨fun i => Cert.RealArrays.real_of_abs _ (congrFun (h c).1 i), fun j l e => by
    have s : Eq (α := EReal) (extractStridedSlice Cert.Pre_attention_finite.S1024x1024 ![0, 0] (aKV m c)
        Cert.Pre_attention_finite.Facts.slices_S1024x2048_S1024x1024_0_0 (ix2 j (col l e))) (aKV m c (ix2 j (kcol l e))) := by pointwise
    exact s ▸ Cert.RealArrays.real_of_abs _ (congrFun (h c).2 (ix2 j (col l e)))⟩

theorem equal : Cert.algebraic_AttnKernelIdeal_AttnReferenceIdeal_pre_attention_finite := fun m ρ m' ρ' hpre hin => by
  refine ⟨fun c => Cert.AttnReferenceIdeal.Read.val_main_v68 (F := Ideal) (aQ m c) (aKV m c) (aDo m c),
    fun c => Cert.AttnReferenceIdeal.Read.val_main_v66 (F := Ideal) (aQ m c) (aKV m c) (aDo m c), ?_, ?_⟩
  · refine (θ_run Cert.AttnKernelIdeal.defs _ _).mono (fun r h c => ?_) (Cert.AttnKernelIdeal.Value.run_blocks m ρ)
    obtain ⟨h0, h1, hargs⟩ := h c
    exact ⟨h0.trans (arr_dq (finite_of_pre hpre c)), h1.trans (arr_dkv (finite_of_pre hpre c)), hargs⟩
  · refine (θ_run Cert.AttnReferenceIdeal.defs _ _).mono (fun r h c => ?_) (Cert.AttnReferenceIdeal.Value.run m' ρ')
    obtain ⟨h0, h1, hargs⟩ := h c
    obtain ⟨a0, a1, a2⟩ := hin c
    refine ⟨h0.trans ((Cert.AttnReferenceIdeal.Read.val_main_v68_eq m' c).trans ?_),
      h1.trans ((Cert.AttnReferenceIdeal.Read.val_main_v66_eq m' c).trans ?_), hargs⟩ <;>
    simp only [a0, a1, a2] <;> rfl
end Cert.AttnKernel
end
-- ==== Proof.LnPoint.lean ====
/- What the norm call's windows read, and what one grid point computes; the gain, the weight and the
   cotangent are finite by the precondition. -/
module

public import proofs.«01_k».proof.Proof.RealNorm
public import proofs.«01_k».proof.Proof.Sigmoid
public import proofs.«01_k».proof.Proof.Gen.LnKernelIdeal.Frame.Runs
public import proofs.«01_k».proof.Proof.Gen.LnReferenceIdeal.Read
public import Idealize.ShloMosaic.Lib.Pointwise
public import Idealize.ShloMosaic.Lib.Pipeline.ValueKit
public import Idealize.ShloMosaic.Lib.IdealHost

@[expose] public section
set_option maxRecDepth 16384
noncomputable section
namespace Cert.LnKernel
open Cert.LnReferenceIdeal.Read
open Cert.LnKernelIdeal Cert.LnKernelIdeal.Gen Idealize.ShloMosaic Idealize.ShloMosaic.TcCoe Idealize.SL.Sem
open Cert.RealSoftmax Cert.RealNorm
variable (m : (ℓ : Loc nD τ sig) → Buf (Elt Ideal) ℓ) (c : Dev nD)

abbrev aC : Vec Ideal S8192x1024 .f32 := m ((c.tc : Thread nD τ).loc main_arg0)
abbrev aG : Vec Ideal S1024 .f32 := m ((c.tc : Thread nD τ).loc main_arg1)
abbrev aB : Vec Ideal S1024 .f32 := m ((c.tc : Thread nD τ).loc main_arg2)
abbrev aW : Vec Ideal S1024x1024 .f32 := m ((c.tc : Thread nD τ).loc main_arg3)
abbrev aDy : Vec Ideal S8192x1024 .f32 := m ((c.tc : Thread nD τ).loc main_arg4)

/-- A row of the norm's argument. -/
def xC (r : Fin 8192) (l : Fin 1024) : EReal := aC m c (ix2 r l)
/-- The finite arguments over the reals. -/
def rG (l : Fin 1024) : ℝ := (aG m c (ix1 l)).toReal
def rW (l k : Fin 1024) : ℝ := (aW m c (ix2 l k)).toReal
def rDy (r : Fin 8192) (k : Fin 1024) : ℝ := (aDy m c (ix2 r k)).toReal

/-- Every entry of these arguments is a real number. -/
structure Finite : Prop where
  gain : ∀ i, ((aG m c i).toReal : EReal) = aG m c i
  weight : ∀ i, ((aW m c i).toReal : EReal) = aW m c i
  cot : ∀ i, ((aDy m c i).toReal : EReal) = aDy m c i

/-- The norm's output, the gradients of the activation's and of the norm's output, and of the normalised entry. -/
def aln (r : Fin 8192) (l : Fin 1024) : EReal := (hat (xC m c r) l : EReal) * aG m c (ix1 l) + aB m c (ix1 l)
def dact (r : Fin 8192) (l : Fin 1024) : ℝ := ∑ k, rDy m c r k * rW m c l k
def daln (r : Fin 8192) (l : Fin 1024) : ℝ := dact m c r l * slope (aln m c r l)
def dhat (r : Fin 8192) (l : Fin 1024) : ℝ := daln m c r l * rG m c l

/-! ## The windows' blocks: point `t` reads rows `1024 t` to `1024 t + 1023` -/

theorem V_act (i : S8192x1024.Idx) : V m c main_v27 i = val_main_v29_0 (F := Ideal) (aC m c) (aG m c) (aB m c) i := rfl
theorem V_dy (i : S8192x1024.Idx) : V m c main_v25 i = aDy m c i := rfl
theorem V_c (i : S8192x1024.Idx) : V m c main_v26 i = aC m c i := rfl
theorem V_w (i : S1024x1024.Idx) : V m c main_v28 i = aW m c i := rfl
theorem V_g (z : Fin 1) (l : Fin 1024) : V m c main_v29 (ix2 z l) = aG m c (ix1 l) := by
  have e : V m c main_v29 = broadcastInDim S1x1024 ![1] bcast_S1024_S1x1024_1 (aG m c) := rfl
  rw [e]; pointwise
theorem V_b (z : Fin 1) (l : Fin 1024) : V m c main_v30 (ix2 z l) = aB m c (ix1 l) := by
  have e : V m c main_v30 = broadcastInDim S1x1024 ![1] bcast_S1024_S1x1024_1 (aB m c) := rfl
  rw [e]; pointwise

/-- Row `r` of point `t`'s block, as a row of the array. -/
abbrev row (t : Fin cfg0.N) (r : Fin 1024) : Fin 8192 :=
  ⟨1024 * t.val + r.val, by have h := lt_of_lt_of_eq t.isLt (show cfg0.N = 8 from N_0); omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, _)

theorem blk_dy (t : Fin cfg0.N) (r l : Fin 1024) : iblk m c 0 t (ix2 r l) = aDy m c (ix2 (row t r) l) := by
  refine Eq.trans ?_ (V_dy m c _)
  blk_point [iblk, idx t]
theorem blk_c (t : Fin cfg0.N) (r l : Fin 1024) : iblk m c 1 t (ix2 r l) = aC m c (ix2 (row t r) l) := by
  refine Eq.trans ?_ (V_c m c _)
  blk_point [iblk, idx t]
theorem blk_act (t : Fin cfg0.N) (r l : Fin 1024) : iblk m c 2 t (ix2 r l)
    = val_main_v29_0 (F := Ideal) (aC m c) (aG m c) (aB m c) (ix2 (row t r) l) := by
  refine Eq.trans ?_ (V_act m c _)
  blk_point [iblk, idx t]
theorem blk_w (t : Fin cfg0.N) (l k : Fin 1024) : iblk m c 3 t (ix2 l k) = aW m c (ix2 l k) := by
  refine Eq.trans ?_ (V_w m c _)
  blk_point [iblk, idx t]
theorem blk_g (t : Fin cfg0.N) (l : Fin 1024) : iblk m c 4 t (ix2 0 l) = aG m c (ix1 l) := by
  refine Eq.trans ?_ (V_g m c 0 l)
  blk_point [iblk, idx t]
theorem blk_b (t : Fin cfg0.N) (l : Fin 1024) : iblk m c 5 t (ix2 0 l) = aB m c (ix1 l) := by
  refine Eq.trans ?_ (V_b m c 0 l)
  blk_point [iblk, idx t]

/-! ## The body's expressions at an index, over any blocks -/

theorem pay6_at (a : Vec Ideal S1024x1024 .f32) (x y : Vec Ideal S1024x1024 .bf16) (d l : Fin 1024) :
    k0_pay6 a x y (ix2 d l) = a (ix2 d l) + ∑ r : Fin 1024, x (ix2 r d) * y (ix2 r l) := by
  pointwise [k0_pay6]
theorem pay7_at (x w : Vec Ideal S1024x1024 .bf16) (r l : Fin 1024) :
    k0_pay7 x w (ix2 r l) = ∑ k : Fin 1024, x (ix2 r k) * w (ix2 l k) := by
  pointwise [k0_pay7]
theorem pay9_at (x : Vec Ideal S1024x1024 .bf16) (r l : Fin 1024) : Eq (α := EReal) (k0_pay9 (F := Ideal) x (ix2 r l))
    (x (ix2 r l) - Ideal.div (∑ k : Fin 1024, x (ix2 r k)) (Ideal.ofBits .f32 0x44800000#32)) := by
  pointwise [k0_pay9]
theorem pay10_at (x : Vec Ideal S1024x1024 .bf16) (r : Fin 1024) : Eq (α := EReal) (k0_pay10 (F := Ideal) x (ix2 r 0))
    (∑ k : Fin 1024, k0_pay9 (F := Ideal) x (ix2 r k) * k0_pay9 (F := Ideal) x (ix2 r k)) := by
  pointwise [k0_pay10]
theorem pay12_at (s : Vec Ideal S1024x1 .f32) (r : Fin 1024) : Eq (α := EReal) (k0_pay12 (F := Ideal) s (k0_pay11 (F := Ideal)) (ix2 r 0))
    (Ideal.rsqrt (Ideal.div (s (ix2 r 0)) (Ideal.ofBits .f32 0x44800000#32) + Ideal.ofBits .f32 0x3727C5AC#32)) := by
  pointwise [k0_pay12, k0_pay11]
theorem pay13_at (x : Vec Ideal S1024x1024 .f32) (s n : Vec Ideal S1024x1 .f32) (r l : Fin 1024) :
    Eq (α := EReal) (k0_pay13 (F := Ideal) x s n (ix2 r l)) (x (ix2 r l) * k0_pay12 (F := Ideal) s n (ix2 r 0)) := by
  pointwise [k0_pay13]
theorem half_word : Ideal.ofBits .f32 0x3F000000#32 = Cert.Sigmoid.half := by
  simp [Ideal.ofBits, Ideal.ieee, -EReal.coe_mul]; norm_num
theorem pay14_at (a x : Vec Ideal S1024x1024 .f32) (g b : Vec Ideal S1x1024 .f32) (s n : Vec Ideal S1024x1 .f32) (r l : Fin 1024) :
    Eq (α := EReal) (k0_pay14 (F := Ideal) a (k0_pay8 (F := Ideal) g) x s n b (ix2 r l))
      (a (ix2 r l) * (Ideal.logistic (k0_pay13 (F := Ideal) x s n (ix2 r l) * g (ix2 0 l) + b (ix2 0 l))
        * (Ideal.ofBits .f32 0x3F800000#32 + (k0_pay13 (F := Ideal) x s n (ix2 r l) * g (ix2 0 l) + b (ix2 0 l))
        * (Ideal.ofBits .f32 0x3F800000#32 - Ideal.logistic (k0_pay13 (F := Ideal) x s n (ix2 r l) * g (ix2 0 l) + b (ix2 0 l)))))) := by
  rw [← Cert.Sigmoid.tanh_form, ← half_word]
  generalize h : k0_pay13 (F := Ideal) x s n = y
  pointwise [k0_pay14, k0_pay8, h]
theorem pay15_at (a x : Vec Ideal S1024x1024 .f32) (g b o : Vec Ideal S1x1024 .f32) (s n : Vec Ideal S1024x1 .f32) (l : Fin 1024) :
    Eq (α := EReal) (k0_pay15 (F := Ideal) a g x s n b o (ix2 0 l))
      (o (ix2 0 l) + ∑ r : Fin 1024, k0_pay14 (F := Ideal) a g x s n b (ix2 r l)) := by
  pointwise [k0_pay15]
theorem pay16_at (a x : Vec Ideal S1024x1024 .f32) (g b o : Vec Ideal S1x1024 .f32) (s n : Vec Ideal S1024x1 .f32) (l : Fin 1024) :
    Eq (α := EReal) (k0_pay16 (F := Ideal) a g x s n b o (ix2 0 l))
      (o (ix2 0 l) + ∑ r : Fin 1024, k0_pay14 (F := Ideal) a g x s n b (ix2 r l) * k0_pay13 (F := Ideal) x s n (ix2 r l)) := by
  pointwise [k0_pay16]
theorem pay17_at (g : Vec Ideal S1x1024 .f32) (r l : Fin 1024) :
    Eq (α := EReal) (k0_pay17 (F := Ideal) (k0_pay8 (F := Ideal) g) (ix2 r l)) (g (ix2 0 l)) := by
  pointwise [k0_pay17, k0_pay8]
theorem pay1_at (q : Vec Ideal S1024x1 .f32) (x a g : Vec Ideal S1024x1024 .f32) (r l : Fin 1024) :
    Eq (α := EReal) (k0_pay1 (F := Ideal) q x a g (ix2 r l)) (q (ix2 r 0) * (a (ix2 r l) * g (ix2 r l)
      - Ideal.div (∑ k : Fin 1024, a (ix2 r k) * g (ix2 r k)) (Ideal.ofBits .f32 0x44800000#32)
      - x (ix2 r l) * Ideal.div (∑ k : Fin 1024, a (ix2 r k) * g (ix2 r k) * x (ix2 r k)) (Ideal.ofBits .f32 0x44800000#32))) := by
  pointwise [k0_pay1]

/-! ## The same at a grid point, over the reals -/

variable {m c}

theorem dev_point (t : Fin cfg0.N) (r l : Fin 1024) :
    Eq (α := EReal) (k0_pay9 (F := Ideal) (iblk m c 1 t) (ix2 r l)) (dev (xC m c (row t r)) l) := by
  refine (pay9_at _ r l).trans ?_
  simp only [blk_c]
  rfl
theorem rstd_point (t : Fin cfg0.N) (r : Fin 1024) :
    Eq (α := EReal) (k0_pay12 (F := Ideal) (k0_pay10 (F := Ideal) (iblk m c 1 t)) (k0_pay11 (F := Ideal)) (ix2 r 0))
      (rstd (xC m c (row t r)) : EReal) := by
  refine (pay12_at _ r).trans (Eq.trans ?_ (rstd_coe _))
  rw [pay10_at]
  simp only [dev_point]
  rfl
theorem hat_point (t : Fin cfg0.N) (r l : Fin 1024) :
    Eq (α := EReal) (k0_pay13 (F := Ideal) (k0_pay9 (F := Ideal) (iblk m c 1 t)) (k0_pay10 (F := Ideal) (iblk m c 1 t)) (k0_pay11 (F := Ideal)) (ix2 r l))
      (hat (xC m c (row t r)) l : EReal) := by
  refine (pay13_at _ _ _ r l).trans ?_
  rw [dev_point, rstd_point, hat_coe]
theorem dact_point (hf : Finite m c) (t : Fin cfg0.N) (r l : Fin 1024) :
    Eq (α := EReal) (k0_pay7 (F := Ideal) (iblk m c 0 t) (iblk m c 3 t) (ix2 r l)) (dact m c (row t r) l : EReal) := by
  refine (pay7_at _ _ r l).trans (Eq.trans (Finset.sum_congr rfl fun k _ => ?_) (sum_coe _ _))
  rw [EReal.coe_mul]
  exact Ideal.mul_congr ((blk_dy m c t r k).trans (hf.cot _).symm) ((blk_w m c t l k).trans (hf.weight _).symm)
theorem daln_point (hf : Finite m c) (t : Fin cfg0.N) (r l : Fin 1024) :
    Eq (α := EReal) (k0_pay14 (F := Ideal) (k0_pay7 (F := Ideal) (iblk m c 0 t) (iblk m c 3 t)) (k0_pay8 (F := Ideal) (iblk m c 4 t))
      (k0_pay9 (F := Ideal) (iblk m c 1 t)) (k0_pay10 (F := Ideal) (iblk m c 1 t)) (k0_pay11 (F := Ideal)) (iblk m c 5 t) (ix2 r l))
      (daln m c (row t r) l : EReal) := by
  refine (pay14_at _ _ _ _ _ _ r l).trans ?_
  have e : Eq (α := EReal) ((hat (xC m c (row t r)) l : EReal) * iblk m c 4 t (ix2 0 l) + iblk m c 5 t (ix2 0 l)) (aln m c (row t r) l) :=
    Ideal.add_congr (congrArg (_ * ·) (blk_g m c t l)) (blk_b m c t l)
  rw [hat_point, dact_point hf, e, one_word, slope_product]
  rfl
theorem dc_point (hf : Finite m c) (t : Fin cfg0.N) (r l : Fin 1024) :
    Eq (α := EReal) (k0_pay1 (F := Ideal)
      (k0_pay12 (F := Ideal) (k0_pay10 (F := Ideal) (iblk m c 1 t)) (k0_pay11 (F := Ideal)))
      (k0_pay13 (F := Ideal) (k0_pay9 (F := Ideal) (iblk m c 1 t)) (k0_pay10 (F := Ideal) (iblk m c 1 t)) (k0_pay11 (F := Ideal)))
      (k0_pay14 (F := Ideal) (k0_pay7 (F := Ideal) (iblk m c 0 t) (iblk m c 3 t)) (k0_pay8 (F := Ideal) (iblk m c 4 t))
        (k0_pay9 (F := Ideal) (iblk m c 1 t)) (k0_pay10 (F := Ideal) (iblk m c 1 t)) (k0_pay11 (F := Ideal)) (iblk m c 5 t))
      (k0_pay17 (F := Ideal) (k0_pay8 (F := Ideal) (iblk m c 4 t))) (ix2 r l))
      (dnorm (xC m c (row t r)) (dhat m c (row t r)) l : EReal) := by
  refine (pay1_at _ _ _ _ r l).trans (Eq.trans ?_ (dnorm_coe _ _ l))
  have e : ∀ k : Fin 1024, Eq (α := EReal) ((daln m c (row t r) k : EReal) * k0_pay17 (F := Ideal) (k0_pay8 (F := Ideal) (iblk m c 4 t)) (ix2 r k))
      (dhat m c (row t r) k : EReal) := fun k => by
    rw [dhat, EReal.coe_mul]
    exact congrArg (_ * ·) ((pay17_at _ r k).trans ((blk_g m c t k).trans (hf.gain _).symm))
  rw [rstd_point]
  simp only [daln_point hf, hat_point, e]
end Cert.LnKernel
end
-- ==== Proof.LnState.lean ====
/- What the norm call's blocks and scratch hold after each grid point. -/
module

public import proofs.«01_k».proof.Proof.LnPoint
public import proofs.«01_k».proof.Proof.Gen.LnKernelIdeal.Frame
public import Idealize.ShloMosaic.Lib.Pipeline.ReadBack

@[expose] public section
set_option maxRecDepth 16384
noncomputable section
namespace Cert.LnKernel
open Cert.LnReferenceIdeal.Read
open Cert.LnKernelIdeal Cert.LnKernelIdeal.Gen Idealize.ShloMosaic Idealize.ShloMosaic.TcCoe Idealize.SL.Sem
open Cert.RealSoftmax Cert.RealNorm
variable {m : (ℓ : Loc nD τ sig) → Buf (Elt Ideal) ℓ} {c : Dev nD}

theorem outs_dc (hf : Finite m c) (t : Fin cfg0.N) (r l : Fin 1024) :
    Eq (α := EReal) ((outsAt0 m c t.val t.isLt).1 (ix2 r l)) (dnorm (xC m c (row t r)) (dhat m c (row t r)) l : EReal) := by
  by_cases h0 : t.val % 8 = 0
  · rw [outsAt0_A m c t h0 (by omega)]; frame_out; exact dc_point hf t r l
  · by_cases h1 : t.val % 8 = 7
    · rw [outsAt0_C m c t h0 h1]; frame_out; exact dc_point hf t r l
    · rw [outsAt0_B m c t h0 h1]; frame_out; exact dc_point hf t r l

variable (m c)
/-- What point `t` adds to the gradients of the gain, the bias and the output projection. -/
def dgPart (t : Fin cfg0.N) (l : Fin 1024) : EReal := ∑ r : Fin 1024, ((daln m c (row t r) l * hat (xC m c (row t r)) l : ℝ) : EReal)
def dbPart (t : Fin cfg0.N) (l : Fin 1024) : EReal := ∑ r : Fin 1024, (daln m c (row t r) l : EReal)
def dwPart (t : Fin cfg0.N) (p : Fin 1024 × Fin 1024) : EReal := ∑ r : Fin 1024,
  val_main_v29_0 (F := Ideal) (aC m c) (aG m c) (aB m c) (ix2 (row t r) p.1) * aDy m c (ix2 (row t r) p.2)
variable {m c}

theorem dg_pay (hf : Finite m c) (t : Fin cfg0.N) (a : Vec Ideal S1x1024 .f32) (l : Fin 1024) :
    Eq (α := EReal) (k0_pay16 (F := Ideal) (k0_pay7 (F := Ideal) (iblk m c 0 t) (iblk m c 3 t)) (k0_pay8 (F := Ideal) (iblk m c 4 t))
      (k0_pay9 (F := Ideal) (iblk m c 1 t)) (k0_pay10 (F := Ideal) (iblk m c 1 t)) (k0_pay11 (F := Ideal)) (iblk m c 5 t) a (ix2 0 l))
      (a (ix2 0 l) + dgPart m c t l) := by
  refine (pay16_at _ _ _ _ _ _ _ l).trans (congrArg (_ + ·) (Finset.sum_congr rfl fun r _ => ?_))
  rw [daln_point hf, hat_point, EReal.coe_mul]
theorem db_pay (hf : Finite m c) (t : Fin cfg0.N) (a : Vec Ideal S1x1024 .f32) (l : Fin 1024) :
    Eq (α := EReal) (k0_pay15 (F := Ideal) (k0_pay7 (F := Ideal) (iblk m c 0 t) (iblk m c 3 t)) (k0_pay8 (F := Ideal) (iblk m c 4 t))
      (k0_pay9 (F := Ideal) (iblk m c 1 t)) (k0_pay10 (F := Ideal) (iblk m c 1 t)) (k0_pay11 (F := Ideal)) (iblk m c 5 t) a (ix2 0 l))
      (a (ix2 0 l) + dbPart m c t l) :=
  (pay15_at _ _ _ _ _ _ _ l).trans (congrArg (_ + ·) (Finset.sum_congr rfl fun r _ => daln_point hf t r l))
theorem dw_pay (t : Fin cfg0.N) (a : Vec Ideal S1024x1024 .f32) (p : Fin 1024 × Fin 1024) :
    k0_pay6 (F := Ideal) a (iblk m c 2 t) (iblk m c 0 t) (ix2 p.1 p.2) = a (ix2 p.1 p.2) + dwPart m c t p := by
  refine (pay6_at _ _ _ p.1 p.2).trans (congrArg (_ + ·) (Finset.sum_congr rfl fun r _ => ?_))
  exact Ideal.mul_congr (blk_act m c t r p.1) (blk_dy m c t r p.2)

theorem outs_dg_zero (hf : Finite m c) (t : Fin cfg0.N) (h0 : t.val % 8 = 0) (l : Fin 1024) :
    (outsAt0 m c t.val t.isLt).2.1 (ix2 0 l) = 0 + dgPart m c t l := by
  rw [outsAt0_A m c t h0 (by omega)]; frame_out
  refine (dg_pay hf t _ l).trans (congrArg (· + _) ?_)
  pointwise [k0_pay3]
theorem outs_dg_step (hf : Finite m c) (t : Fin cfg0.N) (h0 : ¬ t.val % 8 = 0) (l : Fin 1024) :
    (outsAt0 m c t.val t.isLt).2.1 (ix2 0 l)
      = (outsAt0 m c (t.val - 1) (Nat.lt_of_le_of_lt (Nat.sub_le _ _) t.isLt)).2.1 (ix2 0 l) + dgPart m c t l := by
  by_cases h1 : t.val % 8 = 7
  · rw [outsAt0_C m c t h0 h1]; frame_out; exact dg_pay hf t _ l
  · rw [outsAt0_B m c t h0 h1]; frame_out; exact dg_pay hf t _ l
theorem outs_db_zero (hf : Finite m c) (t : Fin cfg0.N) (h0 : t.val % 8 = 0) (l : Fin 1024) :
    (outsAt0 m c t.val t.isLt).2.2.1 (ix2 0 l) = 0 + dbPart m c t l := by
  rw [outsAt0_A m c t h0 (by omega)]; frame_out
  refine (db_pay hf t _ l).trans (congrArg (· + _) ?_)
  pointwise [k0_pay4]
theorem outs_db_step (hf : Finite m c) (t : Fin cfg0.N) (h0 : ¬ t.val % 8 = 0) (l : Fin 1024) :
    (outsAt0 m c t.val t.isLt).2.2.1 (ix2 0 l)
      = (outsAt0 m c (t.val - 1) (Nat.lt_of_le_of_lt (Nat.sub_le _ _) t.isLt)).2.2.1 (ix2 0 l) + dbPart m c t l := by
  by_cases h1 : t.val % 8 = 7
  · rw [outsAt0_C m c t h0 h1]; frame_out; exact db_pay hf t _ l
  · rw [outsAt0_B m c t h0 h1]; frame_out; exact db_pay hf t _ l
theorem outs_dw_zero (t : Fin cfg0.N) (h0 : t.val % 8 = 0) (p : Fin 1024 × Fin 1024) :
    (outsAt0 m c t.val t.isLt).2.2.2.2 (ix2 p.1 p.2) = 0 + dwPart m c t p := by
  rw [outsAt0_A m c t h0 (by omega)]; frame_out
  refine (dw_pay t _ p).trans (congrArg (· + _) ?_)
  pointwise [k0_pay5]
theorem outs_dw_step (t : Fin cfg0.N) (h0 : ¬ t.val % 8 = 0) (p : Fin 1024 × Fin 1024) :
    (outsAt0 m c t.val t.isLt).2.2.2.2 (ix2 p.1 p.2)
      = (outsAt0 m c (t.val - 1) (Nat.lt_of_le_of_lt (Nat.sub_le _ _) t.isLt)).2.2.2.2 (ix2 p.1 p.2) + dwPart m c t p := by
  by_cases h1 : t.val % 8 = 7
  · rw [outsAt0_C m c t h0 h1]; frame_out; exact (dw_pay t _ p).trans (congrArg (· + _) (congrFun ((Memref.isWhole_whole cc0_scratch0).read_unread _) _))
  · rw [outsAt0_B m c t h0 h1]; frame_out; exact (dw_pay t _ p).trans (congrArg (· + _) (congrFun ((Memref.isWhole_whole cc0_scratch0).read_unread _) _))

/-! ## After the last point: the sums over all rows -/

/-- The sums over the blocks and the rows of a block are the sum over all rows. -/
theorem sum_rows (f : Fin 8192 → EReal) : ∑ p : Fin cfg0.N, ∑ r : Fin 1024, f (row p r) = ∑ r : Fin 8192, f r := by
  rw [Fin.sum_univ_tiles 8 1024 rfl f]
  refine Fintype.sum_equiv (finCongr N_0) _ _ fun p => Finset.sum_congr rfl fun r _ => congrArg f (Fin.ext ?_)
  show 1024 * p.val + r.val = p.val * 1024 + r.val
  omega

theorem dg_last (hf : Finite m c) (t : Fin cfg0.N) (ht : t.val + 1 = cfg0.N) (l : Fin 1024) : Eq (α := EReal)
    ((outsAt0 m c t.val t.isLt).2.1 (ix2 0 l)) ((∑ r : Fin 8192, daln m c r l * hat (xC m c r) l : ℝ) : EReal) := by
  have e := Pipeline.eq_sum_fin_of_reset_step_apply_last (fun n h (l : Fin 1024) => (outsAt0 m c n h).2.1 (ix2 0 l))
    8 (fun _ => (0 : EReal)) (dgPart m c) (outs_dg_zero hf) (outs_dg_step hf) (le_of_eq N_0) t ht l
  rw [zero_add] at e
  exact e.trans ((sum_rows fun r => ((daln m c r l * hat (xC m c r) l : ℝ) : EReal)).trans (sum_coe _ _))
theorem db_last (hf : Finite m c) (t : Fin cfg0.N) (ht : t.val + 1 = cfg0.N) (l : Fin 1024) : Eq (α := EReal)
    ((outsAt0 m c t.val t.isLt).2.2.1 (ix2 0 l)) ((∑ r : Fin 8192, daln m c r l : ℝ) : EReal) := by
  have e := Pipeline.eq_sum_fin_of_reset_step_apply_last (fun n h (l : Fin 1024) => (outsAt0 m c n h).2.2.1 (ix2 0 l))
    8 (fun _ => (0 : EReal)) (dbPart m c) (outs_db_zero hf) (outs_db_step hf) (le_of_eq N_0) t ht l
  rw [zero_add] at e
  exact e.trans ((sum_rows fun r => (daln m c r l : EReal)).trans (sum_coe _ _))
theorem dw_last (t : Fin cfg0.N) (ht : t.val + 1 = cfg0.N) (d l : Fin 1024) : Eq (α := EReal)
    ((outsAt0 m c t.val t.isLt).2.2.2.1 (ix2 d l))
    (∑ r : Fin 8192, val_main_v29_0 (F := Ideal) (aC m c) (aG m c) (aB m c) (ix2 r d) * aDy m c (ix2 r l)) := by
  have e := Pipeline.eq_sum_fin_of_reset_step_apply_last (fun n h (p : Fin 1024 × Fin 1024) => (outsAt0 m c n h).2.2.2.2 (ix2 p.1 p.2))
    8 (fun _ => (0 : EReal)) (dwPart m c) outs_dw_zero outs_dw_step (le_of_eq N_0) t ht (d, l)
  rw [zero_add] at e
  refine Eq.trans ?_ (e.trans (sum_rows fun r => val_main_v29_0 (F := Ideal) (aC m c) (aG m c) (aB m c) (ix2 r d) * aDy m c (ix2 r l)))
  dsimp only
  have ht' : t.val + 1 = 8 := ht.trans N_0
  rw [outsAt0_C m c t (by omega) (by omega)]; frame_out
  pointwise [k0_pay2]
end Cert.LnKernel
end
-- ==== Proof.LnReference.lean ====
/- The stages of the norm's reference. -/
module

public import proofs.«01_k».proof.Proof.LnPoint

@[expose] public section
set_option maxRecDepth 16384
noncomputable section
namespace Cert.LnKernel
open Cert.LnReferenceIdeal Cert.LnReferenceIdeal.Gen Cert.LnReferenceIdeal.Read
open Idealize.ShloMosaic Idealize.ShloMosaic.TcCoe Idealize.SL.Sem
open Cert.RealSoftmax Cert.RealNorm

variable {m : (ℓ : Loc Cert.LnKernelIdeal.nD Cert.LnKernelIdeal.τ Cert.LnKernelIdeal.sig) → Buf (Elt Ideal) ℓ}
  {c : Dev Cert.LnKernelIdeal.nD}

theorem ref_dev (r : Fin 8192) (l : Fin 1024) :
    Eq (α := EReal) (val_main_v5 (F := Ideal) (aC m c) (ix2 r l)) (dev (xC m c r) l) := by
  refine Eq.trans (b := aC m c (ix2 r l) - Ideal.div (∑ k : Fin 1024, aC m c (ix2 r k)) (Ideal.ofBits .f32 0x44800000#32)) ?_ rfl
  pointwise [val_main_v5, val_main_v4, val_main_v3, val_main_v2, val_main_v1, val_main_v0, val_main_cst, val_main_cst_0]
theorem ref_dev' (x : Vec Ideal S8192x1024 .f32) : val_main_v14 (F := Ideal) x = val_main_v5 (F := Ideal) x := rfl

theorem ref_var (r : Fin 8192) : Eq (α := EReal) (val_main_v16 (F := Ideal) (aC m c) (ix2 r 0)) (var (xC m c r)) := by
  refine Eq.trans (b := Ideal.div (∑ k : Fin 1024, val_main_v5 (F := Ideal) (aC m c) (ix2 r k) * val_main_v5 (F := Ideal) (aC m c) (ix2 r k))
    (Ideal.ofBits .f32 0x44800000#32) + Ideal.ofBits .f32 0x3727C5AC#32) ?_ ?_
  · pointwise [val_main_v16, val_main_v15, val_main_v12, val_main_v11, val_main_v10, val_main_v9, val_main_v6, val_main_cst_2,
      val_main_cst_3, val_main_cst_4]
  · simp only [ref_dev]
    rfl
theorem ref_rstd (r : Fin 8192) : Eq (α := EReal) (val_main_v17 (F := Ideal) (aC m c) (ix2 r 0)) (rstd (xC m c r) : EReal) := by
  refine Eq.trans (b := Ideal.rsqrt (val_main_v16 (F := Ideal) (aC m c) (ix2 r 0))) ?_ ?_
  · pointwise [val_main_v17]
  · rw [ref_var, rstd_coe]
/-- The factor a row's variance passes its gradient on by. -/
theorem ref_slope (r : Fin 8192) : Eq (α := EReal) (val_main_v20 (F := Ideal) (aC m c) (ix2 r 0))
    (Ideal.ofBits .f32 0xBF000000#32 * Ideal.div (rstd (xC m c r) : EReal) (var (xC m c r))) := by
  rw [← ref_rstd, ← ref_var]
  pointwise [val_main_v20, val_main_v19, val_main_v18, val_main_cst_5]
theorem ref_hat (r : Fin 8192) (l : Fin 1024) :
    Eq (α := EReal) (val_main_v22 (F := Ideal) (aC m c) (ix2 r l)) (hat (xC m c r) l : EReal) := by
  refine Eq.trans (b := val_main_v5 (F := Ideal) (aC m c) (ix2 r l) * val_main_v17 (F := Ideal) (aC m c) (ix2 r 0)) ?_ ?_
  · rw [← ref_dev']
    pointwise [val_main_v22, val_main_v21]
  · rw [ref_dev, ref_rstd, hat_coe]
theorem ref_aln (r : Fin 8192) (l : Fin 1024) :
    Eq (α := EReal) (val_main_v28 (F := Ideal) (aC m c) (aG m c) (aB m c) (ix2 r l)) (aln m c r l) := by
  refine Eq.trans (b := val_main_v22 (F := Ideal) (aC m c) (ix2 r l) * aG m c (ix1 l) + aB m c (ix1 l)) ?_ ?_
  · pointwise [val_main_v28, val_main_v27, val_main_v26, val_main_v25, val_main_v24, val_main_v23]
  · rw [ref_hat]
    rfl
theorem ref_sig (r : Fin 8192) (l : Fin 1024) :
    Eq (α := EReal) (val_main_v29_2 (F := Ideal) (aC m c) (aG m c) (aB m c) (ix2 r l)) (Ideal.logistic (aln m c r l)) := by
  refine Eq.trans (b := Ideal.div (Ideal.ofBits .f32 0x3F800000#32) (Ideal.ofBits .f32 0x3F800000#32
    + Ideal.exp (-(val_main_v28 (F := Ideal) (aC m c) (aG m c) (aB m c) (ix2 r l))))) ?_ ?_
  · pointwise [val_main_v29_2, val_main_call0_v4, val_main_call0_v3, val_main_call0_v2, val_main_call0_v1, val_main_call0_v0,
      val_main_call0_cst, val_main_call0_cst_0]
  · rw [ref_aln, one_word]
    rfl
theorem ref_dact (hf : Finite m c) (r : Fin 8192) (l : Fin 1024) :
    Eq (α := EReal) (val_main_v33 (F := Ideal) (aW m c) (aDy m c) (ix2 r l)) (dact m c r l : EReal) := by
  refine Eq.trans (b := ∑ k : Fin 1024, aDy m c (ix2 r k) * aW m c (ix2 l k)) ?_ ?_
  · pointwise [val_main_v33]
  · refine Eq.trans (Finset.sum_congr rfl fun k _ => ?_) (sum_coe _ _)
    rw [EReal.coe_mul]
    exact Ideal.mul_congr (hf.cot _).symm (hf.weight _).symm
theorem ref_daln (hf : Finite m c) (r : Fin 8192) (l : Fin 1024) :
    Eq (α := EReal) (val_main_v34 (F := Ideal) (aC m c) (aG m c) (aB m c) (aW m c) (aDy m c) (ix2 r l)) (daln m c r l : EReal) := by
  refine Eq.trans (b := val_main_v33 (F := Ideal) (aW m c) (aDy m c) (ix2 r l) * val_main_v29_2 (F := Ideal) (aC m c) (aG m c) (aB m c) (ix2 r l)
    + val_main_v28 (F := Ideal) (aC m c) (aG m c) (aB m c) (ix2 r l) * val_main_v33 (F := Ideal) (aW m c) (aDy m c) (ix2 r l)
    * (val_main_v29_2 (F := Ideal) (aC m c) (aG m c) (aB m c) (ix2 r l)
    * (Ideal.ofBits .f32 0x3F800000#32 - val_main_v29_2 (F := Ideal) (aC m c) (aG m c) (aB m c) (ix2 r l)))) ?_ ?_
  · pointwise [val_main_v34, val_main_call1_v0, val_main_call1_v1, val_main_call1_v2, val_main_v29_1, val_main_call0_v7,
      val_main_call0_v6, val_main_call0_cst_1]
  · rw [ref_aln, ref_sig, ref_dact hf, one_word, slope_sum]
    rfl
theorem ref_dhat (hf : Finite m c) (r : Fin 8192) (l : Fin 1024) :
    Eq (α := EReal) (val_main_v42 (F := Ideal) (aC m c) (aG m c) (aB m c) (aW m c) (aDy m c) (ix2 r l)) (dhat m c r l : EReal) := by
  refine Eq.trans (b := val_main_v34 (F := Ideal) (aC m c) (aG m c) (aB m c) (aW m c) (aDy m c) (ix2 r l) * aG m c (ix1 l)) ?_ ?_
  · pointwise [val_main_v42, val_main_v41, val_main_v23]
  · rw [ref_daln hf, ← hf.gain, ← EReal.coe_mul]
    rfl

/-! ## The row's gradient -/

theorem ref48 (hf : Finite m c) (r : Fin 8192) (l : Fin 1024) : Eq (α := EReal)
    (val_main_v48 (F := Ideal) (aC m c) (aG m c) (aB m c) (aW m c) (aDy m c) (ix2 r l)) ((dhat m c r l : EReal) * (rstd (xC m c r) : EReal)) := by
  refine Eq.trans (b := val_main_v42 (F := Ideal) (aC m c) (aG m c) (aB m c) (aW m c) (aDy m c) (ix2 r l)
    * val_main_v17 (F := Ideal) (aC m c) (ix2 r 0)) ?_ ?_
  · pointwise [val_main_v48, val_main_v47]
  · rw [ref_dhat hf, ref_rstd]
theorem ref_dvar (hf : Finite m c) (r : Fin 8192) : Eq (α := EReal)
    (val_main_v54 (F := Ideal) (aC m c) (aG m c) (aB m c) (aW m c) (aDy m c) (ix2 r 0)) (dvar (xC m c r) (dhat m c r)) := by
  refine Eq.trans (b := Ideal.div ((∑ k : Fin 1024, val_main_v5 (F := Ideal) (aC m c) (ix2 r k)
    * val_main_v42 (F := Ideal) (aC m c) (aG m c) (aB m c) (aW m c) (aDy m c) (ix2 r k)) * val_main_v20 (F := Ideal) (aC m c) (ix2 r 0))
    (Ideal.ofBits .f32 0x44800000#32)) ?_ ?_
  · rw [← ref_dev']
    pointwise [val_main_v54, val_main_v53, val_main_v49, val_main_v46, val_main_v45, val_main_v44, val_main_cst_10, val_main_cst_12]
  · simp only [ref_dev, ref_dhat hf, ref_slope]
    rfl
theorem ref57 (hf : Finite m c) (r : Fin 8192) (l : Fin 1024) : Eq (α := EReal)
    (val_main_v57 (F := Ideal) (aC m c) (aG m c) (aB m c) (aW m c) (aDy m c) (ix2 r l))
    (dvar (xC m c r) (dhat m c r) * (Ideal.ofBits .f32 0x40000000#32 * dev (xC m c r) l)) := by
  refine Eq.trans (b := (∑ k : Fin 1, val_main_v54 (F := Ideal) (aC m c) (aG m c) (aB m c) (aW m c) (aDy m c) (ix2 r k))
    * (Ideal.ofBits .f32 0x40000000#32 * val_main_v5 (F := Ideal) (aC m c) (ix2 r l))) ?_ ?_
  · pointwise [val_main_v57, val_main_v56, val_main_v55, val_main_v8, val_main_v7, val_main_cst_1, val_main_cst_13]
  · rw [Fin.sum_univ_one, ref_dvar hf, ref_dev]
theorem ref_dmean (hf : Finite m c) (r : Fin 8192) : Eq (α := EReal)
    (val_main_v64 (F := Ideal) (aC m c) (aG m c) (aB m c) (aW m c) (aDy m c) (ix2 r 0))
    (Ideal.div (∑ k, -((dhat m c r k : EReal) * (rstd (xC m c r) : EReal))
      + ∑ k, -(dvar (xC m c r) (dhat m c r) * (Ideal.ofBits .f32 0x40000000#32 * dev (xC m c r) k))) (Ideal.ofBits .f32 0x44800000#32)) := by
  refine Eq.trans (b := Ideal.div ((∑ k : Fin 1024, -(val_main_v48 (F := Ideal) (aC m c) (aG m c) (aB m c) (aW m c) (aDy m c) (ix2 r k)))
    + ∑ k : Fin 1024, -(val_main_v57 (F := Ideal) (aC m c) (aG m c) (aB m c) (aW m c) (aDy m c) (ix2 r k)))
    (Ideal.ofBits .f32 0x44800000#32)) ?_ ?_
  · pointwise [val_main_v64, val_main_v63, val_main_v62, val_main_v60, val_main_v59, val_main_v58, val_main_v52, val_main_v51,
      val_main_v50, val_main_cst_11, val_main_cst_14, val_main_cst_15]
  · simp only [ref48 hf, ref57 hf]
theorem ref_dc (hf : Finite m c) (r : Fin 8192) (l : Fin 1024) : Eq (α := EReal)
    (val_main_v68 (F := Ideal) (aC m c) (aG m c) (aB m c) (aW m c) (aDy m c) (ix2 r l))
    (dnorm (xC m c r) (dhat m c r) l : EReal) := by
  refine Eq.trans (b := val_main_v48 (F := Ideal) (aC m c) (aG m c) (aB m c) (aW m c) (aDy m c) (ix2 r l)
    + val_main_v57 (F := Ideal) (aC m c) (aG m c) (aB m c) (aW m c) (aDy m c) (ix2 r l)
    + ∑ k : Fin 1, val_main_v64 (F := Ideal) (aC m c) (aG m c) (aB m c) (aW m c) (aDy m c) (ix2 r k)) ?_ ?_
  · pointwise [val_main_v68, val_main_v67, val_main_v66, val_main_v65, val_main_v61, val_main_cst_16]
  · rw [Fin.sum_univ_one, ref48 hf, ref57 hf, ref_dmean hf, chain_rule]

/-! ## The gradients of the gain, the bias and the output projection -/

theorem ref_dg (hf : Finite m c) (l : Fin 1024) : Eq (α := EReal)
    (val_main_v69 (F := Ideal) (aC m c) (aG m c) (aB m c) (aW m c) (aDy m c) (ix2 0 l))
    ((∑ r : Fin 8192, daln m c r l * hat (xC m c r) l : ℝ) : EReal) := by
  refine Eq.trans (b := ∑ k : Fin 1, ∑ r : Fin 8192, val_main_v22 (F := Ideal) (aC m c) (ix2 r l)
    * val_main_v34 (F := Ideal) (aC m c) (aG m c) (aB m c) (aW m c) (aDy m c) (ix2 r l)) ?_ ?_
  · pointwise [val_main_v69, val_main_v43, val_main_v40, val_main_v39, val_main_v38, val_main_cst_8, val_main_cst_9]
  · simp only [Fin.sum_univ_one, ref_hat, ref_daln hf, ← EReal.coe_mul, sum_coe, mul_comm]
theorem ref_db (hf : Finite m c) (l : Fin 1024) : Eq (α := EReal)
    (val_main_v70 (F := Ideal) (aC m c) (aG m c) (aB m c) (aW m c) (aDy m c) (ix2 0 l))
    ((∑ r : Fin 8192, daln m c r l : ℝ) : EReal) := by
  refine Eq.trans (b := ∑ k : Fin 1, ∑ r : Fin 8192, val_main_v34 (F := Ideal) (aC m c) (aG m c) (aB m c) (aW m c) (aDy m c) (ix2 r l)) ?_ ?_
  · pointwise [val_main_v70, val_main_v37, val_main_v36, val_main_v35, val_main_cst_6, val_main_cst_7]
  · simp only [Fin.sum_univ_one, ref_daln hf, sum_coe]
theorem ref_dw (x0 : Vec Ideal S8192x1024 .f32) (x1 x2 : Vec Ideal S1024 .f32) (x4 : Vec Ideal S8192x1024 .f32) (d l : Fin 1024) :
    Eq (α := EReal) (val_main_v71 (F := Ideal) x0 x1 x2 x4 (ix2 d l))
    (∑ r : Fin 8192, x4 (ix2 r l) * val_main_v29_0 (F := Ideal) x0 x1 x2 (ix2 r d)) := by
  pointwise [val_main_v71, val_main_v32, val_main_v31]
end Cert.LnKernel
end
-- ==== Proof.Ln.lean ====
/- The claims about the norm call, assembled. -/
module

public import proofs.«01_k».proof.Defs
public import proofs.«01_k».proof.Proof.Finite
public import proofs.«01_k».proof.Proof.LnState
public import proofs.«01_k».proof.Proof.LnReference
public import proofs.«01_k».proof.Proof.Gen.LnKernel
public import proofs.«01_k».proof.Proof.Gen.LnKernelIdeal.Value
public import proofs.«01_k».proof.Proof.Gen.LnReferenceIdeal.Run
public import proofs.«01_k».proof.Proof.Gen.Pre_norm_finite

@[expose] public section
set_option maxRecDepth 16384
noncomputable section
namespace Cert.LnKernel
open Idealize.ShloMosaic Idealize.ShloMosaic.TcCoe Idealize.SL.Sem
open Cert.LnReferenceIdeal.Read

section Arrays
open Cert.LnKernelIdeal Cert.LnKernelIdeal.Gen
variable {m : (ℓ : Loc nD τ sig) → Buf (Elt Ideal) ℓ} {c : Dev nD}

theorem arr_dc (hf : Finite m c) : Eq (α := S8192x1024.Idx → EReal) ((dats m 0 c).arrAt 6 cfg0.N)
    (val_main_v68 (F := Ideal) (aC m c) (aG m c) (aB m c) (aW m c) (aDy m c)) := by
  refine (dats m 0 c).arrAt_eq_of_covers 6 _ (by decide +kernel) fun t _ y => ?_
  blk_simp
  rw [after0_6]
  obtain ⟨r, l, rfl⟩ : ∃ (r : Fin 1024) (l : Fin 1024), y = ix2 r l := ⟨y 0, y 1, by idx_vars y⟩
  refine ((outs_dc hf t r l).trans (ref_dc hf (row t r) l).symm).trans ?_
  blk_ext [idx t]

/-- The point an accumulated array is written at is the last. -/
theorem last_of {t : Fin cfg0.N} (h : t.val % 8 = 7) : t.val + 1 = cfg0.N := by
  have hl : t.val < 8 := lt_of_lt_of_eq t.isLt N_0
  have hs : t.val + 1 = 8 := by omega
  exact hs.trans N_0.symm

theorem arr_dg (hf : Finite m c) : Eq (α := S1x1024.Idx → EReal) ((dats m 0 c).arrAt 7 cfg0.N)
    (val_main_v69 (F := Ideal) (aC m c) (aG m c) (aB m c) (aW m c) (aDy m c)) := by
  refine (dats m 0 c).arrAt_eq_of_covers 7 _ (by decide +kernel) fun t ht y => ?_
  blk_simp
  rw [after0_7]
  obtain ⟨z, l, rfl⟩ : ∃ (z : Fin 1) (l : Fin 1024), y = ix2 z l := ⟨y 0, y 1, by idx_vars y⟩
  obtain rfl : z = 0 := Subsingleton.elim _ _
  refine ((dg_last hf t (last_of ((flush0_7 t).mp ht)) l).trans (ref_dg hf l).symm).trans ?_
  blk_ext [idx t]
theorem arr_db (hf : Finite m c) : Eq (α := S1x1024.Idx → EReal) ((dats m 0 c).arrAt 8 cfg0.N)
    (val_main_v70 (F := Ideal) (aC m c) (aG m c) (aB m c) (aW m c) (aDy m c)) := by
  refine (dats m 0 c).arrAt_eq_of_covers 8 _ (by decide +kernel) fun t ht y => ?_
  blk_simp
  rw [after0_8]
  obtain ⟨z, l, rfl⟩ : ∃ (z : Fin 1) (l : Fin 1024), y = ix2 z l := ⟨y 0, y 1, by idx_vars y⟩
  obtain rfl : z = 0 := Subsingleton.elim _ _
  refine ((db_last hf t (last_of ((flush0_8 t).mp ht)) l).trans (ref_db hf l).symm).trans ?_
  blk_ext [idx t]
theorem arr_dw : Eq (α := S1024x1024.Idx → EReal) ((dats m 0 c).arrAt 9 cfg0.N)
    (val_main_v71 (F := Ideal) (aC m c) (aG m c) (aB m c) (aDy m c)) := by
  refine (dats m 0 c).arrAt_eq_of_covers 9 _ (by decide +kernel) fun t ht y => ?_
  blk_simp
  rw [after0_9]
  obtain ⟨d, l, rfl⟩ : ∃ (d : Fin 1024) (l : Fin 1024), y = ix2 d l := ⟨y 0, y 1, by idx_vars y⟩
  have e := (dw_last (m := m) (c := c) t (last_of ((flush0_9 t).mp ht)) d l).trans (Finset.sum_congr rfl fun r _ => mul_comm _ _)
  refine (e.trans (ref_dw _ _ _ _ d l).symm).trans ?_
  blk_ext [idx t]
end Arrays

/-- The two programs have one text, so at the bits they are one program. -/
theorem defs_eq : Cert.LnKernel.defs (F := Bits) = Cert.LnKernelIdeal.defs (F := Bits) := by sl_kernel_rfl
theorem main_eq : Cert.LnKernel.main (F := Bits) = Cert.LnKernelIdeal.main (F := Bits) := by sl_kernel_rfl

/-- The run of the ideal program holds over any floats: at the bits it is the run of the program itself. -/
theorem frame_bits : Cert.quiescent_LnKernel := fun m ρ _ => by
  rw [defs_eq, main_eq]
  exact Cert.LnKernelIdeal.Gen.frame (F := Bits) m ρ

theorem frame_ideal : Cert.quiescent_LnKernelIdeal := fun m ρ _ => Cert.LnKernelIdeal.Gen.frame m ρ
theorem frame_ideal_finite : Cert.quiescent_LnKernelIdeal_pre_norm_finite := fun m ρ _ => Cert.LnKernelIdeal.Gen.frame m ρ

theorem frame_reference : Cert.quiescent_LnReferenceIdeal := fun m ρ _ =>
  (θ_run Cert.LnReferenceIdeal.defs _ _).mono (fun r h => ⟨fun c => (h c).2.2.2.2,
    Idealize.ShloMosaic.sem_eq_zero_of_no_sems (by decide) r.2⟩) (Cert.LnReferenceIdeal.Value.run m ρ)
theorem frame_reference_finite : Cert.quiescent_LnReferenceIdeal_pre_norm_finite := fun m ρ _ => frame_reference m ρ trivial

theorem finite_of_pre {m : (ℓ : Loc Cert.LnKernelIdeal.nD Cert.LnKernelIdeal.τ Cert.LnKernelIdeal.sig) → Buf (Elt Ideal) ℓ}
    (h : Cert.Pre_LnKernelIdeal_norm_finite m) (c : Dev Cert.LnKernelIdeal.nD) : Finite m c :=
  ⟨fun i => Cert.RealArrays.real_of_abs _ (congrFun (h c).1 i), fun i => Cert.RealArrays.real_of_abs _ (congrFun (h c).2.1 i),
    fun i => Cert.RealArrays.real_of_abs _ (congrFun (h c).2.2 i)⟩

theorem equal : Cert.algebraic_LnKernelIdeal_LnReferenceIdeal_pre_norm_finite := fun m ρ m' ρ' hpre hin => by
  refine ⟨fun c => val_main_v68 (F := Ideal) (aC m c) (aG m c) (aB m c) (aW m c) (aDy m c),
    fun c => val_main_v69 (F := Ideal) (aC m c) (aG m c) (aB m c) (aW m c) (aDy m c),
    fun c => val_main_v70 (F := Ideal) (aC m c) (aG m c) (aB m c) (aW m c) (aDy m c),
    fun c => val_main_v71 (F := Ideal) (aC m c) (aG m c) (aB m c) (aDy m c), ?_, ?_⟩
  · refine (θ_run Cert.LnKernelIdeal.defs _ _).mono (fun r h c => ?_) (Cert.LnKernelIdeal.Value.run_blocks m ρ)
    obtain ⟨h0, h1, h2, h3, hargs⟩ := h c
    have hf := finite_of_pre hpre c
    exact ⟨h0.trans (arr_dc hf), h1.trans (arr_dg hf), h2.trans (arr_db hf), h3.trans arr_dw, hargs⟩
  · refine (θ_run Cert.LnReferenceIdeal.defs _ _).mono (fun r h c => ?_) (Cert.LnReferenceIdeal.Value.run m' ρ')
    obtain ⟨h0, h1, h2, h3, hargs⟩ := h c
    obtain ⟨a0, a1, a2, a3, a4⟩ := hin c
    refine ⟨h0.trans ((val_main_v68_eq m' c).trans ?_), h1.trans ((val_main_v69_eq m' c).trans ?_),
      h2.trans ((val_main_v70_eq m' c).trans ?_), h3.trans ((val_main_v71_eq _ _).trans ?_), hargs⟩ <;>
    simp only [a0, a1, a2, a3, a4] <;> rfl
end Cert.LnKernel
end
-- ==== Proof.MemPoint.lean ====
/- What one grid point of the memory projection's call computes. -/
module

public import proofs.«01_k».proof.Proof.Gen.MemKernelIdeal.Frame
public import proofs.«01_k».proof.Proof.Gen.MemReferenceIdeal.Read
public import Idealize.ShloMosaic.Lib.Pointwise
public import Idealize.ShloMosaic.Lib.Pipeline.ValueKit
public import Idealize.ShloMosaic.Lib.Pipeline.ReadBack
public import Idealize.ShloMosaic.Lib.IdealHost

@[expose] public section
set_option maxRecDepth 16384
noncomputable section
namespace Cert.MemKernel
open Cert.MemReferenceIdeal.Read
open Cert.MemKernelIdeal Cert.MemKernelIdeal.Gen Idealize.ShloMosaic Idealize.ShloMosaic.TcCoe Idealize.SL.Sem
variable (m : (ℓ : Loc nD τ sig) → Buf (Elt Ideal) ℓ) (c : Dev nD)

abbrev aMem : Vec Ideal S1024x1024 .f32 := m ((c.tc : Thread nD τ).loc main_arg0)
abbrev aW : Vec Ideal S1024x2048 .f32 := m ((c.tc : Thread nD τ).loc main_arg2)
abbrev aDkv : Vec Ideal S1024x2048 .f32 := m ((c.tc : Thread nD τ).loc main_arg3)

theorem V_w (i : S1024x2048.Idx) : V m c main_v0 i = aW m c i := rfl

/-- Row `r` of point `t`'s block, as a row of the array. -/
abbrev row (t : Fin cfg0.N) (r : Fin 512) : Fin 1024 :=
  ⟨512 * t.val + r.val, by have h := lt_of_lt_of_eq t.isLt (show cfg0.N = 2 from N_0); omega⟩

theorem idx : ∀ t : Fin cfg0.N, win0_0.index t = ![t.val, 0] ∧ win0_1.index t = ![t.val, 0] ∧ win0_2.index t = ![0, 0]
    ∧ win0_3.index t = ![0, 0] :=
  (by decide +kernel : ∀ t : Fin grid0.N, _)

theorem blk0 (t : Fin cfg0.N) (r : Fin 512) (k : Fin 2048) : iblk m c 0 t (ix2 r k) = aDkv m c (ix2 (row t r) k) := by
  blk_point [iblk, V, idx t]
theorem blk1 (t : Fin cfg0.N) (r : Fin 512) (l : Fin 1024) : iblk m c 1 t (ix2 r l) = aMem m c (ix2 (row t r) l) := by
  blk_point [iblk, V, idx t]
theorem blk2 (t : Fin cfg0.N) (l : Fin 1024) (k : Fin 2048) : iblk m c 2 t (ix2 l k) = aW m c (ix2 l k) := by
  refine Eq.trans ?_ (V_w m c _)
  blk_point [iblk, idx t]

/-- The body's sum at a column, over any blocks. -/
theorem pay2_at (d : Vec Ideal S512x2048 .f32) (w : Vec Ideal S1024x2048 .bf16) (x : Vec Ideal S512x1024 .f32)
    (a : Vec Ideal S1x1024 .f32) (z : Fin 1) (l : Fin 1024) : k0_pay2 d w x a (ix2 z l) = a (ix2 z l) +
      ∑ r : Fin 512, (∑ k : Fin 2048, d (ix2 r k) * w (ix2 l k)) * (x (ix2 r l) *
        Ideal.rsqrt (Ideal.div (∑ k : Fin 1024, x (ix2 r k) * x (ix2 r k)) (Ideal.ofBits .f32 0x44800000#32) + Ideal.ofBits .f32 0x358637BD#32)) := by
  pointwise [k0_pay2]

/-- A row's normalised entry, and the cotangent of the norm's output, in the reference. -/
theorem ref9 (x : Vec Ideal S1024x1024 .f32) (r l : Fin 1024) : val_main_v9 (F := Ideal) x (ix2 r l) = x (ix2 r l) *
    Ideal.rsqrt (Ideal.div (∑ k : Fin 1024, x (ix2 r k) * x (ix2 r k)) (Ideal.ofBits .f32 0x44800000#32) + Ideal.ofBits .f32 0x358637BD#32) := by
  pointwise [val_main_v9, val_main_v8, val_main_v7, val_main_v6, val_main_v5, val_main_v4, val_main_v3, val_main_v2, val_main_v1,
    val_main_v0, val_main_cst, val_main_cst_0, val_main_cst_1]
theorem ref14 (w d : Vec Ideal S1024x2048 .f32) (r l : Fin 1024) : val_main_v14 (F := Ideal) w d (ix2 r l)
    = ∑ k : Fin 2048, d (ix2 r k) * w (ix2 l k) := by
  pointwise [val_main_v14]
theorem ref19 (x : Vec Ideal S1024x1024 .f32) (w d : Vec Ideal S1024x2048 .f32) (z : Fin 1) (l : Fin 1024) :
    val_main_v19 (F := Ideal) x w d (ix2 z l)
    = ∑ r : Fin 1024, val_main_v9 (F := Ideal) x (ix2 r l) * val_main_v14 (F := Ideal) w d (ix2 r l) := by
  pointwise [val_main_v19, val_main_v18, val_main_v17, val_main_v16, val_main_v15, val_main_cst_2, val_main_cst_3]
  exact Fin.sum_univ_one _

/-- What a row adds to the gain's gradient. -/
abbrev term (l r : Fin 1024) : EReal := val_main_v9 (F := Ideal) (aMem m c) (ix2 r l) * val_main_v14 (F := Ideal) (aW m c) (aDkv m c) (ix2 r l)
/-- What point `t` adds to it. -/
def part (t : Fin cfg0.N) (l : Fin 1024) : EReal := ∑ r : Fin 512, term m c l (row t r)

theorem pay_point (t : Fin cfg0.N) (a : Vec Ideal S1x1024 .f32) (l : Fin 1024) :
    k0_pay2 (iblk m c 0 t) (iblk m c 2 t) (iblk m c 1 t) a (ix2 0 l) = a (ix2 0 l) + part m c t l := by
  refine (pay2_at _ _ _ _ 0 l).trans (congrArg (_ + ·) (Finset.sum_congr rfl fun r _ => ?_))
  unfold term
  rw [mul_comm (val_main_v9 (F := Ideal) _ _), ref9, ref14]
  simp only [blk1]
  refine congrArg (· * _) (Finset.sum_congr rfl fun k _ => ?_)
  exact Ideal.mul_congr (blk0 m c t r k) (blk2 m c t l k)

theorem outs_zero (t : Fin cfg0.N) (h0 : t.val % 2 = 0) (l : Fin 1024) :
    outsAt0 m c t.val t.isLt (ix2 0 l) = 0 + part m c t l := by
  rw [outsAt0_A m c t h0]; frame_out
  refine (pay_point m c t _ l).trans (congrArg (· + _) ?_)
  pointwise [k0_pay1]
theorem outs_step (t : Fin cfg0.N) (h0 : ¬ t.val % 2 = 0) (l : Fin 1024) :
    outsAt0 m c t.val t.isLt (ix2 0 l)
      = outsAt0 m c (t.val - 1) (Nat.lt_of_le_of_lt (Nat.sub_le _ _) t.isLt) (ix2 0 l) + part m c t l := by
  rw [outsAt0_B m c t h0]; frame_out
  exact pay_point m c t _ l

/-- The sums over the blocks and the rows of a block are the sum over all rows. -/
theorem sum_rows (f : Fin 1024 → EReal) : ∑ p : Fin cfg0.N, ∑ r : Fin 512, f (row p r) = ∑ r : Fin 1024, f r := by
  rw [Fin.sum_univ_tiles 2 512 rfl f]
  refine Fintype.sum_equiv (finCongr N_0) _ _ fun p => Finset.sum_congr rfl fun r _ => congrArg f (Fin.ext ?_)
  show 512 * p.val + r.val = p.val * 512 + r.val
  omega

theorem outs_last (t : Fin cfg0.N) (ht : t.val + 1 = cfg0.N) (l : Fin 1024) :
    Eq (α := EReal) (outsAt0 m c t.val t.isLt (ix2 0 l)) (val_main_v19 (F := Ideal) (aMem m c) (aW m c) (aDkv m c) (ix2 0 l)) := by
  have e := Pipeline.eq_sum_fin_of_reset_step_apply_last (fun n h (l : Fin 1024) => outsAt0 m c n h (ix2 0 l))
    2 (fun _ => (0 : EReal)) (part m c) (outs_zero m c) (outs_step m c) (le_of_eq N_0) t ht l
  rw [zero_add] at e
  refine e.trans ((sum_rows (term m c l)).trans (ref19 _ _ _ 0 l).symm)
end Cert.MemKernel
end
-- ==== Proof.Mem.lean ====
/- The claims about the memory projection's call, assembled. -/
module

public import proofs.«01_k».proof.Defs
public import proofs.«01_k».proof.Proof.MemPoint
public import proofs.«01_k».proof.Proof.Gen.MemKernel
public import proofs.«01_k».proof.Proof.Gen.MemKernelIdeal.Value
public import proofs.«01_k».proof.Proof.Gen.MemReferenceIdeal.Run

@[expose] public section
set_option maxRecDepth 16384
noncomputable section
namespace Cert.MemKernel
open Idealize.ShloMosaic Idealize.ShloMosaic.TcCoe Idealize.SL.Sem

open Cert.MemKernelIdeal Cert.MemKernelIdeal.Gen in
/-- The output's one block, written at the last point, is the array. -/
theorem arr_dg (m : (ℓ : Loc nD τ sig) → Buf (Elt Ideal) ℓ) (c : Dev nD) : Eq (α := S1x1024.Idx → EReal) ((dats m 0 c).arrAt 3 cfg0.N)
    (Cert.MemReferenceIdeal.Read.val_main_v19 (F := Ideal) (aMem m c) (aW m c) (aDkv m c)) := by
  refine (dats m 0 c).arrAt_eq_of_covers 3 _ (by decide +kernel) fun t ht y => ?_
  blk_simp
  rw [after0_3]
  obtain ⟨z, l, rfl⟩ : ∃ (z : Fin 1) (l : Fin 1024), y = ix2 z l := ⟨y 0, y 1, by idx_vars y⟩
  obtain rfl : z = 0 := Subsingleton.elim _ _
  have h := (flush0_3 t).mp ht
  have hl : t.val < 2 := lt_of_lt_of_eq t.isLt N_0
  have hs : t.val + 1 = 2 := by omega
  refine (outs_last m c t (hs.trans N_0.symm) l).trans ?_
  blk_ext [idx t]

/-- The two programs have one text, so at the bits they are one program. -/
theorem defs_eq : Cert.MemKernel.defs (F := Bits) = Cert.MemKernelIdeal.defs (F := Bits) := by sl_kernel_rfl
theorem main_eq : Cert.MemKernel.main (F := Bits) = Cert.MemKernelIdeal.main (F := Bits) := by sl_kernel_rfl

/-- The run of the ideal program holds over any floats: at the bits it is the run of the program itself. -/
theorem frame_bits : Cert.quiescent_MemKernel := fun m ρ _ => by
  rw [defs_eq, main_eq]
  exact Cert.MemKernelIdeal.Gen.frame (F := Bits) m ρ

theorem frame_ideal : Cert.quiescent_MemKernelIdeal := fun m ρ _ => Cert.MemKernelIdeal.Gen.frame m ρ

theorem frame_reference : Cert.quiescent_MemReferenceIdeal := fun m ρ _ =>
  (θ_run Cert.MemReferenceIdeal.defs _ _).mono (fun r h => ⟨fun c => (h c).2,
    Idealize.ShloMosaic.sem_eq_zero_of_no_sems (by decide) r.2⟩) (Cert.MemReferenceIdeal.Value.run m ρ)

theorem equal : Cert.algebraic_MemKernelIdeal_MemReferenceIdeal := fun m ρ m' ρ' _ hin => by
  refine ⟨fun c => Cert.MemReferenceIdeal.Read.val_main_v19 (F := Ideal) (aMem m c) (aW m c) (aDkv m c), ?_, ?_⟩
  · exact (θ_run Cert.MemKernelIdeal.defs _ _).mono (fun r h c => ⟨(h c).1.trans (arr_dg m c), (h c).2⟩)
      (Cert.MemKernelIdeal.Value.run_blocks m ρ)
  · refine (θ_run Cert.MemReferenceIdeal.defs _ _).mono (fun r h c => ?_) (Cert.MemReferenceIdeal.Value.run m' ρ')
    obtain ⟨h0, hargs⟩ := h c
    obtain ⟨a0, a1, a2, a3⟩ := hin c
    refine ⟨h0.trans ((Cert.MemReferenceIdeal.Read.val_main_v19_eq _ _ _).trans ?_), hargs⟩
    simp only [a0, a2, a3] <;> rfl
end Cert.MemKernel
end
-- ==== Proof.QrmsReference.lean ====
/- The stages of the reference of the norm before the queries. -/
module

public import proofs.«01_k».proof.Proof.RmsNorm
public import proofs.«01_k».proof.Proof.Gen.QrmsReferenceIdeal.Read
public import Idealize.ShloMosaic.Lib.Pointwise
public import Idealize.ShloMosaic.Lib.IdealHost

@[expose] public section
set_option maxRecDepth 16384
noncomputable section
namespace Cert.QrmsKernel
open Cert.QrmsReferenceIdeal Cert.QrmsReferenceIdeal.Gen Cert.QrmsReferenceIdeal.Read
open Idealize.ShloMosaic Idealize.ShloMosaic.TcCoe Idealize.SL.Sem
open Cert.RmsNorm

variable (x : Vec Ideal S8192x1024 .f32) (g : Vec Ideal S1024 .f32) (w : Vec Ideal S1024x1024 .f32)
  (o dq dx : Vec Ideal S8192x1024 .f32)

/-- A row of the norm's argument, the gradient of the norm's output, and that of the normalised row. -/
def xrow (r : Fin 8192) (k : Fin 1024) : EReal := x (ix2 r k)
def dh (r : Fin 8192) (l : Fin 1024) : EReal := ∑ k : Fin 1024, dq (ix2 r k) * w (ix2 l k)
def dhat (r : Fin 8192) (l : Fin 1024) : EReal := dh w dq r l * g (ix1 l)

theorem ref_ms (r : Fin 8192) : Eq (α := EReal) (val_main_v6 (F := Ideal) x (ix2 r 0)) (ms (xrow x r)) := by
  refine Eq.trans (b := Ideal.div (∑ k : Fin 1024, x (ix2 r k) * x (ix2 r k)) (Ideal.ofBits .f32 0x44800000#32)
    + Ideal.ofBits .f32 0x358637BD#32) ?_ rfl
  pointwise [val_main_v6, val_main_v5, val_main_v4, val_main_v3, val_main_v2, val_main_v1, val_main_v0, val_main_cst,
    val_main_cst_0, val_main_cst_1]
theorem ref_rms (r : Fin 8192) : Eq (α := EReal) (val_main_v7 (F := Ideal) x (ix2 r 0)) (rms (xrow x r) : EReal) := by
  refine Eq.trans (b := Ideal.rsqrt (val_main_v6 (F := Ideal) x (ix2 r 0))) ?_ ?_
  · pointwise [val_main_v7]
  · rw [ref_ms, rms_coe]
/-- The factor a row's mean square passes its gradient on by. -/
theorem ref_slope (r : Fin 8192) : Eq (α := EReal) (val_main_v10 (F := Ideal) x (ix2 r 0))
    (Ideal.ofBits .f32 0xBF000000#32 * Ideal.div (rms (xrow x r) : EReal) (ms (xrow x r))) := by
  rw [← ref_rms, ← ref_ms]
  pointwise [val_main_v10, val_main_v9, val_main_v8, val_main_cst_2]
theorem ref_hat (r : Fin 8192) (l : Fin 1024) :
    Eq (α := EReal) (val_main_v12 (F := Ideal) x (ix2 r l)) (xrow x r l * (rms (xrow x r) : EReal)) := by
  refine Eq.trans (b := x (ix2 r l) * val_main_v7 (F := Ideal) x (ix2 r 0)) ?_ ?_
  · pointwise [val_main_v12, val_main_v11]
  · rw [ref_rms]
    rfl
theorem ref_dh (r : Fin 8192) (l : Fin 1024) : Eq (α := EReal) (val_main_v24 (F := Ideal) w dq (ix2 r l)) (dh w dq r l) := by
  unfold dh
  pointwise [val_main_v24]
theorem ref_dhat (r : Fin 8192) (l : Fin 1024) : Eq (α := EReal) (val_main_v29 (F := Ideal) g w dq (ix2 r l)) (dhat g w dq r l) := by
  refine Eq.trans (b := val_main_v24 (F := Ideal) w dq (ix2 r l) * g (ix1 l)) ?_ ?_
  · pointwise [val_main_v29, val_main_v28, val_main_v13]
  · rw [ref_dh]
    rfl
theorem ref_dms (r : Fin 8192) : Eq (α := EReal) (val_main_v39 (F := Ideal) x g w dq (ix2 r 0)) (dms (xrow x r) (dhat g w dq r)) := by
  refine Eq.trans (b := Ideal.div ((∑ k : Fin 1024, x (ix2 r k) * val_main_v29 (F := Ideal) g w dq (ix2 r k))
    * val_main_v10 (F := Ideal) x (ix2 r 0)) (Ideal.ofBits .f32 0x44800000#32)) ?_ ?_
  · pointwise [val_main_v39, val_main_v38, val_main_v37, val_main_v33, val_main_v32, val_main_v31, val_main_cst_5, val_main_cst_6]
  · simp only [ref_dhat, ref_slope]
    rfl
theorem ref_dx (r : Fin 8192) (l : Fin 1024) : Eq (α := EReal) (val_main_v45 (F := Ideal) x g w dq dx (ix2 r l))
    (dx (ix2 r l) + dnorm (xrow x r) (dhat g w dq r) l) := by
  refine Eq.trans (b := dx (ix2 r l) + val_main_v29 (F := Ideal) g w dq (ix2 r l) * val_main_v7 (F := Ideal) x (ix2 r 0)
    + x (ix2 r l) * (∑ k : Fin 1, val_main_v39 (F := Ideal) x g w dq (ix2 r k))
    + (∑ k : Fin 1, val_main_v39 (F := Ideal) x g w dq (ix2 r k)) * x (ix2 r l)) ?_ ?_
  · pointwise [val_main_v45, val_main_v44, val_main_v43, val_main_v42, val_main_v41, val_main_v40, val_main_v36, val_main_v35,
      val_main_v34, val_main_cst_7]
  · rw [Fin.sum_univ_one, ref_dhat, ref_rms, ref_dms, mul_comm (x _), add_assoc, add_assoc]
    exact congrArg (_ + ·) (chain_rule (xrow x r) (dhat g w dq r) l)

theorem ref_dg (l : Fin 1024) : Eq (α := EReal) (val_main_v46 (F := Ideal) x w dq (ix2 0 l))
    (∑ r : Fin 8192, xrow x r l * (rms (xrow x r) : EReal) * dh w dq r l) := by
  refine Eq.trans (b := ∑ k : Fin 1, ∑ r : Fin 8192, val_main_v12 (F := Ideal) x (ix2 r l) * val_main_v24 (F := Ideal) w dq (ix2 r l)) ?_ ?_
  · pointwise [val_main_v46, val_main_v30, val_main_v27, val_main_v26, val_main_v25, val_main_cst_3, val_main_cst_4]
  · simp only [Fin.sum_univ_one, ref_hat, ref_dh]
theorem ref_dw (d l : Fin 1024) : Eq (α := EReal) (val_main_v47 (F := Ideal) x g dq (ix2 d l))
    (∑ r : Fin 8192, dq (ix2 r l) * val_main_v15 (F := Ideal) x g (ix2 r d)) := by
  pointwise [val_main_v47, val_main_v23, val_main_v22]
theorem ref_dwo (d l : Fin 1024) : Eq (α := EReal) (val_main_v48 (F := Ideal) o dx (ix2 d l))
    (∑ r : Fin 8192, dx (ix2 r l) * o (ix2 r d)) := by
  pointwise [val_main_v48, val_main_v21, val_main_v20, val_main_v19]
end Cert.QrmsKernel
end
-- ==== Proof.QrmsPoint.lean ====
/- What the blocks and the scratch of the call before the queries hold after each grid point. -/
module

public import proofs.«01_k».proof.Proof.QrmsReference
public import proofs.«01_k».proof.Proof.Gen.QrmsKernelIdeal.Frame
public import Idealize.ShloMosaic.Lib.Pipeline.ValueKit
public import Idealize.ShloMosaic.Lib.Pipeline.ReadBack

@[expose] public section
set_option maxRecDepth 16384
noncomputable section
namespace Cert.QrmsKernel
open Cert.QrmsReferenceIdeal.Read
open Cert.QrmsKernelIdeal Cert.QrmsKernelIdeal.Gen Idealize.ShloMosaic Idealize.ShloMosaic.TcCoe Idealize.SL.Sem
open Cert.RmsNorm
variable (m : (ℓ : Loc nD τ sig) → Buf (Elt Ideal) ℓ) (c : Dev nD)

abbrev aX : Vec Ideal S8192x1024 .f32 := m ((c.tc : Thread nD τ).loc main_arg0)
abbrev aG : Vec Ideal S1024 .f32 := m ((c.tc : Thread nD τ).loc main_arg1)
abbrev aW : Vec Ideal S1024x1024 .f32 := m ((c.tc : Thread nD τ).loc main_arg2)
abbrev aO : Vec Ideal S8192x1024 .f32 := m ((c.tc : Thread nD τ).loc main_arg4)
abbrev aDq : Vec Ideal S8192x1024 .f32 := m ((c.tc : Thread nD τ).loc main_arg5)
abbrev aDx : Vec Ideal S8192x1024 .f32 := m ((c.tc : Thread nD τ).loc main_arg6)

/-! ## The windows' blocks: point `t` reads rows `512 t` to `512 t + 511` -/

theorem V_dq (i : S8192x1024.Idx) : V m c main_v13 i = aDq m c i := rfl
theorem V_w (i : S1024x1024.Idx) : V m c main_v14 i = aW m c i := rfl
theorem V_h (i : S8192x1024.Idx) : V m c main_v16 i = val_main_v15 (F := Ideal) (aX m c) (aG m c) i := rfl
theorem V_o (i : S8192x1024.Idx) : V m c main_v17 i = aO m c i := rfl
theorem V_g (z : Fin 1) (l : Fin 1024) : V m c main_v15 (ix2 z l) = aG m c (ix1 l) := by
  have e : V m c main_v15 = broadcastInDim S1x1024 ![1] bcast_S1024_S1x1024_1 (aG m c) := rfl
  rw [e]; pointwise

/-- Row `r` of point `t`'s block, as a row of the array. -/
abbrev row (t : Fin cfg0.N) (r : Fin 512) : Fin 8192 :=
  ⟨512 * t.val + r.val, by have h := lt_of_lt_of_eq t.isLt (show cfg0.N = 16 from N_0); omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![0, 0] ∧ win0_10.index t = ![0, 0] :=
  (by decide +kernel : ∀ t : Fin grid0.N, _)

theorem blk_dq (t : Fin cfg0.N) (r : Fin 512) (l : Fin 1024) : iblk m c 0 t (ix2 r l) = aDq m c (ix2 (row t r) l) := by
  refine Eq.trans ?_ (V_dq m c _)
  blk_point [iblk, idx t]
theorem blk_dx (t : Fin cfg0.N) (r : Fin 512) (l : Fin 1024) : iblk m c 1 t (ix2 r l) = aDx m c (ix2 (row t r) l) := by
  blk_point [iblk, V, idx t]
theorem blk_x (t : Fin cfg0.N) (r : Fin 512) (l : Fin 1024) : iblk m c 2 t (ix2 r l) = aX m c (ix2 (row t r) l) := by
  blk_point [iblk, V, idx t]
theorem blk_h (t : Fin cfg0.N) (r : Fin 512) (l : Fin 1024) : iblk m c 3 t (ix2 r l)
    = val_main_v15 (F := Ideal) (aX m c) (aG m c) (ix2 (row t r) l) := by
  refine Eq.trans ?_ (V_h m c _)
  blk_point [iblk, idx t]
theorem blk_o (t : Fin cfg0.N) (r : Fin 512) (l : Fin 1024) : iblk m c 4 t (ix2 r l) = aO m c (ix2 (row t r) l) := by
  refine Eq.trans ?_ (V_o m c _)
  blk_point [iblk, idx t]
theorem blk_w (t : Fin cfg0.N) (l k : Fin 1024) : iblk m c 5 t (ix2 l k) = aW m c (ix2 l k) := by
  refine Eq.trans ?_ (V_w m c _)
  blk_point [iblk, idx t]
theorem blk_g (t : Fin cfg0.N) (l : Fin 1024) : iblk m c 6 t (ix2 0 l) = aG m c (ix1 l) := by
  refine Eq.trans ?_ (V_g m c 0 l)
  blk_point [iblk, idx t]

/-! ## The body's expressions at an index, over any blocks -/

theorem pay1_at (x : Vec Ideal S512x1024 .f32) (r : Fin 512) : Eq (α := EReal) (k0_pay1 (F := Ideal) x (ix2 r 0))
    (Ideal.rsqrt (ms fun k => x (ix2 r k))) := by
  unfold ms
  pointwise [k0_pay1]
theorem pay2_at (x : Vec Ideal S512x1024 .f32) (r : Fin 512) (l : Fin 1024) : Eq (α := EReal) (k0_pay2 (F := Ideal) x (ix2 r l))
    (x (ix2 r l) * k0_pay1 (F := Ideal) x (ix2 r 0)) := by
  pointwise [k0_pay2]
theorem pay3_at (d : Vec Ideal S512x1024 .f32) (s x : Vec Ideal S512x1024 .f32) (g : Vec Ideal S1x1024 .f32) (r : Fin 512) (l : Fin 1024) :
    Eq (α := EReal) (k0_pay3 (F := Ideal) d s x g (ix2 r l)) (s (ix2 r l) + k0_pay1 (F := Ideal) x (ix2 r 0)
      * (d (ix2 r l) * g (ix2 0 l) - k0_pay2 (F := Ideal) x (ix2 r l)
      * Ideal.div (∑ k : Fin 1024, d (ix2 r k) * g (ix2 0 k) * k0_pay2 (F := Ideal) x (ix2 r k)) (Ideal.ofBits .f32 0x44800000#32))) := by
  pointwise [k0_pay3]
theorem pay4_at (d x : Vec Ideal S512x1024 .f32) (a : Vec Ideal S1x1024 .f32) (l : Fin 1024) :
    Eq (α := EReal) (k0_pay4 (F := Ideal) d x a (ix2 0 l)) (a (ix2 0 l) + ∑ r : Fin 512, d (ix2 r l) * k0_pay2 (F := Ideal) x (ix2 r l)) := by
  pointwise [k0_pay4]
theorem pay10_at (a : Vec Ideal S1024x1024 .f32) (x y : Vec Ideal S512x1024 .bf16) (d l : Fin 1024) :
    k0_pay10 a x y (ix2 d l) = a (ix2 d l) + ∑ r : Fin 512, x (ix2 r d) * y (ix2 r l) := by
  pointwise [k0_pay10]
theorem pay11_at (a : Vec Ideal S1024x1024 .f32) (x : Vec Ideal S512x1024 .bf16) (y : Vec Ideal S512x1024 .f32) (d l : Fin 1024) :
    k0_pay11 a x y (ix2 d l) = a (ix2 d l) + ∑ r : Fin 512, x (ix2 r d) * y (ix2 r l) := by
  pointwise [k0_pay11]
theorem pay12_at (x : Vec Ideal S512x1024 .bf16) (w : Vec Ideal S1024x1024 .bf16) (r : Fin 512) (l : Fin 1024) :
    k0_pay12 x w (ix2 r l) = ∑ k : Fin 1024, x (ix2 r k) * w (ix2 l k) := by
  pointwise [k0_pay12]

/-! ## The body's expressions at a point -/

variable {m c}
theorem rms_point (t : Fin cfg0.N) (r : Fin 512) : Eq (α := EReal) (k0_pay1 (F := Ideal) (iblk m c 2 t) (ix2 r 0))
    (rms (xrow (aX m c) (row t r)) : EReal) := by
  rw [pay1_at, ← rms_coe]
  exact congrArg (fun f => Ideal.rsqrt (ms f)) (funext fun k => blk_x m c t r k)
theorem hat_point (t : Fin cfg0.N) (r : Fin 512) (l : Fin 1024) : Eq (α := EReal) (k0_pay2 (F := Ideal) (iblk m c 2 t) (ix2 r l))
    (xrow (aX m c) (row t r) l * (rms (xrow (aX m c) (row t r)) : EReal)) := by
  rw [pay2_at, rms_point, blk_x]
  rfl
theorem dh_point (t : Fin cfg0.N) (r : Fin 512) (l : Fin 1024) :
    Eq (α := EReal) (k0_pay12 (F := Ideal) (iblk m c 0 t) (iblk m c 5 t) (ix2 r l)) (dh (aW m c) (aDq m c) (row t r) l) := by
  refine (pay12_at _ _ r l).trans (Finset.sum_congr rfl fun k _ => ?_)
  exact Ideal.mul_congr (blk_dq m c t r k) (blk_w m c t l k)
theorem dx_point (t : Fin cfg0.N) (r : Fin 512) (l : Fin 1024) :
    Eq (α := EReal) (k0_pay3 (F := Ideal) (k0_pay12 (F := Ideal) (iblk m c 0 t) (iblk m c 5 t)) (iblk m c 1 t) (iblk m c 2 t) (iblk m c 6 t) (ix2 r l))
      (aDx m c (ix2 (row t r) l) + dnorm (xrow (aX m c) (row t r)) (dhat (aG m c) (aW m c) (aDq m c) (row t r)) l) := by
  rw [pay3_at]
  simp only [dh_point, hat_point, rms_point, blk_dx, blk_g]
  rfl

variable (m c)
/-- What point `t` adds to the gradients of the gain and of the two weights. -/
def dgPart (t : Fin cfg0.N) (l : Fin 1024) : EReal := ∑ r : Fin 512,
  xrow (aX m c) (row t r) l * (rms (xrow (aX m c) (row t r)) : EReal) * dh (aW m c) (aDq m c) (row t r) l
def dwPart (t : Fin cfg0.N) (p : Fin 1024 × Fin 1024) : EReal := ∑ r : Fin 512,
  aDq m c (ix2 (row t r) p.2) * val_main_v15 (F := Ideal) (aX m c) (aG m c) (ix2 (row t r) p.1)
def dwoPart (t : Fin cfg0.N) (p : Fin 1024 × Fin 1024) : EReal := ∑ r : Fin 512,
  aDx m c (ix2 (row t r) p.2) * aO m c (ix2 (row t r) p.1)
variable {m c}

theorem dg_pay (t : Fin cfg0.N) (a : Vec Ideal S1x1024 .f32) (l : Fin 1024) : Eq (α := EReal)
    (k0_pay4 (F := Ideal) (k0_pay12 (F := Ideal) (iblk m c 0 t) (iblk m c 5 t)) (iblk m c 2 t) a (ix2 0 l)) (a (ix2 0 l) + dgPart m c t l) := by
  refine (pay4_at _ _ _ l).trans (congrArg (_ + ·) (Finset.sum_congr rfl fun r _ => ?_))
  rw [dh_point, hat_point, mul_comm]
theorem dw_pay (t : Fin cfg0.N) (a : Vec Ideal S1024x1024 .f32) (p : Fin 1024 × Fin 1024) :
    k0_pay10 (F := Ideal) a (iblk m c 3 t) (iblk m c 0 t) (ix2 p.1 p.2) = a (ix2 p.1 p.2) + dwPart m c t p := by
  refine (pay10_at _ _ _ p.1 p.2).trans (congrArg (_ + ·) (Finset.sum_congr rfl fun r _ => ?_))
  exact (Ideal.mul_congr (blk_h m c t r p.1) (blk_dq m c t r p.2)).trans (mul_comm _ _)
theorem dwo_pay (t : Fin cfg0.N) (a : Vec Ideal S1024x1024 .f32) (p : Fin 1024 × Fin 1024) :
    k0_pay11 (F := Ideal) a (iblk m c 4 t) (iblk m c 1 t) (ix2 p.1 p.2) = a (ix2 p.1 p.2) + dwoPart m c t p := by
  refine (pay11_at _ _ _ p.1 p.2).trans (congrArg (_ + ·) (Finset.sum_congr rfl fun r _ => ?_))
  exact (Ideal.mul_congr (blk_o m c t r p.1) (blk_dx m c t r p.2)).trans (mul_comm _ _)

/-! ## After a point -/

theorem outs_dx (t : Fin cfg0.N) (r : Fin 512) (l : Fin 1024) : Eq (α := EReal) ((outsAt0 m c t.val t.isLt).1 (ix2 r l))
    (aDx m c (ix2 (row t r) l) + dnorm (xrow (aX m c) (row t r)) (dhat (aG m c) (aW m c) (aDq m c) (row t r)) l) := by
  by_cases h0 : t.val % 16 = 0
  · rw [outsAt0_A m c t h0 (by omega)]; frame_out; exact dx_point t r l
  · by_cases h1 : t.val % 16 = 15
    · rw [outsAt0_C m c t h0 h1]; frame_out; exact dx_point t r l
    · rw [outsAt0_B m c t h0 h1]; frame_out; exact dx_point t r l

theorem outs_dg_zero (t : Fin cfg0.N) (h0 : t.val % 16 = 0) (l : Fin 1024) :
    (outsAt0 m c t.val t.isLt).2.1 (ix2 0 l) = 0 + dgPart m c t l := by
  rw [outsAt0_A m c t h0 (by omega)]; frame_out
  refine (dg_pay t _ l).trans (congrArg (· + _) ?_)
  pointwise [k0_pay7]
theorem outs_dg_step (t : Fin cfg0.N) (h0 : ¬ t.val % 16 = 0) (l : Fin 1024) :
    (outsAt0 m c t.val t.isLt).2.1 (ix2 0 l)
      = (outsAt0 m c (t.val - 1) (Nat.lt_of_le_of_lt (Nat.sub_le _ _) t.isLt)).2.1 (ix2 0 l) + dgPart m c t l := by
  by_cases h1 : t.val % 16 = 15
  · rw [outsAt0_C m c t h0 h1]; frame_out; exact dg_pay t _ l
  · rw [outsAt0_B m c t h0 h1]; frame_out; exact dg_pay t _ l
theorem outs_dw_zero (t : Fin cfg0.N) (h0 : t.val % 16 = 0) (p : Fin 1024 × Fin 1024) :
    (outsAt0 m c t.val t.isLt).2.2.2.2.1 (ix2 p.1 p.2) = 0 + dwPart m c t p := by
  rw [outsAt0_A m c t h0 (by omega)]; frame_out
  refine (dw_pay t _ p).trans (congrArg (· + _) ?_)
  pointwise [k0_pay8]
theorem outs_dw_step (t : Fin cfg0.N) (h0 : ¬ t.val % 16 = 0) (p : Fin 1024 × Fin 1024) :
    (outsAt0 m c t.val t.isLt).2.2.2.2.1 (ix2 p.1 p.2)
      = (outsAt0 m c (t.val - 1) (Nat.lt_of_le_of_lt (Nat.sub_le _ _) t.isLt)).2.2.2.2.1 (ix2 p.1 p.2) + dwPart m c t p := by
  by_cases h1 : t.val % 16 = 15
  · rw [outsAt0_C m c t h0 h1]; frame_out; exact (dw_pay t _ p).trans (congrArg (· + _) (congrFun ((Memref.isWhole_whole cc0_scratch0).read_unread _) _))
  · rw [outsAt0_B m c t h0 h1]; frame_out; exact (dw_pay t _ p).trans (congrArg (· + _) (congrFun ((Memref.isWhole_whole cc0_scratch0).read_unread _) _))
theorem outs_dwo_zero (t : Fin cfg0.N) (h0 : t.val % 16 = 0) (p : Fin 1024 × Fin 1024) :
    (outsAt0 m c t.val t.isLt).2.2.2.2.2 (ix2 p.1 p.2) = 0 + dwoPart m c t p := by
  rw [outsAt0_A m c t h0 (by omega)]; frame_out
  refine (dwo_pay t _ p).trans (congrArg (· + _) ?_)
  pointwise [k0_pay9]
theorem outs_dwo_step (t : Fin cfg0.N) (h0 : ¬ t.val % 16 = 0) (p : Fin 1024 × Fin 1024) :
    (outsAt0 m c t.val t.isLt).2.2.2.2.2 (ix2 p.1 p.2)
      = (outsAt0 m c (t.val - 1) (Nat.lt_of_le_of_lt (Nat.sub_le _ _) t.isLt)).2.2.2.2.2 (ix2 p.1 p.2) + dwoPart m c t p := by
  by_cases h1 : t.val % 16 = 15
  · rw [outsAt0_C m c t h0 h1]; frame_out; exact (dwo_pay t _ p).trans (congrArg (· + _) (congrFun ((Memref.isWhole_whole cc0_scratch1).read_unread _) _))
  · rw [outsAt0_B m c t h0 h1]; frame_out; exact (dwo_pay t _ p).trans (congrArg (· + _) (congrFun ((Memref.isWhole_whole cc0_scratch1).read_unread _) _))

/-! ## After the last point: the sums over all rows -/

/-- The sums over the blocks and the rows of a block are the sum over all rows. -/
theorem sum_rows (f : Fin 8192 → EReal) : ∑ p : Fin cfg0.N, ∑ r : Fin 512, f (row p r) = ∑ r : Fin 8192, f r := by
  rw [Fin.sum_univ_tiles 16 512 rfl f]
  refine Fintype.sum_equiv (finCongr N_0) _ _ fun p => Finset.sum_congr rfl fun r _ => congrArg f (Fin.ext ?_)
  show 512 * p.val + r.val = p.val * 512 + r.val
  omega

theorem dg_last (t : Fin cfg0.N) (ht : t.val + 1 = cfg0.N) (l : Fin 1024) : Eq (α := EReal)
    ((outsAt0 m c t.val t.isLt).2.1 (ix2 0 l)) (val_main_v46 (F := Ideal) (aX m c) (aW m c) (aDq m c) (ix2 0 l)) := by
  have e := Pipeline.eq_sum_fin_of_reset_step_apply_last (fun n h (l : Fin 1024) => (outsAt0 m c n h).2.1 (ix2 0 l))
    16 (fun _ => (0 : EReal)) (dgPart m c) outs_dg_zero outs_dg_step (le_of_eq N_0) t ht l
  rw [zero_add] at e
  exact e.trans ((sum_rows fun r => xrow (aX m c) r l * (rms (xrow (aX m c) r) : EReal) * dh (aW m c) (aDq m c) r l).trans (ref_dg _ _ _ l).symm)
theorem dw_last (t : Fin cfg0.N) (ht : t.val + 1 = cfg0.N) (d l : Fin 1024) : Eq (α := EReal)
    ((outsAt0 m c t.val t.isLt).2.2.1 (ix2 d l)) (val_main_v47 (F := Ideal) (aX m c) (aG m c) (aDq m c) (ix2 d l)) := by
  have e := Pipeline.eq_sum_fin_of_reset_step_apply_last (fun n h (p : Fin 1024 × Fin 1024) => (outsAt0 m c n h).2.2.2.2.1 (ix2 p.1 p.2))
    16 (fun _ => (0 : EReal)) (dwPart m c) outs_dw_zero outs_dw_step (le_of_eq N_0) t ht (d, l)
  rw [zero_add] at e
  refine Eq.trans ?_ (e.trans ((sum_rows fun r => aDq m c (ix2 r l) * val_main_v15 (F := Ideal) (aX m c) (aG m c) (ix2 r d)).trans (ref_dw _ _ _ d l).symm))
  dsimp only
  have ht' : t.val + 1 = 16 := ht.trans N_0
  rw [outsAt0_C m c t (by omega) (by omega)]; frame_out
  pointwise [k0_pay5]
theorem dwo_last (t : Fin cfg0.N) (ht : t.val + 1 = cfg0.N) (d l : Fin 1024) : Eq (α := EReal)
    ((outsAt0 m c t.val t.isLt).2.2.2.1 (ix2 d l)) (val_main_v48 (F := Ideal) (aO m c) (aDx m c) (ix2 d l)) := by
  have e := Pipeline.eq_sum_fin_of_reset_step_apply_last (fun n h (p : Fin 1024 × Fin 1024) => (outsAt0 m c n h).2.2.2.2.2 (ix2 p.1 p.2))
    16 (fun _ => (0 : EReal)) (dwoPart m c) outs_dwo_zero outs_dwo_step (le_of_eq N_0) t ht (d, l)
  rw [zero_add] at e
  refine Eq.trans ?_ (e.trans ((sum_rows fun r => aDx m c (ix2 r l) * aO m c (ix2 r d)).trans (ref_dwo _ _ d l).symm))
  dsimp only
  have ht' : t.val + 1 = 16 := ht.trans N_0
  rw [outsAt0_C m c t (by omega) (by omega)]; frame_out
  pointwise [k0_pay6]
end Cert.QrmsKernel
end
-- ==== Proof.Qrms.lean ====
/- The claims about the call before the queries, assembled. -/
module

public import proofs.«01_k».proof.Defs
public import proofs.«01_k».proof.Proof.QrmsPoint
public import proofs.«01_k».proof.Proof.Gen.QrmsKernel
public import proofs.«01_k».proof.Proof.Gen.QrmsKernelIdeal.Value
public import proofs.«01_k».proof.Proof.Gen.QrmsReferenceIdeal.Run

@[expose] public section
set_option maxRecDepth 16384
noncomputable section
namespace Cert.QrmsKernel
open Idealize.ShloMosaic Idealize.ShloMosaic.TcCoe Idealize.SL.Sem
open Cert.QrmsReferenceIdeal.Read

section Arrays
open Cert.QrmsKernelIdeal Cert.QrmsKernelIdeal.Gen
variable {m : (ℓ : Loc nD τ sig) → Buf (Elt Ideal) ℓ} {c : Dev nD}

theorem arr_dx : Eq (α := S8192x1024.Idx → EReal) ((dats m 0 c).arrAt 7 cfg0.N)
    (val_main_v45 (F := Ideal) (aX m c) (aG m c) (aW m c) (aDq m c) (aDx m c)) := by
  refine (dats m 0 c).arrAt_eq_of_covers 7 _ (by decide +kernel) fun t _ y => ?_
  blk_simp
  rw [after0_7]
  obtain ⟨r, l, rfl⟩ : ∃ (r : Fin 512) (l : Fin 1024), y = ix2 r l := ⟨y 0, y 1, by idx_vars y⟩
  refine ((outs_dx t r l).trans (ref_dx _ _ _ _ _ (row t r) l).symm).trans ?_
  blk_ext [idx t]

/-- The point an accumulated array is written at is the last. -/
theorem last_of {t : Fin cfg0.N} (h : t.val % 16 = 15) : t.val + 1 = cfg0.N := by
  have hl : t.val < 16 := lt_of_lt_of_eq t.isLt N_0
  have hs : t.val + 1 = 16 := by omega
  exact hs.trans N_0.symm

theorem arr_dg : Eq (α := S1x1024.Idx → EReal) ((dats m 0 c).arrAt 8 cfg0.N)
    (val_main_v46 (F := Ideal) (aX m c) (aW m c) (aDq m c)) := by
  refine (dats m 0 c).arrAt_eq_of_covers 8 _ (by decide +kernel) fun t ht y => ?_
  blk_simp
  rw [after0_8]
  obtain ⟨z, l, rfl⟩ : ∃ (z : Fin 1) (l : Fin 1024), y = ix2 z l := ⟨y 0, y 1, by idx_vars y⟩
  obtain rfl : z = 0 := Subsingleton.elim _ _
  refine (dg_last t (last_of ((flush0_8 t).mp ht)) l).trans ?_
  blk_ext [idx t]
theorem arr_dw : Eq (α := S1024x1024.Idx → EReal) ((dats m 0 c).arrAt 9 cfg0.N)
    (val_main_v47 (F := Ideal) (aX m c) (aG m c) (aDq m c)) := by
  refine (dats m 0 c).arrAt_eq_of_covers 9 _ (by decide +kernel) fun t ht y => ?_
  blk_simp
  rw [after0_9]
  obtain ⟨d, l, rfl⟩ : ∃ (d : Fin 1024) (l : Fin 1024), y = ix2 d l := ⟨y 0, y 1, by idx_vars y⟩
  refine (dw_last t (last_of ((flush0_9 t).mp ht)) d l).trans ?_
  blk_ext [idx t]
theorem arr_dwo : Eq (α := S1024x1024.Idx → EReal) ((dats m 0 c).arrAt 10 cfg0.N)
    (val_main_v48 (F := Ideal) (aO m c) (aDx m c)) := by
  refine (dats m 0 c).arrAt_eq_of_covers 10 _ (by decide +kernel) fun t ht y => ?_
  blk_simp
  rw [after0_10]
  obtain ⟨d, l, rfl⟩ : ∃ (d : Fin 1024) (l : Fin 1024), y = ix2 d l := ⟨y 0, y 1, by idx_vars y⟩
  refine (dwo_last t (last_of ((flush0_10 t).mp ht)) d l).trans ?_
  blk_ext [idx t]
end Arrays

/-- The two programs have one text, so at the bits they are one program. -/
theorem defs_eq : Cert.QrmsKernel.defs (F := Bits) = Cert.QrmsKernelIdeal.defs (F := Bits) := by sl_kernel_rfl
theorem main_eq : Cert.QrmsKernel.main (F := Bits) = Cert.QrmsKernelIdeal.main (F := Bits) := by sl_kernel_rfl

/-- The run of the ideal program holds over any floats: at the bits it is the run of the program itself. -/
theorem frame_bits : Cert.quiescent_QrmsKernel := fun m ρ _ => by
  rw [defs_eq, main_eq]
  exact Cert.QrmsKernelIdeal.Gen.frame (F := Bits) m ρ

theorem frame_ideal : Cert.quiescent_QrmsKernelIdeal := fun m ρ _ => Cert.QrmsKernelIdeal.Gen.frame m ρ

theorem frame_reference : Cert.quiescent_QrmsReferenceIdeal := fun m ρ _ =>
  (θ_run Cert.QrmsReferenceIdeal.defs _ _).mono (fun r h => ⟨fun c => (h c).2.2.2.2,
    Idealize.ShloMosaic.sem_eq_zero_of_no_sems (by decide) r.2⟩) (Cert.QrmsReferenceIdeal.Value.run m ρ)

theorem equal : Cert.algebraic_QrmsKernelIdeal_QrmsReferenceIdeal := fun m ρ m' ρ' _ hin => by
  refine ⟨fun c => val_main_v45 (F := Ideal) (aX m c) (aG m c) (aW m c) (aDq m c) (aDx m c),
    fun c => val_main_v46 (F := Ideal) (aX m c) (aW m c) (aDq m c), fun c => val_main_v47 (F := Ideal) (aX m c) (aG m c) (aDq m c),
    fun c => val_main_v48 (F := Ideal) (aO m c) (aDx m c), ?_, ?_⟩
  · refine (θ_run Cert.QrmsKernelIdeal.defs _ _).mono (fun r h c => ?_) (Cert.QrmsKernelIdeal.Value.run_blocks m ρ)
    obtain ⟨h0, h1, h2, h3, hargs⟩ := h c
    exact ⟨h0.trans arr_dx, h1.trans arr_dg, h2.trans arr_dw, h3.trans arr_dwo, hargs⟩
  · refine (θ_run Cert.QrmsReferenceIdeal.defs _ _).mono (fun r h c => ?_) (Cert.QrmsReferenceIdeal.Value.run m' ρ')
    obtain ⟨h0, h1, h2, h3, hargs⟩ := h c
    obtain ⟨a0, a1, a2, a3, a4, a5, a6⟩ := hin c
    refine ⟨h0.trans ((val_main_v45_eq m' c).trans ?_), h1.trans ((val_main_v46_eq _ _ _).trans ?_),
      h2.trans ((val_main_v47_eq _ _ _).trans ?_), h3.trans ((val_main_v48_eq _ _).trans ?_), hargs⟩ <;>
    simp only [a0, a1, a2, a4, a5, a6] <;> rfl
end Cert.QrmsKernel
end
-- ==== Proof.InReference.lean ====
/- The stages of the reference of the norm before the input projection. -/
module

public import proofs.«01_k».proof.Proof.QrmsReference
public import proofs.«01_k».proof.Proof.Gen.InReferenceIdeal.Read
public import Idealize.ShloMosaic.Lib.Pointwise
public import Idealize.ShloMosaic.Lib.IdealHost

@[expose] public section
set_option maxRecDepth 16384
noncomputable section
namespace Cert.InKernel
open Cert.InReferenceIdeal Cert.InReferenceIdeal.Gen Cert.InReferenceIdeal.Read
open Idealize.ShloMosaic Idealize.ShloMosaic.TcCoe Idealize.SL.Sem
open Cert.RmsNorm

variable (x : Vec Ideal S8192x1024 .f32) (g : Vec Ideal S1024 .f32) (w : Vec Ideal S1024x6144 .f32)
  (dp : Vec Ideal S8192x6144 .f32) (dx : Vec Ideal S8192x1024 .f32)

/-- A row of the norm's argument, the gradient of the norm's output, and that of the normalised row. -/
def xrow (r : Fin 8192) (k : Fin 1024) : EReal := x (ix2 r k)
def dh (r : Fin 8192) (l : Fin 1024) : EReal := ∑ k : Fin 6144, dp (ix2 r k) * w (ix2 l k)
def dhat (r : Fin 8192) (l : Fin 1024) : EReal := dh w dp r l * g (ix1 l)

/-! The norm's forward stages are those of the reference of the norm before the queries. -/

theorem ref_rms (r : Fin 8192) : Eq (α := EReal) (val_main_v7 (F := Ideal) x (ix2 r 0)) (rms (xrow x r) : EReal) :=
  Cert.QrmsKernel.ref_rms x r
theorem ref_slope (r : Fin 8192) : Eq (α := EReal) (val_main_v10 (F := Ideal) x (ix2 r 0))
    (Ideal.ofBits .f32 0xBF000000#32 * Ideal.div (rms (xrow x r) : EReal) (ms (xrow x r))) := Cert.QrmsKernel.ref_slope x r
theorem ref_hat (r : Fin 8192) (l : Fin 1024) :
    Eq (α := EReal) (val_main_v12 (F := Ideal) x (ix2 r l)) (xrow x r l * (rms (xrow x r) : EReal)) := Cert.QrmsKernel.ref_hat x r l

theorem ref_dh (r : Fin 8192) (l : Fin 1024) : Eq (α := EReal) (val_main_v17 (F := Ideal) w dp (ix2 r l)) (dh w dp r l) := by
  unfold dh
  pointwise [val_main_v17]
theorem ref_dhat (r : Fin 8192) (l : Fin 1024) : Eq (α := EReal) (val_main_v22 (F := Ideal) g w dp (ix2 r l)) (dhat g w dp r l) := by
  refine Eq.trans (b := val_main_v17 (F := Ideal) w dp (ix2 r l) * g (ix1 l)) ?_ ?_
  · pointwise [val_main_v22, val_main_v21, val_main_v13]
  · rw [ref_dh]
    rfl
theorem ref_dms (r : Fin 8192) : Eq (α := EReal) (val_main_v32 (F := Ideal) x g w dp (ix2 r 0)) (dms (xrow x r) (dhat g w dp r)) := by
  refine Eq.trans (b := Ideal.div ((∑ k : Fin 1024, x (ix2 r k) * val_main_v22 (F := Ideal) g w dp (ix2 r k))
    * val_main_v10 (F := Ideal) x (ix2 r 0)) (Ideal.ofBits .f32 0x44800000#32)) ?_ ?_
  · pointwise [val_main_v32, val_main_v31, val_main_v30, val_main_v26, val_main_v25, val_main_v24, val_main_cst_5, val_main_cst_6]
  · simp only [ref_dhat, ref_slope]
    rfl
theorem ref_dx (r : Fin 8192) (l : Fin 1024) : Eq (α := EReal) (val_main_v38 (F := Ideal) x g w dp dx (ix2 r l))
    (dx (ix2 r l) + dnorm (xrow x r) (dhat g w dp r) l) := by
  refine Eq.trans (b := dx (ix2 r l) + val_main_v22 (F := Ideal) g w dp (ix2 r l) * val_main_v7 (F := Ideal) x (ix2 r 0)
    + x (ix2 r l) * (∑ k : Fin 1, val_main_v32 (F := Ideal) x g w dp (ix2 r k))
    + (∑ k : Fin 1, val_main_v32 (F := Ideal) x g w dp (ix2 r k)) * x (ix2 r l)) ?_ ?_
  · pointwise [val_main_v38, val_main_v37, val_main_v36, val_main_v35, val_main_v34, val_main_v33, val_main_v29, val_main_v28,
      val_main_v27, val_main_cst_7]
  · rw [Fin.sum_univ_one, ref_dhat, ref_rms, ref_dms, mul_comm (x _), add_assoc, add_assoc]
    exact congrArg (_ + ·) (chain_rule (xrow x r) (dhat g w dp r) l)

theorem ref_dg (l : Fin 1024) : Eq (α := EReal) (val_main_v39 (F := Ideal) x w dp (ix2 0 l))
    (∑ r : Fin 8192, xrow x r l * (rms (xrow x r) : EReal) * dh w dp r l) := by
  refine Eq.trans (b := ∑ k : Fin 1, ∑ r : Fin 8192, val_main_v12 (F := Ideal) x (ix2 r l) * val_main_v17 (F := Ideal) w dp (ix2 r l)) ?_ ?_
  · pointwise [val_main_v39, val_main_v23, val_main_v20, val_main_v19, val_main_v18, val_main_cst_3, val_main_cst_4]
  · simp only [Fin.sum_univ_one, ref_hat, ref_dh]
end Cert.InKernel
end
-- ==== Proof.InPoint.lean ====
/- What the blocks of the call before the input projection hold after each grid point. -/
module

public import proofs.«01_k».proof.Proof.InReference
public import proofs.«01_k».proof.Proof.Gen.InKernelIdeal.Frame
public import Idealize.ShloMosaic.Lib.Pipeline.ValueKit
public import Idealize.ShloMosaic.Lib.Pipeline.ReadBack

@[expose] public section
set_option maxRecDepth 16384
noncomputable section
namespace Cert.InKernel
open Cert.InReferenceIdeal.Read
open Cert.InKernelIdeal Cert.InKernelIdeal.Gen Idealize.ShloMosaic Idealize.ShloMosaic.TcCoe Idealize.SL.Sem
open Cert.RmsNorm
variable (m : (ℓ : Loc nD τ sig) → Buf (Elt Ideal) ℓ) (c : Dev nD)

abbrev aX : Vec Ideal S8192x1024 .f32 := m ((c.tc : Thread nD τ).loc main_arg0)
abbrev aG : Vec Ideal S1024 .f32 := m ((c.tc : Thread nD τ).loc main_arg1)
abbrev aW : Vec Ideal S1024x6144 .f32 := m ((c.tc : Thread nD τ).loc main_arg2)
abbrev aDp : Vec Ideal S8192x6144 .f32 := m ((c.tc : Thread nD τ).loc main_arg3)
abbrev aDx : Vec Ideal S8192x1024 .f32 := m ((c.tc : Thread nD τ).loc main_arg4)

/-! ## The windows' blocks: point `t` reads rows `512 t` to `512 t + 511`; the weight comes in eight blocks of columns -/

/-- Column `k` of block `j`, as a column of the array. -/
abbrev col (j : Fin 8) (k : Fin 768) : Fin 6144 := ⟨768 * j.val + k.val, by omega⟩

theorem V_dp (i : S8192x6144.Idx) : V m c main_v2 i = aDp m c i := rfl
theorem V_w (j : Fin 8) (l : Fin 1024) (k : Fin 768) : V m c main_v3 (ix3 j l k) = aW m c (ix2 l (col j k)) := by
  have e : V m c main_v3 = transpose S8x1024x768 [1, 0, 2] (shapeCast S1024x8x768 (aW m c) shapeCasts_S1024x6144_S1024x8x768)
    transposes_S1024x8x768_S8x1024x768_1_0_2 := rfl
  rw [e]; pointwise
  exact congrArg (fun i => aW m c (ix2 l i)) (Fin.ext (congrArg (· + k.val) (Nat.mul_comm _ _)))
theorem V_g (z : Fin 1) (l : Fin 1024) : V m c main_v4 (ix2 z l) = aG m c (ix1 l) := by
  have e : V m c main_v4 = broadcastInDim S1x1024 ![1] bcast_S1024_S1x1024_1 (aG m c) := rfl
  rw [e]; pointwise

/-- Row `r` of point `t`'s block, as a row of the array. -/
abbrev row (t : Fin cfg0.N) (r : Fin 512) : Fin 8192 :=
  ⟨512 * t.val + r.val, by have h := lt_of_lt_of_eq t.isLt (show cfg0.N = 16 from N_0); omega⟩

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![0, 0] :=
  (by decide +kernel : ∀ t : Fin grid0.N, _)

theorem blk_dp (t : Fin cfg0.N) (r : Fin 512) (l : Fin 6144) : iblk m c 0 t (ix2 r l) = aDp m c (ix2 (row t r) l) := by
  refine Eq.trans ?_ (V_dp m c _)
  blk_point [iblk, idx t]
theorem blk_dx (t : Fin cfg0.N) (r : Fin 512) (l : Fin 1024) : iblk m c 1 t (ix2 r l) = aDx m c (ix2 (row t r) l) := by
  blk_point [iblk, V, idx t]
theorem blk_x (t : Fin cfg0.N) (r : Fin 512) (l : Fin 1024) : iblk m c 2 t (ix2 r l) = aX m c (ix2 (row t r) l) := by
  blk_point [iblk, V, idx t]
theorem blk_w (t : Fin cfg0.N) (j : Fin 8) (l : Fin 1024) (k : Fin 768) : iblk m c 3 t (ix3 j l k) = aW m c (ix2 l (col j k)) := by
  refine Eq.trans ?_ (V_w m c j l k)
  blk_point [iblk, idx t]
theorem blk_g (t : Fin cfg0.N) (l : Fin 1024) : iblk m c 4 t (ix2 0 l) = aG m c (ix1 l) := by
  refine Eq.trans ?_ (V_g m c 0 l)
  blk_point [iblk, idx t]

/-- Two loads that give what block `j` of the columns adds to the gradient of the norm's output. -/
def IsBlock (t : Fin cfg0.N) (j : Fin 8) (x : Vec Ideal S512x768 .bf16) (w : Vec Ideal S1x1024x768 .bf16) : Prop :=
  ∀ (r : Fin 512) (l : Fin 1024), ∑ k : Fin 768, x (ix2 r k) * w (ix3 0 l k)
    = ∑ k : Fin 768, aDp m c (ix2 (row t r) (col j k)) * aW m c (ix2 l (col j k))

theorem ldBlock (t : Fin cfg0.N) (j : Fin 8) (o o' : Nat) (ho : o = 768 * j.val) (ho' : o' = j.val)
    (hx : ∀ a, (![0, o] : Fin 2 → Nat) a + S512x768.size a ≤ S512x6144.size a)
    (hw : ∀ a, (![o', 0, 0] : Fin 3 → Nat) a + S1x1024x768.size a ≤ S8x1024x768.size a) :
    IsBlock m c t j (View.ld (iblk m c 0 t) (Rect.unit ![0, o] S512x768.size hx))
      (View.ld (iblk m c 3 t) (Rect.unit ![o', 0, 0] S1x1024x768.size hw)) := fun r l => by
  subst ho ho'
  refine Finset.sum_congr rfl fun k _ => Ideal.mul_congr ?_ ?_
  · refine Eq.trans ?_ (blk_dp m c t r (col j k))
    pointwise
  · refine Eq.trans ?_ (blk_w m c t j l k)
    pointwise

/-! ## The body's expressions at an index, over any blocks -/

theorem pay1_at (v : Vec Ideal S512x1 .f32) (s : Ideal .f32) (r : Fin 512) :
    Eq (α := EReal) (k0_pay1 (F := Ideal) v s (ix2 r 0)) (Ideal.rsqrt (v (ix2 r 0) + s)) := by
  pointwise [k0_pay1]
theorem pay10_at (x : Vec Ideal S512x1024 .f32) (r : Fin 512) : Eq (α := EReal) (k0_pay10 (F := Ideal) x (ix2 r 0))
    (Ideal.div (∑ k : Fin 1024, x (ix2 r k) * x (ix2 r k)) (Ideal.ofBits .f32 0x44800000#32)) := by
  pointwise [k0_pay10]
theorem pay2_at (x : Vec Ideal S512x1024 .f32) (v : Vec Ideal S512x1 .f32) (s : Ideal .f32) (r : Fin 512) (l : Fin 1024) :
    Eq (α := EReal) (k0_pay2 (F := Ideal) x v s (ix2 r l)) (x (ix2 r l) * k0_pay1 (F := Ideal) v s (ix2 r 0)) := by
  pointwise [k0_pay2]
theorem pay3_at (d s x : Vec Ideal S512x1024 .f32) (g : Vec Ideal S1x1024 .f32) (v : Vec Ideal S512x1 .f32) (e : Ideal .f32)
    (r : Fin 512) (l : Fin 1024) :
    Eq (α := EReal) (k0_pay3 (F := Ideal) d s x g v e (ix2 r l)) (s (ix2 r l) + k0_pay1 (F := Ideal) v e (ix2 r 0)
      * (d (ix2 r l) * g (ix2 0 l) - k0_pay2 (F := Ideal) x v e (ix2 r l)
      * Ideal.div (∑ k : Fin 1024, d (ix2 r k) * g (ix2 0 k) * k0_pay2 (F := Ideal) x v e (ix2 r k)) (Ideal.ofBits .f32 0x44800000#32))) := by
  pointwise [k0_pay3]
theorem pay4_at (d x : Vec Ideal S512x1024 .f32) (v : Vec Ideal S512x1 .f32) (e : Ideal .f32) (a : Vec Ideal S1x1024 .f32) (l : Fin 1024) :
    Eq (α := EReal) (k0_pay4 (F := Ideal) d x v e a (ix2 0 l))
      (a (ix2 0 l) + ∑ r : Fin 512, d (ix2 r l) * k0_pay2 (F := Ideal) x v e (ix2 r l)) := by
  pointwise [k0_pay4]
theorem pay9_at (g : Vec Ideal S1x1024 .f32) (l : Fin 1024) : k0_pay9 g (ix2 0 l) = g (ix2 0 l) := by
  pointwise [k0_pay9]
theorem pay6_at (x0 x1 x2 x3 : Vec Ideal S512x768 .bf16) (w0 w1 w2 w3 : Vec Ideal S1x1024x768 .bf16) (r : Fin 512) (l : Fin 1024) :
    k0_pay6 x0 w0 x1 w1 x2 w2 x3 w3 (ix2 r l) = ∑ k : Fin 768, x0 (ix2 r k) * w0 (ix3 0 l k) + ∑ k : Fin 768, x1 (ix2 r k) * w1 (ix3 0 l k)
      + ∑ k : Fin 768, x2 (ix2 r k) * w2 (ix3 0 l k) + ∑ k : Fin 768, x3 (ix2 r k) * w3 (ix3 0 l k) := by
  pointwise [k0_pay6]
theorem pay8_at (a : Vec Ideal S512x1024 .f32) (x0 x1 x2 x3 : Vec Ideal S512x768 .bf16) (w0 w1 w2 w3 : Vec Ideal S1x1024x768 .bf16)
    (r : Fin 512) (l : Fin 1024) : k0_pay8 a (k0_pay7 x0) w0 x1 w1 x2 w2 x3 w3 (ix2 r l) = a (ix2 r l)
      + ∑ k : Fin 768, x0 (ix2 r k) * w0 (ix3 0 l k) + ∑ k : Fin 768, x1 (ix2 r k) * w1 (ix3 0 l k)
      + ∑ k : Fin 768, x2 (ix2 r k) * w2 (ix3 0 l k) + ∑ k : Fin 768, x3 (ix2 r k) * w3 (ix3 0 l k) := by
  pointwise [k0_pay8, k0_pay7]

/-! ## The body's expressions at a point -/

variable {m c}
theorem dh_at {t : Fin cfg0.N} {x0 x1 x2 x3 x4 x5 x6 x7 : Vec Ideal S512x768 .bf16} {w0 w1 w2 w3 w4 w5 w6 w7 : Vec Ideal S1x1024x768 .bf16}
    (b0 : IsBlock m c t 0 x0 w0) (b1 : IsBlock m c t 1 x1 w1) (b2 : IsBlock m c t 2 x2 w2) (b3 : IsBlock m c t 3 x3 w3)
    (b4 : IsBlock m c t 4 x4 w4) (b5 : IsBlock m c t 5 x5 w5) (b6 : IsBlock m c t 6 x6 w6) (b7 : IsBlock m c t 7 x7 w7)
    (r : Fin 512) (l : Fin 1024) : Eq (α := EReal)
    (k0_pay8 (F := Ideal) (k0_pay6 (F := Ideal) x0 w0 x1 w1 x2 w2 x3 w3) (k0_pay7 (F := Ideal) x4) w4 x5 w5 x6 w6 x7 w7 (ix2 r l))
    (dh (aW m c) (aDp m c) (row t r) l) := by
  rw [pay8_at, pay6_at, b0, b1, b2, b3, b4, b5, b6, b7, dh,
    Fin.sum_univ_tiles 8 768 rfl (fun k => aDp m c (ix2 (row t r) k) * aW m c (ix2 l k)), Fin.sum_univ_eight]
  rfl

theorem rms_point (t : Fin cfg0.N) (r : Fin 512) : Eq (α := EReal)
    (k0_pay1 (F := Ideal) (k0_pay10 (F := Ideal) (iblk m c 2 t)) (Ideal.ofBits .f32 0x358637BD#32) (ix2 r 0))
    (rms (xrow (aX m c) (row t r)) : EReal) := by
  rw [pay1_at, pay10_at, ← rms_coe]
  exact congrArg (fun f => Ideal.rsqrt (ms f)) (funext fun k => blk_x m c t r k)
theorem hat_point (t : Fin cfg0.N) (r : Fin 512) (l : Fin 1024) : Eq (α := EReal)
    (k0_pay2 (F := Ideal) (iblk m c 2 t) (k0_pay10 (F := Ideal) (iblk m c 2 t)) (Ideal.ofBits .f32 0x358637BD#32) (ix2 r l))
    (xrow (aX m c) (row t r) l * (rms (xrow (aX m c) (row t r)) : EReal)) := by
  rw [pay2_at, rms_point, blk_x]
  rfl
theorem dx_at (t : Fin cfg0.N) (d : Vec Ideal S512x1024 .f32) (hd : ∀ r l, d (ix2 r l) = dh (aW m c) (aDp m c) (row t r) l)
    (r : Fin 512) (l : Fin 1024) : Eq (α := EReal)
    (k0_pay3 (F := Ideal) d (iblk m c 1 t) (iblk m c 2 t) (k0_pay9 (F := Ideal) (iblk m c 4 t)) (k0_pay10 (F := Ideal) (iblk m c 2 t))
      (Ideal.ofBits .f32 0x358637BD#32) (ix2 r l))
      (aDx m c (ix2 (row t r) l) + dnorm (xrow (aX m c) (row t r)) (dhat (aG m c) (aW m c) (aDp m c) (row t r)) l) := by
  rw [pay3_at]
  simp only [hd, hat_point, rms_point, blk_dx, pay9_at, blk_g]
  rfl

variable (m c)
/-- What point `t` adds to the gradient of the gain. -/
def dgPart (t : Fin cfg0.N) (l : Fin 1024) : EReal := ∑ r : Fin 512,
  xrow (aX m c) (row t r) l * (rms (xrow (aX m c) (row t r)) : EReal) * dh (aW m c) (aDp m c) (row t r) l
variable {m c}
theorem dg_at (t : Fin cfg0.N) (d : Vec Ideal S512x1024 .f32) (hd : ∀ r l, d (ix2 r l) = dh (aW m c) (aDp m c) (row t r) l)
    (a : Vec Ideal S1x1024 .f32) (l : Fin 1024) : Eq (α := EReal)
    (k0_pay4 (F := Ideal) d (iblk m c 2 t) (k0_pay10 (F := Ideal) (iblk m c 2 t)) (Ideal.ofBits .f32 0x358637BD#32) a (ix2 0 l))
    (a (ix2 0 l) + dgPart m c t l) := by
  refine (pay4_at _ _ _ _ _ l).trans (congrArg (_ + ·) (Finset.sum_congr rfl fun r _ => ?_))
  rw [hd, hat_point, mul_comm]

/-! ## After a point -/

theorem outs_dx (t : Fin cfg0.N) (r : Fin 512) (l : Fin 1024) : Eq (α := EReal) ((outsAt0 m c t.val t.isLt).1 (ix2 r l))
    (aDx m c (ix2 (row t r) l) + dnorm (xrow (aX m c) (row t r)) (dhat (aG m c) (aW m c) (aDp m c) (row t r)) l) := by
  by_cases h0 : t.val % 16 = 0
  on_goal 1 => rw [outsAt0_A m c t h0]
  on_goal 2 => rw [outsAt0_B m c t h0]
  all_goals
    frame_out
    refine dx_at t _ (dh_at ?_ ?_ ?_ ?_ ?_ ?_ ?_ ?_) r l <;> exact ldBlock m c t _ _ _ rfl rfl _ _
theorem outs_dg_zero (t : Fin cfg0.N) (h0 : t.val % 16 = 0) (l : Fin 1024) :
    (outsAt0 m c t.val t.isLt).2 (ix2 0 l) = 0 + dgPart m c t l := by
  rw [outsAt0_A m c t h0]; frame_out
  refine (dg_at t _ (dh_at ?_ ?_ ?_ ?_ ?_ ?_ ?_ ?_) _ l).trans (congrArg (· + _) ?_)
  on_goal 9 => pointwise [k0_pay5]
  all_goals exact ldBlock m c t _ _ _ rfl rfl _ _
theorem outs_dg_step (t : Fin cfg0.N) (h0 : ¬ t.val % 16 = 0) (l : Fin 1024) :
    (outsAt0 m c t.val t.isLt).2 (ix2 0 l)
      = (outsAt0 m c (t.val - 1) (Nat.lt_of_le_of_lt (Nat.sub_le _ _) t.isLt)).2 (ix2 0 l) + dgPart m c t l := by
  rw [outsAt0_B m c t h0]; frame_out
  refine dg_at t _ (dh_at ?_ ?_ ?_ ?_ ?_ ?_ ?_ ?_) _ l <;> exact ldBlock m c t _ _ _ rfl rfl _ _

/-! ## After the last point: the sums over all rows -/

/-- The sums over the blocks and the rows of a block are the sum over all rows. -/
theorem sum_rows (f : Fin 8192 → EReal) : ∑ p : Fin cfg0.N, ∑ r : Fin 512, f (row p r) = ∑ r : Fin 8192, f r := by
  rw [Fin.sum_univ_tiles 16 512 rfl f]
  refine Fintype.sum_equiv (finCongr N_0) _ _ fun p => Finset.sum_congr rfl fun r _ => congrArg f (Fin.ext ?_)
  show 512 * p.val + r.val = p.val * 512 + r.val
  omega

theorem dg_last (t : Fin cfg0.N) (ht : t.val + 1 = cfg0.N) (l : Fin 1024) : Eq (α := EReal)
    ((outsAt0 m c t.val t.isLt).2 (ix2 0 l)) (val_main_v39 (F := Ideal) (aX m c) (aW m c) (aDp m c) (ix2 0 l)) := by
  have e := Pipeline.eq_sum_fin_of_reset_step_apply_last (fun n h (l : Fin 1024) => (outsAt0 m c n h).2 (ix2 0 l))
    16 (fun _ => (0 : EReal)) (dgPart m c) outs_dg_zero outs_dg_step (le_of_eq N_0) t ht l
  rw [zero_add] at e
  exact e.trans ((sum_rows fun r => xrow (aX m c) r l * (rms (xrow (aX m c) r) : EReal) * dh (aW m c) (aDp m c) r l).trans (ref_dg _ _ _ l).symm)
end Cert.InKernel
end
-- ==== Proof.In.lean ====
/- The claims about the call before the input projection, assembled. -/
module

public import proofs.«01_k».proof.Defs
public import proofs.«01_k».proof.Proof.InPoint
public import proofs.«01_k».proof.Proof.Gen.InKernel
public import proofs.«01_k».proof.Proof.Gen.InKernelIdeal.Value
public import proofs.«01_k».proof.Proof.Gen.InReferenceIdeal.Run

@[expose] public section
set_option maxRecDepth 16384
noncomputable section
namespace Cert.InKernel
open Idealize.ShloMosaic Idealize.ShloMosaic.TcCoe Idealize.SL.Sem
open Cert.InReferenceIdeal.Read

section Arrays
open Cert.InKernelIdeal Cert.InKernelIdeal.Gen
variable {m : (ℓ : Loc nD τ sig) → Buf (Elt Ideal) ℓ} {c : Dev nD}

theorem arr_dx : Eq (α := S8192x1024.Idx → EReal) ((dats m 0 c).arrAt 5 cfg0.N)
    (val_main_v38 (F := Ideal) (aX m c) (aG m c) (aW m c) (aDp m c) (aDx m c)) := by
  refine (dats m 0 c).arrAt_eq_of_covers 5 _ (by decide +kernel) fun t _ y => ?_
  blk_simp
  rw [after0_5]
  obtain ⟨r, l, rfl⟩ : ∃ (r : Fin 512) (l : Fin 1024), y = ix2 r l := ⟨y 0, y 1, by idx_vars y⟩
  refine ((outs_dx t r l).trans (ref_dx _ _ _ _ _ (row t r) l).symm).trans ?_
  blk_ext [idx t]

/-- The point an accumulated array is written at is the last. -/
theorem last_of {t : Fin cfg0.N} (h : t.val % 16 = 15) : t.val + 1 = cfg0.N := by
  have hl : t.val < 16 := lt_of_lt_of_eq t.isLt N_0
  have hs : t.val + 1 = 16 := by omega
  exact hs.trans N_0.symm

theorem arr_dg : Eq (α := S1x1024.Idx → EReal) ((dats m 0 c).arrAt 6 cfg0.N)
    (val_main_v39 (F := Ideal) (aX m c) (aW m c) (aDp m c)) := by
  refine (dats m 0 c).arrAt_eq_of_covers 6 _ (by decide +kernel) fun t ht y => ?_
  blk_simp
  rw [after0_6]
  obtain ⟨z, l, rfl⟩ : ∃ (z : Fin 1) (l : Fin 1024), y = ix2 z l := ⟨y 0, y 1, by idx_vars y⟩
  obtain rfl : z = 0 := Subsingleton.elim _ _
  refine (dg_last t (last_of ((flush0_6 t).mp ht)) l).trans ?_
  blk_ext [idx t]
end Arrays

/-- The two programs have one text, so at the bits they are one program. -/
theorem defs_eq : Cert.InKernel.defs (F := Bits) = Cert.InKernelIdeal.defs (F := Bits) := by sl_kernel_rfl
theorem main_eq : Cert.InKernel.main (F := Bits) = Cert.InKernelIdeal.main (F := Bits) := by sl_kernel_rfl

/-- The run of the ideal program holds over any floats: at the bits it is the run of the program itself. -/
theorem frame_bits : Cert.quiescent_InKernel := fun m ρ _ => by
  rw [defs_eq, main_eq]
  exact Cert.InKernelIdeal.Gen.frame (F := Bits) m ρ

theorem frame_ideal : Cert.quiescent_InKernelIdeal := fun m ρ _ => Cert.InKernelIdeal.Gen.frame m ρ

theorem frame_reference : Cert.quiescent_InReferenceIdeal := fun m ρ _ =>
  (θ_run Cert.InReferenceIdeal.defs _ _).mono (fun r h => ⟨fun c => (h c).2.2,
    Idealize.ShloMosaic.sem_eq_zero_of_no_sems (by decide) r.2⟩) (Cert.InReferenceIdeal.Value.run m ρ)

theorem equal : Cert.algebraic_InKernelIdeal_InReferenceIdeal := fun m ρ m' ρ' _ hin => by
  refine ⟨fun c => val_main_v38 (F := Ideal) (aX m c) (aG m c) (aW m c) (aDp m c) (aDx m c),
    fun c => val_main_v39 (F := Ideal) (aX m c) (aW m c) (aDp m c), ?_, ?_⟩
  · refine (θ_run Cert.InKernelIdeal.defs _ _).mono (fun r h c => ?_) (Cert.InKernelIdeal.Value.run_blocks m ρ)
    obtain ⟨h0, h1, hargs⟩ := h c
    exact ⟨h0.trans arr_dx, h1.trans arr_dg, hargs⟩
  · refine (θ_run Cert.InReferenceIdeal.defs _ _).mono (fun r h c => ?_) (Cert.InReferenceIdeal.Value.run m' ρ')
    obtain ⟨h0, h1, hargs⟩ := h c
    obtain ⟨a0, a1, a2, a3, a4⟩ := hin c
    refine ⟨h0.trans ((val_main_v38_eq m' c).trans ?_), h1.trans ((val_main_v39_eq _ _ _).trans ?_), hargs⟩ <;>
    simp only [a0, a1, a2, a3, a4] <;> rfl
end Cert.InKernel
end
-- ==== Proof.FfnReference.lean ====
/- The stages of the reference of the second half of the feed-forward layer. -/
module

public import proofs.«01_k».proof.Proof.QrmsReference
public import proofs.«01_k».proof.Proof.RealNorm
public import proofs.«01_k».proof.Proof.Gen.FfnReferenceIdeal.Read

@[expose] public section
set_option maxRecDepth 16384
noncomputable section
namespace Cert.FfnKernel
open Cert.FfnReferenceIdeal Cert.FfnReferenceIdeal.Gen Cert.FfnReferenceIdeal.Read
open Idealize.ShloMosaic Idealize.ShloMosaic.TcCoe Idealize.SL.Sem
open Cert.RmsNorm
open Cert.RealNorm (slope_sum slope_product one_word)

/-- Entry `f` of the gate's half and of the other half, as a column of the two. -/
abbrev gate (f : Fin 2816) : Fin 5632 := ⟨f.val, by omega⟩
abbrev up (f : Fin 2816) : Fin 5632 := ⟨2816 + f.val, by omega⟩

variable (o x1 : Vec Ideal S8192x1024 .f32) (wo : Vec Ideal S1024x1024 .f32) (g : Vec Ideal S1024 .f32)
  (wgu : Vec Ideal S1024x5632 .f32) (wd : Vec Ideal S2816x1024 .f32) (dy : Vec Ideal S8192x1024 .f32)

/-- A row of the norm's argument; the two halves of the layer's first product; the gradient of the activation. -/
def xrow (r : Fin 8192) (k : Fin 1024) : EReal := val_main_v1 (F := Ideal) o x1 wo (ix2 r k)
def gt (r : Fin 8192) (f : Fin 2816) : EReal := val_main_v18 (F := Ideal) o x1 wo g wgu (ix2 r (gate f))
def ut (r : Fin 8192) (f : Fin 2816) : EReal := val_main_v18 (F := Ideal) o x1 wo g wgu (ix2 r (up f))
def dact (r : Fin 8192) (f : Fin 2816) : EReal := ∑ k : Fin 1024, dy (ix2 r k) * wd (ix2 f k)
/-- The gradients of the two halves, of the norm's output and of the normalised row. -/
def dgt (r : Fin 8192) (f : Fin 2816) : EReal := dact wd dy r f * ut o x1 wo g wgu r f * (Ideal.logistic (gt o x1 wo g wgu r f)
  * (((1 : ℝ) : EReal) + gt o x1 wo g wgu r f * (((1 : ℝ) : EReal) - Ideal.logistic (gt o x1 wo g wgu r f))))
def dut (r : Fin 8192) (f : Fin 2816) : EReal := gt o x1 wo g wgu r f * Ideal.logistic (gt o x1 wo g wgu r f) * dact wd dy r f
def dh (r : Fin 8192) (l : Fin 1024) : EReal := ∑ f, dgt o x1 wo g wgu wd dy r f * wgu (ix2 l (gate f))
  + ∑ f, dut o x1 wo g wgu wd dy r f * wgu (ix2 l (up f))
def dhat (r : Fin 8192) (l : Fin 1024) : EReal := dh o x1 wo g wgu wd dy r l * g (ix1 l)
def dx (r : Fin 8192) (l : Fin 1024) : EReal := dy (ix2 r l) + dnorm (xrow o x1 wo r) (dhat o x1 wo g wgu wd dy r) l

/-- The gain, the second half of the first weight, the second weight and the gradient handed back are real. -/
structure Finite : Prop where
  gain : ∀ l : Fin 1024, ∃ a : ℝ, g (ix1 l) = (a : EReal)
  weight : ∀ (k : Fin 1024) (f : Fin 2816), ∃ a : ℝ, wgu (ix2 k (up f)) = (a : EReal)
  down : ∀ (f : Fin 2816) (k : Fin 1024), ∃ a : ℝ, wd (ix2 f k) = (a : EReal)
  cot : ∀ (r : Fin 8192) (k : Fin 1024), ∃ a : ℝ, dy (ix2 r k) = (a : EReal)

/-- A sum over both halves is the sum over the one and the sum over the other. -/
theorem sum_halves (F : Fin 5632 → EReal) : ∑ k, F k = ∑ f, F (gate f) + ∑ f, F (up f) := by
  rw [Fin.sum_univ_tiles 2 2816 rfl F, Fin.sum_univ_two]
  refine congrArg₂ (· + ·) (Finset.sum_congr rfl fun f _ => congrArg F (Fin.ext ?_)) (Finset.sum_congr rfl fun f _ => congrArg F (Fin.ext ?_))
  · show 0 * 2816 + f.val = f.val
    omega
  · show 1 * 2816 + f.val = 2816 + f.val
    omega

/-- A sum of products of real entries is real. -/
theorem real_sum {n : Nat} {a b : Fin n → EReal} (ha : ∀ k, ∃ x : ℝ, a k = (x : EReal)) (hb : ∀ k, ∃ x : ℝ, b k = (x : EReal)) :
    ∃ x : ℝ, ∑ k, a k * b k = (x : EReal) := by
  choose u hu using ha
  choose v hv using hb
  refine ⟨∑ k, u k * v k, Eq.trans (Finset.sum_congr rfl fun k _ => ?_) (Cert.RealSoftmax.sum_coe _ _)⟩
  rw [hu, hv, EReal.coe_mul]

/-! ## The norm -/

theorem ref_rms (r : Fin 8192) : Eq (α := EReal) (val_main_v9 (F := Ideal) o x1 wo (ix2 r 0)) (rms (xrow o x1 wo r) : EReal) :=
  Cert.QrmsKernel.ref_rms (val_main_v1 (F := Ideal) o x1 wo) r
theorem ref_slope (r : Fin 8192) : Eq (α := EReal) (val_main_v12 (F := Ideal) o x1 wo (ix2 r 0))
    (Ideal.ofBits .f32 0xBF000000#32 * Ideal.div (rms (xrow o x1 wo r) : EReal) (ms (xrow o x1 wo r))) :=
  Cert.QrmsKernel.ref_slope (val_main_v1 (F := Ideal) o x1 wo) r
theorem ref_hat (r : Fin 8192) (l : Fin 1024) :
    Eq (α := EReal) (val_main_v14 (F := Ideal) o x1 wo (ix2 r l)) (xrow o x1 wo r l * (rms (xrow o x1 wo r) : EReal)) :=
  Cert.QrmsKernel.ref_hat (val_main_v1 (F := Ideal) o x1 wo) r l

/-! ## The gated activation -/

theorem ref_gt (r : Fin 8192) (f : Fin 2816) :
    Eq (α := EReal) (val_main_v19 (F := Ideal) o x1 wo g wgu (ix2 r f)) (gt o x1 wo g wgu r f) := by
  unfold gt
  pointwise [val_main_v19]
theorem ref_ut (r : Fin 8192) (f : Fin 2816) :
    Eq (α := EReal) (val_main_v20 (F := Ideal) o x1 wo g wgu (ix2 r f)) (ut o x1 wo g wgu r f) := by
  unfold ut
  pointwise [val_main_v20]
theorem ref_logistic (r : Fin 8192) (f : Fin 2816) :
    Eq (α := EReal) (val_main_v21_2 (F := Ideal) o x1 wo g wgu (ix2 r f)) (Ideal.logistic (gt o x1 wo g wgu r f)) := by
  refine Eq.trans (b := Ideal.div (Ideal.ofBits .f32 0x3F800000#32) (Ideal.ofBits .f32 0x3F800000#32
    + Ideal.exp (-(val_main_v19 (F := Ideal) o x1 wo g wgu (ix2 r f))))) ?_ ?_
  · pointwise [val_main_v21_2, val_main_call0_v4, val_main_call0_v3, val_main_call0_v2, val_main_call0_v1, val_main_call0_v0,
      val_main_call0_cst, val_main_call0_cst_0]
  · rw [ref_gt, one_word]
    rfl
theorem ref_dact (r : Fin 8192) (f : Fin 2816) : Eq (α := EReal) (val_main_v24 (F := Ideal) wd dy (ix2 r f)) (dact wd dy r f) := by
  unfold dact
  pointwise [val_main_v24]
theorem ref_dut (r : Fin 8192) (f : Fin 2816) :
    Eq (α := EReal) (val_main_v25 (F := Ideal) o x1 wo g wgu wd dy (ix2 r f)) (dut o x1 wo g wgu wd dy r f) := by
  refine Eq.trans (b := val_main_v19 (F := Ideal) o x1 wo g wgu (ix2 r f) * val_main_v21_2 (F := Ideal) o x1 wo g wgu (ix2 r f)
    * val_main_v24 (F := Ideal) wd dy (ix2 r f)) ?_ ?_
  · pointwise [val_main_v25, val_main_v21_0]
  · rw [ref_gt, ref_logistic, ref_dact]
    rfl
variable {o x1 wo g wgu wd dy}
theorem real_ut (hf : Finite g wgu wd dy) (r : Fin 8192) (f : Fin 2816) : ∃ a : ℝ, ut o x1 wo g wgu r f = (a : EReal) := by
  have e : Eq (α := EReal) (ut o x1 wo g wgu r f)
      (∑ k : Fin 1024, val_main_v14 (F := Ideal) o x1 wo (ix2 r k) * g (ix1 k) * wgu (ix2 k (up f))) := by
    unfold ut
    pointwise [val_main_v18, val_main_v17, val_main_v16, val_main_v15]
  rw [e]
  refine real_sum (fun k => ?_) (hf.weight · f)
  obtain ⟨a, ha⟩ := hat_real (xrow o x1 wo r) k
  obtain ⟨b, hb⟩ := hf.gain k
  exact ⟨a * b, by rw [ref_hat, ha, hb, EReal.coe_mul]⟩
theorem real_dact (hf : Finite g wgu wd dy) (r : Fin 8192) (f : Fin 2816) : ∃ a : ℝ, dact wd dy r f = (a : EReal) :=
  real_sum (hf.cot r) (hf.down f)
theorem ref_dgt (hf : Finite g wgu wd dy) (r : Fin 8192) (f : Fin 2816) :
    Eq (α := EReal) (val_main_v27 (F := Ideal) o x1 wo g wgu wd dy (ix2 r f)) (dgt o x1 wo g wgu wd dy r f) := by
  refine Eq.trans (b := val_main_v24 (F := Ideal) wd dy (ix2 r f) * val_main_v20 (F := Ideal) o x1 wo g wgu (ix2 r f)
    * val_main_v21_2 (F := Ideal) o x1 wo g wgu (ix2 r f)
    + val_main_v19 (F := Ideal) o x1 wo g wgu (ix2 r f) * (val_main_v24 (F := Ideal) wd dy (ix2 r f) * val_main_v20 (F := Ideal) o x1 wo g wgu (ix2 r f))
    * (val_main_v21_2 (F := Ideal) o x1 wo g wgu (ix2 r f)
    * (Ideal.ofBits .f32 0x3F800000#32 - val_main_v21_2 (F := Ideal) o x1 wo g wgu (ix2 r f)))) ?_ ?_
  · pointwise [val_main_v27, val_main_v26, val_main_call1_v0, val_main_call1_v1, val_main_call1_v2, val_main_v21_1, val_main_call0_v7,
      val_main_call0_v6, val_main_call0_cst_1]
  · obtain ⟨a, ha⟩ := real_dact hf r f
    obtain ⟨b, hb⟩ := real_ut (o := o) (x1 := x1) (wo := wo) hf r f
    rw [ref_gt, ref_ut, ref_logistic, ref_dact, dgt, ha, hb, one_word, ← EReal.coe_mul, slope_sum, slope_product]

theorem ref_dgu_gate (hf : Finite g wgu wd dy) (r : Fin 8192) (f : Fin 2816) :
    Eq (α := EReal) (val_main_v28 (F := Ideal) o x1 wo g wgu wd dy (ix2 r (gate f))) (dgt o x1 wo g wgu wd dy r f) := by
  refine Eq.trans (b := val_main_v27 (F := Ideal) o x1 wo g wgu wd dy (ix2 r f)) ?_ (ref_dgt hf r f)
  pointwise [val_main_v28]
theorem ref_dgu_up (r : Fin 8192) (f : Fin 2816) :
    Eq (α := EReal) (val_main_v28 (F := Ideal) o x1 wo g wgu wd dy (ix2 r (up f))) (dut o x1 wo g wgu wd dy r f) := by
  refine Eq.trans (b := val_main_v25 (F := Ideal) o x1 wo g wgu wd dy (ix2 r f)) ?_ (ref_dut _ _ _ _ _ _ _ r f)
  pointwise [val_main_v28]

/-! ## The gradients -/

theorem ref_dh (hf : Finite g wgu wd dy) (r : Fin 8192) (l : Fin 1024) :
    Eq (α := EReal) (val_main_v29 (F := Ideal) o x1 wo g wgu wd dy (ix2 r l)) (dh o x1 wo g wgu wd dy r l) := by
  refine Eq.trans (b := ∑ k : Fin 5632, val_main_v28 (F := Ideal) o x1 wo g wgu wd dy (ix2 r k) * wgu (ix2 l k)) ?_ ?_
  · pointwise [val_main_v29]
  · rw [sum_halves]
    simp only [ref_dgu_gate hf, ref_dgu_up]
    rfl
theorem ref_dhat (hf : Finite g wgu wd dy) (r : Fin 8192) (l : Fin 1024) :
    Eq (α := EReal) (val_main_v34 (F := Ideal) o x1 wo g wgu wd dy (ix2 r l)) (dhat o x1 wo g wgu wd dy r l) := by
  refine Eq.trans (b := val_main_v29 (F := Ideal) o x1 wo g wgu wd dy (ix2 r l) * g (ix1 l)) ?_ ?_
  · pointwise [val_main_v34, val_main_v33, val_main_v15]
  · rw [ref_dh hf]
    rfl
theorem ref_dms (hf : Finite g wgu wd dy) (r : Fin 8192) : Eq (α := EReal) (val_main_v44 (F := Ideal) o x1 wo g wgu wd dy (ix2 r 0))
    (dms (xrow o x1 wo r) (dhat o x1 wo g wgu wd dy r)) := by
  refine Eq.trans (b := Ideal.div ((∑ k : Fin 1024, val_main_v1 (F := Ideal) o x1 wo (ix2 r k) * val_main_v34 (F := Ideal) o x1 wo g wgu wd dy (ix2 r k))
    * val_main_v12 (F := Ideal) o x1 wo (ix2 r 0)) (Ideal.ofBits .f32 0x44800000#32)) ?_ ?_
  · pointwise [val_main_v44, val_main_v43, val_main_v42, val_main_v38, val_main_v37, val_main_v36, val_main_cst_5, val_main_cst_6]
  · simp only [ref_dhat hf, ref_slope]
    rfl
theorem ref_dx (hf : Finite g wgu wd dy) (r : Fin 8192) (l : Fin 1024) :
    Eq (α := EReal) (val_main_v50 (F := Ideal) o x1 wo g wgu wd dy (ix2 r l)) (dx o x1 wo g wgu wd dy r l) := by
  refine Eq.trans (b := dy (ix2 r l) + val_main_v34 (F := Ideal) o x1 wo g wgu wd dy (ix2 r l) * val_main_v9 (F := Ideal) o x1 wo (ix2 r 0)
    + val_main_v1 (F := Ideal) o x1 wo (ix2 r l) * (∑ k : Fin 1, val_main_v44 (F := Ideal) o x1 wo g wgu wd dy (ix2 r k))
    + (∑ k : Fin 1, val_main_v44 (F := Ideal) o x1 wo g wgu wd dy (ix2 r k)) * val_main_v1 (F := Ideal) o x1 wo (ix2 r l)) ?_ ?_
  · pointwise [val_main_v50, val_main_v49, val_main_v48, val_main_v47, val_main_v46, val_main_v45, val_main_v41, val_main_v40,
      val_main_v39, val_main_cst_7]
  · rw [Fin.sum_univ_one, ref_dhat hf, ref_rms, ref_dms hf, mul_comm (val_main_v1 (F := Ideal) o x1 wo (ix2 r l)), add_assoc, add_assoc]
    exact congrArg (_ + ·) (chain_rule (xrow o x1 wo r) (dhat o x1 wo g wgu wd dy r) l)
theorem ref_do (hf : Finite g wgu wd dy) (r : Fin 8192) (l : Fin 1024) :
    Eq (α := EReal) (val_main_v53 (F := Ideal) o x1 wo g wgu wd dy (ix2 r l)) (∑ k : Fin 1024, dx o x1 wo g wgu wd dy r k * wo (ix2 l k)) := by
  refine Eq.trans (b := ∑ k : Fin 1024, val_main_v50 (F := Ideal) o x1 wo g wgu wd dy (ix2 r k) * wo (ix2 l k)) ?_ ?_
  · pointwise [val_main_v53, val_main_v51]
  · simp only [ref_dx hf]
theorem ref_dg (hf : Finite g wgu wd dy) (l : Fin 1024) : Eq (α := EReal) (val_main_v54 (F := Ideal) o x1 wo g wgu wd dy (ix2 0 l))
    (∑ r : Fin 8192, xrow o x1 wo r l * (rms (xrow o x1 wo r) : EReal) * dh o x1 wo g wgu wd dy r l) := by
  refine Eq.trans (b := ∑ k : Fin 1, ∑ r : Fin 8192, val_main_v14 (F := Ideal) o x1 wo (ix2 r l) * val_main_v29 (F := Ideal) o x1 wo g wgu wd dy (ix2 r l)) ?_ ?_
  · pointwise [val_main_v54, val_main_v35, val_main_v32, val_main_v31, val_main_v30, val_main_cst_3, val_main_cst_4]
  · simp only [Fin.sum_univ_one, ref_hat, ref_dh hf]
end Cert.FfnKernel
end
-- ==== Proof.FfnPoint.lean ====
/- What the blocks of the second half of the feed-forward layer hold after each grid point. -/
module

public import proofs.«01_k».proof.Proof.FfnReference
public import proofs.«01_k».proof.Proof.Sigmoid
public import proofs.«01_k».proof.Proof.Gen.FfnKernelIdeal.Frame
public import Idealize.ShloMosaic.Lib.Pipeline.ValueKit
public import Idealize.ShloMosaic.Lib.Pipeline.ReadBack

@[expose] public section
set_option maxRecDepth 16384
noncomputable section
namespace Cert.FfnKernel
open Cert.FfnReferenceIdeal.Read
open Cert.FfnKernelIdeal Cert.FfnKernelIdeal.Gen Idealize.ShloMosaic Idealize.ShloMosaic.TcCoe Idealize.SL.Sem
open Cert.RmsNorm
open Cert.RealNorm (one_word)
variable (m : (ℓ : Loc nD τ sig) → Buf (Elt Ideal) ℓ) (c : Dev nD)

abbrev aO : Vec Ideal S8192x1024 .f32 := m ((c.tc : Thread nD τ).loc main_arg0)
abbrev aX1 : Vec Ideal S8192x1024 .f32 := m ((c.tc : Thread nD τ).loc main_arg1)
abbrev aWo : Vec Ideal S1024x1024 .f32 := m ((c.tc : Thread nD τ).loc main_arg2)
abbrev aG : Vec Ideal S1024 .f32 := m ((c.tc : Thread nD τ).loc main_arg3)
abbrev aWgu : Vec Ideal S1024x5632 .f32 := m ((c.tc : Thread nD τ).loc main_arg4)
abbrev aWd : Vec Ideal S2816x1024 .f32 := m ((c.tc : Thread nD τ).loc main_arg5)
abbrev aDy : Vec Ideal S8192x1024 .f32 := m ((c.tc : Thread nD τ).loc main_arg6)

/-- The reference's arrays and functions, of this program's arguments. -/
abbrev X (r : Fin 8192) : Fin 1024 → EReal := xrow (aO m c) (aX1 m c) (aWo m c) r
abbrev gu : Vec Ideal S8192x5632 .f32 := val_main_v18 (F := Ideal) (aO m c) (aX1 m c) (aWo m c) (aG m c) (aWgu m c)
abbrev GT : Fin 8192 → Fin 2816 → EReal := gt (aO m c) (aX1 m c) (aWo m c) (aG m c) (aWgu m c)
abbrev UT : Fin 8192 → Fin 2816 → EReal := ut (aO m c) (aX1 m c) (aWo m c) (aG m c) (aWgu m c)
abbrev dA : Fin 8192 → Fin 2816 → EReal := dact (aWd m c) (aDy m c)
abbrev dG : Fin 8192 → Fin 2816 → EReal := dgt (aO m c) (aX1 m c) (aWo m c) (aG m c) (aWgu m c) (aWd m c) (aDy m c)
abbrev dU : Fin 8192 → Fin 2816 → EReal := dut (aO m c) (aX1 m c) (aWo m c) (aG m c) (aWgu m c) (aWd m c) (aDy m c)
abbrev dH : Fin 8192 → Fin 1024 → EReal := dh (aO m c) (aX1 m c) (aWo m c) (aG m c) (aWgu m c) (aWd m c) (aDy m c)
abbrev dX : Fin 8192 → Fin 1024 → EReal := dx (aO m c) (aX1 m c) (aWo m c) (aG m c) (aWgu m c) (aWd m c) (aDy m c)

/-! ## The windows' blocks: point `t` reads rows `256 t` to `256 t + 255`; each half of the columns is worked through in two tiles -/

/-- Column `k` of tile `j`, as a column of a half. -/
abbrev col (j : Fin 2) (k : Fin 1408) : Fin 2816 := ⟨1408 * j.val + k.val, by omega⟩

theorem V_gu (i : S8192x5632.Idx) : V m c main_v16 i = gu m c i := rfl
theorem V_x (i : S8192x1024.Idx) : V m c main_v1 i = val_main_v1 (F := Ideal) (aO m c) (aX1 m c) (aWo m c) i := rfl
theorem V_wd (i : S2816x1024.Idx) : V m c main_v17 i = aWd m c i := rfl
theorem V_wo (i : S1024x1024.Idx) : V m c main_v21 i = aWo m c i := rfl
theorem V_wgu (k : Fin 5632) (l : Fin 1024) : V m c main_v19 (ix2 k l) = aWgu m c (ix2 l k) := by
  have e : V m c main_v19 = transpose S5632x1024 [1, 0] (aWgu m c) transposes_S1024x5632_S5632x1024_1_0 := rfl
  rw [e]; pointwise
theorem V_g (z : Fin 1) (l : Fin 1024) : V m c main_v20 (ix2 z l) = aG m c (ix1 l) := by
  have e : V m c main_v20 = broadcastInDim S1x1024 ![1] bcast_S1024_S1x1024_1 (aG m c) := rfl
  rw [e]; pointwise

/-- Row `r` of point `t`'s block, as a row of the array. -/
abbrev row (t : Fin cfg0.N) (r : Fin 256) : Fin 8192 :=
  ⟨256 * t.val + r.val, by have h := lt_of_lt_of_eq t.isLt (show cfg0.N = 32 from N_0); omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] :=
  (by decide +kernel : ∀ t : Fin grid0.N, _)

theorem blk_dy (t : Fin cfg0.N) (r : Fin 256) (l : Fin 1024) : iblk m c 0 t (ix2 r l) = aDy m c (ix2 (row t r) l) := by
  blk_point [iblk, V, idx t]
theorem blk_gu (t : Fin cfg0.N) (r : Fin 256) (k : Fin 5632) : iblk m c 1 t (ix2 r k) = gu m c (ix2 (row t r) k) := by
  refine Eq.trans ?_ (V_gu m c _)
  blk_point [iblk, idx t]
theorem blk_x (t : Fin cfg0.N) (r : Fin 256) (l : Fin 1024) : iblk m c 2 t (ix2 r l) = X m c (row t r) l := by
  refine Eq.trans ?_ (V_x m c _)
  blk_point [iblk, idx t]
theorem blk_wd (t : Fin cfg0.N) (f : Fin 2816) (l : Fin 1024) : iblk m c 3 t (ix2 f l) = aWd m c (ix2 f l) := by
  refine Eq.trans ?_ (V_wd m c _)
  blk_point [iblk, idx t]
theorem blk_wgu (t : Fin cfg0.N) (k : Fin 5632) (l : Fin 1024) : iblk m c 4 t (ix2 k l) = aWgu m c (ix2 l k) := by
  refine Eq.trans ?_ (V_wgu m c k l)
  blk_point [iblk, idx t]
theorem blk_g (t : Fin cfg0.N) (l : Fin 1024) : iblk m c 5 t (ix2 0 l) = aG m c (ix1 l) := by
  refine Eq.trans ?_ (V_g m c 0 l)
  blk_point [iblk, idx t]
theorem blk_wo (t : Fin cfg0.N) (l k : Fin 1024) : iblk m c 6 t (ix2 l k) = aWo m c (ix2 l k) := by
  refine Eq.trans ?_ (V_wo m c _)
  blk_point [iblk, idx t]

/-- Loads of tile `j` at point `t`: the columns of the two halves, the second weight's rows and the first weight's rows. -/
structure IsTile (t : Fin cfg0.N) (j : Fin 2) (a b : Vec Ideal S256x1408 .bf16) (wd wa wb : Vec Ideal S1408x1024 .bf16) : Prop where
  gate : ∀ (r : Fin 256) (k : Fin 1408), a (ix2 r k) = GT m c (row t r) (col j k)
  up : ∀ (r : Fin 256) (k : Fin 1408), b (ix2 r k) = UT m c (row t r) (col j k)
  down : ∀ (k : Fin 1408) (l : Fin 1024), wd (ix2 k l) = aWd m c (ix2 (col j k) l)
  wgate : ∀ (k : Fin 1408) (l : Fin 1024), wa (ix2 k l) = aWgu m c (ix2 l (Cert.FfnKernel.gate (col j k)))
  wup : ∀ (k : Fin 1408) (l : Fin 1024), wb (ix2 k l) = aWgu m c (ix2 l (Cert.FfnKernel.up (col j k)))

section Loads
variable {m c} (t : Fin cfg0.N) (o : Nat)
theorem ld_gu (ho : ∀ k : Fin 1408, o + k.val < 5632) (h : ∀ a, (![0, o] : Fin 2 → Nat) a + S256x1408.size a ≤ S256x5632.size a)
    (r : Fin 256) (k : Fin 1408) : View.ld (iblk m c 1 t) (Rect.unit ![0, o] S256x1408.size h) (ix2 r k)
      = gu m c (ix2 (row t r) ⟨o + k.val, ho k⟩) := by
  refine Eq.trans ?_ (blk_gu m c t r ⟨o + k.val, ho k⟩)
  pointwise
theorem ld_wgu (ho : ∀ k : Fin 1408, o + k.val < 5632) (h : ∀ a, (![o, 0] : Fin 2 → Nat) a + S1408x1024.size a ≤ S5632x1024.size a)
    (k : Fin 1408) (l : Fin 1024) : View.ld (iblk m c 4 t) (Rect.unit ![o, 0] S1408x1024.size h) (ix2 k l)
      = aWgu m c (ix2 l ⟨o + k.val, ho k⟩) := by
  refine Eq.trans ?_ (blk_wgu m c t ⟨o + k.val, ho k⟩ l)
  pointwise
theorem ld_wd (ho : ∀ k : Fin 1408, o + k.val < 2816) (h : ∀ a, (![o, 0] : Fin 2 → Nat) a + S1408x1024.size a ≤ S2816x1024.size a)
    (k : Fin 1408) (l : Fin 1024) : View.ld (iblk m c 3 t) (Rect.unit ![o, 0] S1408x1024.size h) (ix2 k l)
      = aWd m c (ix2 ⟨o + k.val, ho k⟩ l) := by
  refine Eq.trans ?_ (blk_wd m c t ⟨o + k.val, ho k⟩ l)
  pointwise
theorem ldTile (j : Fin 2) (o' : Nat) (ho : o = 1408 * j.val) (ho' : o' = 2816 + 1408 * j.val)
    (ha : ∀ a, (![0, o] : Fin 2 → Nat) a + S256x1408.size a ≤ S256x5632.size a)
    (hb : ∀ a, (![0, o'] : Fin 2 → Nat) a + S256x1408.size a ≤ S256x5632.size a)
    (hd : ∀ a, (![o, 0] : Fin 2 → Nat) a + S1408x1024.size a ≤ S2816x1024.size a)
    (hwa : ∀ a, (![o, 0] : Fin 2 → Nat) a + S1408x1024.size a ≤ S5632x1024.size a)
    (hwb : ∀ a, (![o', 0] : Fin 2 → Nat) a + S1408x1024.size a ≤ S5632x1024.size a) :
    IsTile m c t j (View.ld (iblk m c 1 t) (Rect.unit ![0, o] S256x1408.size ha)) (View.ld (iblk m c 1 t) (Rect.unit ![0, o'] S256x1408.size hb))
      (View.ld (iblk m c 3 t) (Rect.unit ![o, 0] S1408x1024.size hd)) (View.ld (iblk m c 4 t) (Rect.unit ![o, 0] S1408x1024.size hwa))
      (View.ld (iblk m c 4 t) (Rect.unit ![o', 0] S1408x1024.size hwb)) := by
  subst ho ho'
  exact ⟨ld_gu t _ (fun k => by omega) ha,
    fun r k => (ld_gu t _ (fun k => by omega) hb r k).trans (congrArg (fun i => gu m c (ix2 (row t r) i)) (Fin.ext (Nat.add_assoc _ _ _))),
    ld_wd t _ (fun k => by omega) hd, ld_wgu t _ (fun k => by omega) hwa,
    fun k l => (ld_wgu t _ (fun k => by omega) hwb k l).trans (congrArg (fun i => aWgu m c (ix2 l i)) (Fin.ext (Nat.add_assoc _ _ _)))⟩
end Loads

/-! ## The body's expressions at an index, over any blocks -/

theorem half_word : Ideal.ofBits .f32 0x3F000000#32 = Cert.Sigmoid.half := by
  simp [Ideal.ofBits, Ideal.ieee, -EReal.coe_mul]; norm_num
theorem pay6_at (d : Vec Ideal S256x1024 .f32) (w : Vec Ideal S1408x1024 .bf16) (r : Fin 256) (k : Fin 1408) :
    Eq (α := EReal) (k0_pay6 (F := Ideal) d w (ix2 r k)) (∑ l : Fin 1024, d (ix2 r l) * w (ix2 k l)) := by
  pointwise [k0_pay6, k0_pay4]
theorem pay8_at (a : Vec Ideal S256x1408 .bf16) (r : Fin 256) (k : Fin 1408) :
    Eq (α := EReal) (k0_pay8 (F := Ideal) a (ix2 r k)) (Ideal.logistic (a (ix2 r k))) := by
  rw [← Cert.Sigmoid.tanh_form, ← half_word]
  pointwise [k0_pay8, k0_pay7]
theorem pay9_at (d : Vec Ideal S256x1024 .f32) (w : Vec Ideal S1408x1024 .bf16) (a b : Vec Ideal S256x1408 .bf16) (r : Fin 256) (k : Fin 1408) :
    Eq (α := EReal) (k0_pay9 (F := Ideal) d w a b (ix2 r k)) (k0_pay6 (F := Ideal) d w (ix2 r k) * b (ix2 r k)
      * k0_pay8 (F := Ideal) a (ix2 r k) * (Ideal.ofBits .f32 0x3F800000#32
      + a (ix2 r k) * (Ideal.ofBits .f32 0x3F800000#32 - k0_pay8 (F := Ideal) a (ix2 r k)))) := by
  pointwise [k0_pay9, k0_pay7]
theorem pay10_at (d : Vec Ideal S256x1024 .f32) (w : Vec Ideal S1408x1024 .bf16) (a : Vec Ideal S256x1408 .bf16) (r : Fin 256) (k : Fin 1408) :
    Eq (α := EReal) (k0_pay10 (F := Ideal) d w a (ix2 r k)) (k0_pay6 (F := Ideal) d w (ix2 r k) * a (ix2 r k)
      * k0_pay8 (F := Ideal) a (ix2 r k)) := by
  pointwise [k0_pay10, k0_pay7]
/-- The second tile's expressions are the first's. -/
theorem pay15_eq (d : Vec Ideal S256x1024 .f32) (w : Vec Ideal S1408x1024 .bf16) (a b : Vec Ideal S256x1408 .bf16) :
    k0_pay15 (F := Ideal) (k0_pay4 (F := Ideal) d) w a b = k0_pay9 (F := Ideal) d w a b := rfl
theorem pay16_eq (d : Vec Ideal S256x1024 .f32) (w : Vec Ideal S1408x1024 .bf16) (a : Vec Ideal S256x1408 .bf16) :
    k0_pay16 (F := Ideal) (k0_pay4 (F := Ideal) d) w a = k0_pay10 (F := Ideal) d w a := rfl
theorem pay11_at (s : Vec Ideal S256x1024 .f32) (a b : Vec Ideal S256x1408 .bf16) (wa wb : Vec Ideal S1408x1024 .bf16) (r : Fin 256) (l : Fin 1024) :
    Eq (α := EReal) (k0_pay11 (F := Ideal) s a b wa wb (ix2 r l)) (s (ix2 r l) + ∑ k : Fin 1408, a (ix2 r k) * wa (ix2 k l)
      + ∑ k : Fin 1408, b (ix2 r k) * wb (ix2 k l)) := by
  pointwise [k0_pay11]
theorem pay17_eq (s : Vec Ideal S256x1024 .f32) (a b : Vec Ideal S256x1408 .bf16) (wa wb : Vec Ideal S1408x1024 .bf16) :
    k0_pay17 (F := Ideal) s a b wa wb = k0_pay11 (F := Ideal) s a b wa wb := rfl
theorem pay19_at (x : Vec Ideal S256x1024 .f32) (r : Fin 256) : Eq (α := EReal) (k0_pay19 (F := Ideal) x (ix2 r 0))
    (Ideal.rsqrt (ms fun k => x (ix2 r k))) := by
  unfold ms
  pointwise [k0_pay19, k0_pay18]
theorem pay20_at (x : Vec Ideal S256x1024 .f32) (r : Fin 256) (l : Fin 1024) : Eq (α := EReal) (k0_pay20 (F := Ideal) x (ix2 r l))
    (x (ix2 r l) * k0_pay19 (F := Ideal) x (ix2 r 0)) := by
  pointwise [k0_pay20, k0_pay18]
theorem pay21_at (d s : Vec Ideal S256x1024 .f32) (a b : Vec Ideal S256x1408 .bf16) (wa wb : Vec Ideal S1408x1024 .bf16)
    (x : Vec Ideal S256x1024 .f32) (g : Vec Ideal S1x1024 .f32) (r : Fin 256) (l : Fin 1024) :
    Eq (α := EReal) (k0_pay21 (F := Ideal) d s a b wa wb x g (ix2 r l)) (d (ix2 r l) + k0_pay19 (F := Ideal) x (ix2 r 0)
      * (k0_pay17 (F := Ideal) s a b wa wb (ix2 r l) * g (ix2 0 l) - k0_pay20 (F := Ideal) x (ix2 r l)
      * Ideal.div (∑ k : Fin 1024, k0_pay17 (F := Ideal) s a b wa wb (ix2 r k) * g (ix2 0 k) * k0_pay20 (F := Ideal) x (ix2 r k))
        (Ideal.ofBits .f32 0x44800000#32))) := by
  pointwise [k0_pay21]
theorem pay22_at (s : Vec Ideal S256x1024 .f32) (a b : Vec Ideal S256x1408 .bf16) (wa wb : Vec Ideal S1408x1024 .bf16)
    (x : Vec Ideal S256x1024 .f32) (l : Fin 1024) : Eq (α := EReal) (k0_pay22 (F := Ideal) s a b wa wb x (ix2 0 l))
      (∑ r : Fin 256, k0_pay17 (F := Ideal) s a b wa wb (ix2 r l) * k0_pay20 (F := Ideal) x (ix2 r l)) := by
  pointwise [k0_pay22]
theorem pay1_at (v a : Vec Ideal S1x1024 .f32) (l : Fin 1024) : k0_pay1 v a (ix2 0 l) = a (ix2 0 l) + v (ix2 0 l) := by
  pointwise [k0_pay1]
theorem pay2_at (x : Vec Ideal S256x1024 .f32) (w : Vec Ideal S1024x1024 .bf16) (r : Fin 256) (l : Fin 1024) :
    Eq (α := EReal) (k0_pay2 (F := Ideal) x w (ix2 r l)) (∑ k : Fin 1024, x (ix2 r k) * w (ix2 l k)) := by
  pointwise [k0_pay2]

/-! ## The body's expressions at a point -/

variable {m c}
section Tile
variable {t : Fin cfg0.N} {j : Fin 2} {a b : Vec Ideal S256x1408 .bf16} {wd wa wb : Vec Ideal S1408x1024 .bf16}
  (T : IsTile m c t j a b wd wa wb)
include T
theorem dact_at (r : Fin 256) (k : Fin 1408) : Eq (α := EReal) (k0_pay6 (F := Ideal) (iblk m c 0 t) wd (ix2 r k)) (dA m c (row t r) (col j k)) :=
  (pay6_at _ _ r k).trans (Finset.sum_congr rfl fun l _ => Ideal.mul_congr (blk_dy m c t r l) (T.down k l))
theorem dgt_at (r : Fin 256) (k : Fin 1408) : Eq (α := EReal) (k0_pay9 (F := Ideal) (iblk m c 0 t) wd a b (ix2 r k)) (dG m c (row t r) (col j k)) := by
  rw [pay9_at, pay8_at, dact_at T, T.gate, T.up, one_word, mul_assoc (_ * _)]
  rfl
theorem dut_at (r : Fin 256) (k : Fin 1408) : Eq (α := EReal) (k0_pay10 (F := Ideal) (iblk m c 0 t) wd a (ix2 r k)) (dU m c (row t r) (col j k)) := by
  rw [pay10_at, pay8_at, dact_at T, T.gate, mul_assoc, mul_comm]
  rfl
end Tile

theorem dh_at {t : Fin cfg0.N} {a0 b0 a1 b1 : Vec Ideal S256x1408 .bf16} {wd0 wa0 wb0 wd1 wa1 wb1 : Vec Ideal S1408x1024 .bf16}
    (T0 : IsTile m c t 0 a0 b0 wd0 wa0 wb0) (T1 : IsTile m c t 1 a1 b1 wd1 wa1 wb1) (r : Fin 256) (l : Fin 1024) : Eq (α := EReal)
    (k0_pay17 (F := Ideal) (k0_pay11 (F := Ideal) (k0_pay5 (F := Ideal)) (k0_pay9 (F := Ideal) (iblk m c 0 t) wd0 a0 b0)
        (k0_pay10 (F := Ideal) (iblk m c 0 t) wd0 a0) wa0 wb0)
      (k0_pay15 (F := Ideal) (k0_pay4 (F := Ideal) (iblk m c 0 t)) wd1 a1 b1) (k0_pay16 (F := Ideal) (k0_pay4 (F := Ideal) (iblk m c 0 t)) wd1 a1)
      wa1 wb1 (ix2 r l)) (dH m c (row t r) l) := by
  have z : Eq (α := EReal) (k0_pay5 (F := Ideal) (ix2 r l)) 0 := by pointwise [k0_pay5]
  rw [pay17_eq, pay15_eq, pay16_eq, pay11_at, pay11_at, z, zero_add]
  simp only [dgt_at T0, dgt_at T1, dut_at T0, dut_at T1, T0.wgate, T0.wup, T1.wgate, T1.wup]
  unfold dH dh
  rw [Fin.sum_univ_tiles 2 1408 rfl (fun f => dG m c (row t r) f * aWgu m c (ix2 l (gate f))),
    Fin.sum_univ_tiles 2 1408 rfl (fun f => dU m c (row t r) f * aWgu m c (ix2 l (up f))), Fin.sum_univ_two, Fin.sum_univ_two,
    add_add_add_comm, ← add_assoc]
  rfl
theorem rms_point (t : Fin cfg0.N) (r : Fin 256) : Eq (α := EReal) (k0_pay19 (F := Ideal) (iblk m c 2 t) (ix2 r 0)) (rms (X m c (row t r)) : EReal) := by
  rw [pay19_at, ← rms_coe]
  exact congrArg (fun f => Ideal.rsqrt (ms f)) (funext fun k => blk_x m c t r k)
theorem hat_point (t : Fin cfg0.N) (r : Fin 256) (l : Fin 1024) : Eq (α := EReal) (k0_pay20 (F := Ideal) (iblk m c 2 t) (ix2 r l))
    (X m c (row t r) l * (rms (X m c (row t r)) : EReal)) := by
  rw [pay20_at, rms_point, blk_x]

section Sums
variable {t : Fin cfg0.N} {s : Vec Ideal S256x1024 .f32} {a b : Vec Ideal S256x1408 .bf16} {wa wb : Vec Ideal S1408x1024 .bf16}
  (hd : ∀ (r : Fin 256) (l : Fin 1024), Eq (α := EReal) (k0_pay17 (F := Ideal) s a b wa wb (ix2 r l)) (dH m c (row t r) l))
include hd
theorem dx_at (r : Fin 256) (l : Fin 1024) : Eq (α := EReal)
    (k0_pay21 (F := Ideal) (iblk m c 0 t) s a b wa wb (iblk m c 2 t) (iblk m c 5 t) (ix2 r l)) (dX m c (row t r) l) := by
  rw [pay21_at]
  simp only [hd, hat_point, rms_point, blk_dy, blk_g]
  rfl
theorem do_at (r : Fin 256) (l : Fin 1024) : Eq (α := EReal)
    (k0_pay2 (F := Ideal) (k0_pay21 (F := Ideal) (iblk m c 0 t) s a b wa wb (iblk m c 2 t) (iblk m c 5 t)) (iblk m c 6 t) (ix2 r l))
      (∑ k : Fin 1024, dX m c (row t r) k * aWo m c (ix2 l k)) :=
  (pay2_at _ _ r l).trans (Finset.sum_congr rfl fun k _ => Ideal.mul_congr (dx_at hd r k) (blk_wo m c t l k))
end Sums

variable (m c)
/-- What point `t` adds to the gradient of the gain. -/
def dgPart (t : Fin cfg0.N) (l : Fin 1024) : EReal := ∑ r : Fin 256,
  X m c (row t r) l * (rms (X m c (row t r)) : EReal) * dH m c (row t r) l
variable {m c}
theorem dg_at {t : Fin cfg0.N} {s : Vec Ideal S256x1024 .f32} {a b : Vec Ideal S256x1408 .bf16} {wa wb : Vec Ideal S1408x1024 .bf16}
    (hd : ∀ (r : Fin 256) (l : Fin 1024), Eq (α := EReal) (k0_pay17 (F := Ideal) s a b wa wb (ix2 r l)) (dH m c (row t r) l))
    (y : Vec Ideal S1x1024 .f32) (l : Fin 1024) : Eq (α := EReal)
    (k0_pay1 (F := Ideal) (k0_pay22 (F := Ideal) s a b wa wb (iblk m c 2 t)) y (ix2 0 l)) (y (ix2 0 l) + dgPart m c t l) := by
  refine (pay1_at _ _ l).trans (congrArg (_ + ·) ((pay22_at _ _ _ _ _ _ l).trans (Finset.sum_congr rfl fun r _ => ?_)))
  rw [hd, hat_point, mul_comm]

/-! ## After a point -/

theorem outs_dgu (hf : Finite (aG m c) (aWgu m c) (aWd m c) (aDy m c)) (t : Fin cfg0.N) (r : Fin 256) (k : Fin 5632) :
    Eq (α := EReal) ((outsAt0 m c t.val t.isLt).1 (ix2 r k))
      (val_main_v28 (F := Ideal) (aO m c) (aX1 m c) (aWo m c) (aG m c) (aWgu m c) (aWd m c) (aDy m c) (ix2 (row t r) k)) := by
  by_cases h0 : t.val % 32 = 0
  on_goal 1 => rw [outsAt0_A m c t h0]
  on_goal 2 => rw [outsAt0_B m c t h0]
  all_goals
    frame_out
    canon_tiles x hx
    all_goals
      obtain ⟨r', q, rfl⟩ : ∃ (r' : Fin 256) (q : Fin 1408), x = ix2 r' q := ⟨x 0, x 1, by idx_vars x⟩
      obtain rfl : r = r' := Fin.ext hx0
    · obtain rfl : k = up (col 1 q) := Fin.ext (hx1.trans (Nat.add_assoc 2816 1408 _))
      exact (dut_at (ldTile t 1408 1 4224 rfl rfl (by decide) (by decide) (by decide) (by decide) (by decide)) r q).trans
        (ref_dgu_up _ _).symm
    · obtain rfl : k = gate (col 1 q) := Fin.ext hx1
      exact (dgt_at (ldTile t 1408 1 4224 rfl rfl (by decide) (by decide) (by decide) (by decide) (by decide)) r q).trans
        (ref_dgu_gate hf _ _).symm
    · obtain rfl : k = up (col 0 q) := Fin.ext (hx1.trans (congrArg (2816 + ·) (Nat.zero_add _).symm))
      exact (dut_at (ldTile t 0 0 2816 rfl rfl (by decide) (by decide) (by decide) (by decide) (by decide)) r q).trans
        (ref_dgu_up _ _).symm
    · obtain rfl : k = gate (col 0 q) := Fin.ext (hx1.trans (Nat.zero_add _).symm)
      exact (dgt_at (ldTile t 0 0 2816 rfl rfl (by decide) (by decide) (by decide) (by decide) (by decide)) r q).trans
        (ref_dgu_gate hf _ _).symm
theorem outs_dx (t : Fin cfg0.N) (r : Fin 256) (l : Fin 1024) : Eq (α := EReal) ((outsAt0 m c t.val t.isLt).2.1 (ix2 r l)) (dX m c (row t r) l) := by
  by_cases h0 : t.val % 32 = 0
  on_goal 1 => rw [outsAt0_A m c t h0]
  on_goal 2 => rw [outsAt0_B m c t h0]
  all_goals
    frame_out
    exact dx_at (dh_at (ldTile t 0 0 2816 rfl rfl _ _ _ _ _) (ldTile t 1408 1 4224 rfl rfl _ _ _ _ _)) r l
theorem outs_do (t : Fin cfg0.N) (r : Fin 256) (l : Fin 1024) : Eq (α := EReal) ((outsAt0 m c t.val t.isLt).2.2.1 (ix2 r l))
    (∑ k : Fin 1024, dX m c (row t r) k * aWo m c (ix2 l k)) := by
  by_cases h0 : t.val % 32 = 0
  on_goal 1 => rw [outsAt0_A m c t h0]
  on_goal 2 => rw [outsAt0_B m c t h0]
  all_goals
    frame_out
    exact do_at (dh_at (ldTile t 0 0 2816 rfl rfl _ _ _ _ _) (ldTile t 1408 1 4224 rfl rfl _ _ _ _ _)) r l
theorem outs_dg_zero (t : Fin cfg0.N) (h0 : t.val % 32 = 0) (l : Fin 1024) :
    (outsAt0 m c t.val t.isLt).2.2.2 (ix2 0 l) = 0 + dgPart m c t l := by
  rw [outsAt0_A m c t h0]; frame_out
  refine (dg_at (dh_at (ldTile t 0 0 2816 rfl rfl _ _ _ _ _) (ldTile t 1408 1 4224 rfl rfl _ _ _ _ _)) _ l).trans (congrArg (· + _) ?_)
  pointwise [k0_pay3]
theorem outs_dg_step (t : Fin cfg0.N) (h0 : ¬ t.val % 32 = 0) (l : Fin 1024) :
    (outsAt0 m c t.val t.isLt).2.2.2 (ix2 0 l)
      = (outsAt0 m c (t.val - 1) (Nat.lt_of_le_of_lt (Nat.sub_le _ _) t.isLt)).2.2.2 (ix2 0 l) + dgPart m c t l := by
  rw [outsAt0_B m c t h0]; frame_out
  exact dg_at (dh_at (ldTile t 0 0 2816 rfl rfl _ _ _ _ _) (ldTile t 1408 1 4224 rfl rfl _ _ _ _ _)) _ l

/-! ## After the last point: the sums over all rows -/

/-- The sums over the blocks and the rows of a block are the sum over all rows. -/
theorem sum_rows (f : Fin 8192 → EReal) : ∑ p : Fin cfg0.N, ∑ r : Fin 256, f (row p r) = ∑ r : Fin 8192, f r := by
  rw [Fin.sum_univ_tiles 32 256 rfl f]
  refine Fintype.sum_equiv (finCongr N_0) _ _ fun p => Finset.sum_congr rfl fun r _ => congrArg f (Fin.ext ?_)
  show 256 * p.val + r.val = p.val * 256 + r.val
  omega

theorem dg_last (t : Fin cfg0.N) (ht : t.val + 1 = cfg0.N) (l : Fin 1024) : Eq (α := EReal)
    ((outsAt0 m c t.val t.isLt).2.2.2 (ix2 0 l)) (∑ r : Fin 8192, X m c r l * (rms (X m c r) : EReal) * dH m c r l) := by
  have e := Pipeline.eq_sum_fin_of_reset_step_apply_last (fun n h (l : Fin 1024) => (outsAt0 m c n h).2.2.2 (ix2 0 l))
    32 (fun _ => (0 : EReal)) (dgPart m c) outs_dg_zero outs_dg_step (le_of_eq N_0) t ht l
  rw [zero_add] at e
  exact e.trans (sum_rows fun r => X m c r l * (rms (X m c r) : EReal) * dH m c r l)
end Cert.FfnKernel
end
-- ==== Proof.Ffn.lean ====
/- The claims about the second half of the feed-forward layer's gradient, assembled. -/
module

public import proofs.«01_k».proof.Defs
public import proofs.«01_k».proof.Proof.Finite
public import proofs.«01_k».proof.Proof.FfnPoint
public import proofs.«01_k».proof.Proof.Gen.FfnKernel
public import proofs.«01_k».proof.Proof.Gen.FfnKernelIdeal.Value
public import proofs.«01_k».proof.Proof.Gen.FfnReferenceIdeal.Run
public import proofs.«01_k».proof.Proof.Gen.Pre_ffn_finite

@[expose] public section
set_option maxRecDepth 16384
noncomputable section
namespace Cert.FfnKernel
open Idealize.ShloMosaic Idealize.ShloMosaic.TcCoe Idealize.SL.Sem
open Cert.FfnReferenceIdeal.Read

section Arrays
open Cert.FfnKernelIdeal Cert.FfnKernelIdeal.Gen
variable {m : (ℓ : Loc nD τ sig) → Buf (Elt Ideal) ℓ} {c : Dev nD} (hf : Finite (aG m c) (aWgu m c) (aWd m c) (aDy m c))
include hf

theorem arr_dgu : Eq (α := S8192x5632.Idx → EReal) ((dats m 0 c).arrAt 7 cfg0.N)
    (val_main_v52 (F := Ideal) (aO m c) (aX1 m c) (aWo m c) (aG m c) (aWgu m c) (aWd m c) (aDy m c)) := by
  refine (dats m 0 c).arrAt_eq_of_covers 7 _ (by decide +kernel) fun t _ y => ?_
  blk_simp
  rw [after0_7]
  obtain ⟨r, k, rfl⟩ : ∃ (r : Fin 256) (k : Fin 5632), y = ix2 r k := ⟨y 0, y 1, by idx_vars y⟩
  refine (outs_dgu hf t r k).trans ?_
  blk_ext [idx t]
theorem arr_dx : Eq (α := S8192x1024.Idx → EReal) ((dats m 0 c).arrAt 8 cfg0.N)
    (val_main_v50 (F := Ideal) (aO m c) (aX1 m c) (aWo m c) (aG m c) (aWgu m c) (aWd m c) (aDy m c)) := by
  refine (dats m 0 c).arrAt_eq_of_covers 8 _ (by decide +kernel) fun t _ y => ?_
  blk_simp
  rw [after0_8]
  obtain ⟨r, l, rfl⟩ : ∃ (r : Fin 256) (l : Fin 1024), y = ix2 r l := ⟨y 0, y 1, by idx_vars y⟩
  refine ((outs_dx t r l).trans (ref_dx hf (row t r) l).symm).trans ?_
  blk_ext [idx t]
theorem arr_do : Eq (α := S8192x1024.Idx → EReal) ((dats m 0 c).arrAt 9 cfg0.N)
    (val_main_v53 (F := Ideal) (aO m c) (aX1 m c) (aWo m c) (aG m c) (aWgu m c) (aWd m c) (aDy m c)) := by
  refine (dats m 0 c).arrAt_eq_of_covers 9 _ (by decide +kernel) fun t _ y => ?_
  blk_simp
  rw [after0_9]
  obtain ⟨r, l, rfl⟩ : ∃ (r : Fin 256) (l : Fin 1024), y = ix2 r l := ⟨y 0, y 1, by idx_vars y⟩
  refine ((outs_do t r l).trans (ref_do hf (row t r) l).symm).trans ?_
  blk_ext [idx t]

omit hf in
/-- The point the accumulated array is written at is the last. -/
theorem last_of {t : Fin cfg0.N} (h : t.val % 32 = 31) : t.val + 1 = cfg0.N := by
  have hl : t.val < 32 := lt_of_lt_of_eq t.isLt N_0
  have hs : t.val + 1 = 32 := by omega
  exact hs.trans N_0.symm

theorem arr_dg : Eq (α := S1x1024.Idx → EReal) ((dats m 0 c).arrAt 10 cfg0.N)
    (val_main_v54 (F := Ideal) (aO m c) (aX1 m c) (aWo m c) (aG m c) (aWgu m c) (aWd m c) (aDy m c)) := by
  refine (dats m 0 c).arrAt_eq_of_covers 10 _ (by decide +kernel) fun t ht y => ?_
  blk_simp
  rw [after0_10]
  obtain ⟨z, l, rfl⟩ : ∃ (z : Fin 1) (l : Fin 1024), y = ix2 z l := ⟨y 0, y 1, by idx_vars y⟩
  obtain rfl : z = 0 := Subsingleton.elim _ _
  refine ((dg_last t (last_of ((flush0_10 t).mp ht)) l).trans (ref_dg hf l).symm).trans ?_
  blk_ext [idx t]
end Arrays

/-- The two programs have one text, so at the bits they are one program. -/
theorem defs_eq : Cert.FfnKernel.defs (F := Bits) = Cert.FfnKernelIdeal.defs (F := Bits) := by sl_kernel_rfl
theorem main_eq : Cert.FfnKernel.main (F := Bits) = Cert.FfnKernelIdeal.main (F := Bits) := by sl_kernel_rfl

/-- The run of the ideal program holds over any floats: at the bits it is the run of the program itself. -/
theorem frame_bits : Cert.quiescent_FfnKernel := fun m ρ _ => by
  rw [defs_eq, main_eq]
  exact Cert.FfnKernelIdeal.Gen.frame (F := Bits) m ρ

theorem frame_ideal : Cert.quiescent_FfnKernelIdeal := fun m ρ _ => Cert.FfnKernelIdeal.Gen.frame m ρ
theorem frame_ideal_finite : Cert.quiescent_FfnKernelIdeal_pre_ffn_finite := fun m ρ _ => Cert.FfnKernelIdeal.Gen.frame m ρ

theorem frame_reference : Cert.quiescent_FfnReferenceIdeal := fun m ρ _ =>
  (θ_run Cert.FfnReferenceIdeal.defs _ _).mono (fun r h => ⟨fun c => (h c).2.2.2.2,
    Idealize.ShloMosaic.sem_eq_zero_of_no_sems (by decide) r.2⟩) (Cert.FfnReferenceIdeal.Value.run m ρ)
theorem frame_reference_finite : Cert.quiescent_FfnReferenceIdeal_pre_ffn_finite := fun m ρ _ => frame_reference m ρ trivial

theorem finite_of_pre {m : (ℓ : Loc Cert.FfnKernelIdeal.nD Cert.FfnKernelIdeal.τ Cert.FfnKernelIdeal.sig) → Buf (Elt Ideal) ℓ}
    (h : Cert.Pre_FfnKernelIdeal_ffn_finite m) (c : Dev Cert.FfnKernelIdeal.nD) : Finite (aG m c) (aWgu m c) (aWd m c) (aDy m c) where
  gain l := ⟨_, (Cert.RealArrays.real_of_abs _ (congrFun (h c).1 (ix1 l))).symm⟩
  weight k f := by
    have e : Eq (α := EReal) (extractStridedSlice Cert.Pre_ffn_finite.S1024x2816 ![0, 2816] (aWgu m c)
        Cert.Pre_ffn_finite.Facts.slices_S1024x5632_S1024x2816_0_2816 (ix2 k f)) (aWgu m c (ix2 k (up f))) := by pointwise
    exact ⟨_, e.symm.trans (Cert.RealArrays.real_of_abs _ (congrFun (h c).2.1 (ix2 k f))).symm⟩
  down f k := ⟨_, (Cert.RealArrays.real_of_abs _ (congrFun (h c).2.2.1 (ix2 f k))).symm⟩
  cot r k := ⟨_, (Cert.RealArrays.real_of_abs _ (congrFun (h c).2.2.2 (ix2 r k))).symm⟩

theorem equal : Cert.algebraic_FfnKernelIdeal_FfnReferenceIdeal_pre_ffn_finite := fun m ρ m' ρ' hpre hin => by
  refine ⟨fun c => val_main_v52 (F := Ideal) (aO m c) (aX1 m c) (aWo m c) (aG m c) (aWgu m c) (aWd m c) (aDy m c),
    fun c => val_main_v50 (F := Ideal) (aO m c) (aX1 m c) (aWo m c) (aG m c) (aWgu m c) (aWd m c) (aDy m c),
    fun c => val_main_v53 (F := Ideal) (aO m c) (aX1 m c) (aWo m c) (aG m c) (aWgu m c) (aWd m c) (aDy m c),
    fun c => val_main_v54 (F := Ideal) (aO m c) (aX1 m c) (aWo m c) (aG m c) (aWgu m c) (aWd m c) (aDy m c), ?_, ?_⟩
  · refine (θ_run Cert.FfnKernelIdeal.defs _ _).mono (fun r h c => ?_) (Cert.FfnKernelIdeal.Value.run_blocks m ρ)
    have hf := finite_of_pre hpre c
    obtain ⟨h0, h1, h2, h3, hargs⟩ := h c
    exact ⟨h0.trans (arr_dgu hf), h1.trans (arr_dx hf), h2.trans (arr_do hf), h3.trans (arr_dg hf), hargs⟩
  · refine (θ_run Cert.FfnReferenceIdeal.defs _ _).mono (fun r h c => ?_) (Cert.FfnReferenceIdeal.Value.run m' ρ')
    obtain ⟨h0, h1, h2, h3, hargs⟩ := h c
    obtain ⟨a0, a1, a2, a3, a4, a5, a6⟩ := hin c
    refine ⟨h0.trans ((val_main_v52_eq m' c).trans ?_), h1.trans ((val_main_v50_eq m' c).trans ?_),
      h2.trans ((val_main_v53_eq m' c).trans ?_), h3.trans ((val_main_v54_eq m' c).trans ?_), hargs⟩ <;>
    simp only [a0, a1, a2, a3, a4, a5, a6] <;> rfl
end Cert.FfnKernel
end
-- ==== Proof.LossReference.lean ====
/- The stages of the reference of the feed-forward layer, the last norm and the loss. -/
module

public import proofs.«01_k».proof.Proof.FfnReference
public import proofs.«01_k».proof.Proof.Sigmoid
public import proofs.«01_k».proof.Proof.Gen.LossReferenceIdeal.Read

@[expose] public section
set_option maxRecDepth 16384
noncomputable section
namespace Cert.LossKernel
open Cert.LossReferenceIdeal Cert.LossReferenceIdeal.Gen Cert.LossReferenceIdeal.Read
open Idealize.ShloMosaic Idealize.ShloMosaic.TcCoe Idealize.SL.Sem
open Cert.RmsNorm
open Cert.RealNorm (one_word two_word)
open Cert.FfnKernel (gate up)

variable (x : Vec Ideal S8192x1024 .f32) (g : Vec Ideal S1024 .f32) (wgu : Vec Ideal S1024x5632 .f32) (wd : Vec Ideal S2816x1024 .f32)
  (gf : Vec Ideal S1024 .f32) (y : Vec Ideal S8192x1024 .f32)

/-- The two halves of the layer's first product, the activation, the layer's output and the error of the last norm's output. -/
def gt (r : Fin 8192) (f : Fin 2816) : EReal := val_main_v13 (F := Ideal) x g wgu (ix2 r (gate f))
def ut (r : Fin 8192) (f : Fin 2816) : EReal := val_main_v13 (F := Ideal) x g wgu (ix2 r (up f))
def act (r : Fin 8192) (f : Fin 2816) : EReal := gt x g wgu r f * Ideal.logistic (gt x g wgu r f) * ut x g wgu r f
def xrow (r : Fin 8192) (l : Fin 1024) : EReal := x (ix2 r l) + ∑ f : Fin 2816, act x g wgu r f * wd (ix2 f l)
def err (r : Fin 8192) (l : Fin 1024) : EReal :=
  xrow x g wgu wd r l * (rms (xrow x g wgu wd r) : EReal) * gf (ix1 l) - y (ix2 r l)
/-- A row's mean square error; the gradients of the norm's output and of the normalised row. -/
def mse (r : Fin 8192) : EReal := Ideal.div (∑ l : Fin 1024, err x g wgu wd gf y r l * err x g wgu wd gf y r l) (Ideal.ofBits .f32 0x44800000#32)
def dy (r : Fin 8192) (l : Fin 1024) : EReal := err x g wgu wd gf y r l * Ideal.ofBits .f32 0x3A800000#32
def dhat (r : Fin 8192) (l : Fin 1024) : EReal := dy x g wgu wd gf y r l * gf (ix1 l)

theorem half_word : Ideal.ofBits .f32 0x3F000000#32 = Cert.Sigmoid.half := by
  simp [Ideal.ofBits, Ideal.ieee, -EReal.coe_mul]; norm_num
theorem inverse_word : Ideal.ofBits .f32 0x3A800000#32 = ((1024⁻¹ : ℝ) : EReal) := by
  simp [Ideal.ofBits, Ideal.ieee, -EReal.coe_mul]; norm_num
/-- The derivative of half a row's mean square: half of twice the error, over the row's length. -/
theorem half_square (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [div_width_mul, half_word, one_word, two_word, inverse_word, ← mul_assoc, ← EReal.coe_mul, ← EReal.coe_mul, ← EReal.coe_mul, mul_comm e]
  norm_num

/-! ## The layer -/

theorem ref_gt (r : Fin 8192) (f : Fin 2816) : Eq (α := EReal) (val_main_v14 (F := Ideal) x g wgu (ix2 r f)) (gt x g wgu r f) := by
  unfold gt
  pointwise [val_main_v14]
theorem ref_ut (r : Fin 8192) (f : Fin 2816) : Eq (α := EReal) (val_main_v15 (F := Ideal) x g wgu (ix2 r f)) (ut x g wgu r f) := by
  unfold ut
  pointwise [val_main_v15]
theorem ref_act (r : Fin 8192) (f : Fin 2816) : Eq (α := EReal) (val_main_v17 (F := Ideal) x g wgu (ix2 r f)) (act x g wgu r f) := by
  refine Eq.trans (b := val_main_v14 (F := Ideal) x g wgu (ix2 r f) * Ideal.div (Ideal.ofBits .f32 0x3F800000#32)
    (Ideal.ofBits .f32 0x3F800000#32 + Ideal.exp (-(val_main_v14 (F := Ideal) x g wgu (ix2 r f)))) * val_main_v15 (F := Ideal) x g wgu (ix2 r f)) ?_ ?_
  · pointwise [val_main_v17, val_main_v16, val_main_call0_v5, val_main_call0_v4, val_main_call0_v3, val_main_call0_v2, val_main_call0_v1,
      val_main_call0_v0, val_main_call0_cst, val_main_call0_cst_0]
  · rw [ref_gt, ref_ut, one_word]
    rfl
theorem ref_x (r : Fin 8192) (l : Fin 1024) : Eq (α := EReal) (val_main_v19 (F := Ideal) x g wgu wd (ix2 r l)) (xrow x g wgu wd r l) := by
  refine Eq.trans (b := x (ix2 r l) + ∑ f : Fin 2816, val_main_v17 (F := Ideal) x g wgu (ix2 r f) * wd (ix2 f l)) ?_ ?_
  · pointwise [val_main_v19, val_main_v18]
  · simp only [ref_act]
    rfl

/-! ## The last norm -/

theorem ref_row (r : Fin 8192) : Cert.QrmsKernel.xrow (val_main_v19 (F := Ideal) x g wgu wd) r = xrow x g wgu wd r :=
  funext fun l => ref_x x g wgu wd r l
theorem ref_rms (r : Fin 8192) : Eq (α := EReal) (val_main_v27 (F := Ideal) x g wgu wd (ix2 r 0)) (rms (xrow x g wgu wd r) : EReal) :=
  (Cert.QrmsKernel.ref_rms (val_main_v19 (F := Ideal) x g wgu wd) r).trans (by rw [ref_row])
theorem ref_slope (r : Fin 8192) : Eq (α := EReal) (val_main_v30 (F := Ideal) x g wgu wd (ix2 r 0))
    (Ideal.ofBits .f32 0xBF000000#32 * Ideal.div (rms (xrow x g wgu wd r) : EReal) (ms (xrow x g wgu wd r))) :=
  (Cert.QrmsKernel.ref_slope (val_main_v19 (F := Ideal) x g wgu wd) r).trans (by rw [ref_row])
theorem ref_hat (r : Fin 8192) (l : Fin 1024) : Eq (α := EReal) (val_main_v32 (F := Ideal) x g wgu wd (ix2 r l))
    (xrow x g wgu wd r l * (rms (xrow x g wgu wd r) : EReal)) :=
  (Cert.QrmsKernel.ref_hat (val_main_v19 (F := Ideal) x g wgu wd) r l).trans (by rw [ref_row])
theorem ref_err (r : Fin 8192) (l : Fin 1024) : Eq (α := EReal) (val_main_v36 (F := Ideal) x g wgu wd gf y (ix2 r l)) (err x g wgu wd gf y r l) := by
  refine Eq.trans (b := val_main_v32 (F := Ideal) x g wgu wd (ix2 r l) * gf (ix1 l) - y (ix2 r l)) ?_ ?_
  · pointwise [val_main_v36, val_main_v35, val_main_v34, val_main_v33]
  · rw [ref_hat]
    rfl
theorem ref_loss : Eq (α := EReal) (val_main_v73 (F := Ideal) x g wgu wd gf y (ix2 0 0))
    (Ideal.ofBits .f32 0x3F000000#32 * ∑ r, mse x g wgu wd gf y r) := by
  refine Eq.trans (b := Ideal.ofBits .f32 0x3F000000#32 * ∑ r : Fin 8192, Ideal.div (∑ l : Fin 1024, val_main_v36 (F := Ideal) x g wgu wd gf y (ix2 r l)
    * val_main_v36 (F := Ideal) x g wgu wd gf y (ix2 r l)) (Ideal.ofBits .f32 0x44800000#32)) ?_ ?_
  · pointwise [val_main_v73, val_main_v44, val_main_v43, val_main_v42, val_main_v41, val_main_v40, val_main_v37, val_main_cst_7,
      val_main_cst_8, val_main_cst_9, val_main_cst_10]
  · simp only [ref_err]
    rfl

/-! ## The gradients -/

theorem ref_dy (r : Fin 8192) (l : Fin 1024) : Eq (α := EReal) (val_main_v50 (F := Ideal) x g wgu wd gf y (ix2 r l)) (dy x g wgu wd gf y r l) := by
  refine Eq.trans (b := Ideal.div (Ideal.ofBits .f32 0x3F000000#32 * Ideal.ofBits .f32 0x3F800000#32) (Ideal.ofBits .f32 0x44800000#32)
    * (Ideal.ofBits .f32 0x40000000#32 * val_main_v36 (F := Ideal) x g wgu wd gf y (ix2 r l))) ?_ ?_
  · pointwise [val_main_v50, val_main_v49, val_main_v48, val_main_v47, val_main_v46, val_main_v45, val_main_v39, val_main_v38,
      val_main_cst_6, val_main_cst_11, val_main_cst_12, val_main_cst_13]
  · rw [ref_err, half_square]
    rfl
theorem ref_dhat (r : Fin 8192) (l : Fin 1024) : Eq (α := EReal) (val_main_v55 (F := Ideal) x g wgu wd gf y (ix2 r l)) (dhat x g wgu wd gf y r l) := by
  refine Eq.trans (b := val_main_v50 (F := Ideal) x g wgu wd gf y (ix2 r l) * gf (ix1 l)) ?_ ?_
  · pointwise [val_main_v55, val_main_v54, val_main_v33]
  · rw [ref_dy]
    rfl
theorem ref_dg (l : Fin 1024) : Eq (α := EReal) (val_main_v74 (F := Ideal) x g wgu wd gf y (ix2 0 l))
    (∑ r : Fin 8192, xrow x g wgu wd r l * (rms (xrow x g wgu wd r) : EReal) * dy x g wgu wd gf y r l) := by
  refine Eq.trans (b := ∑ k : Fin 1, ∑ r : Fin 8192, val_main_v32 (F := Ideal) x g wgu wd (ix2 r l) * val_main_v50 (F := Ideal) x g wgu wd gf y (ix2 r l)) ?_ ?_
  · pointwise [val_main_v74, val_main_v56, val_main_v53, val_main_v52, val_main_v51, val_main_cst_14, val_main_cst_15]
  · simp only [Fin.sum_univ_one, ref_hat, ref_dy]
theorem ref_dms (r : Fin 8192) : Eq (α := EReal) (val_main_v64 (F := Ideal) x g wgu wd gf y (ix2 r 0))
    (dms (xrow x g wgu wd r) (dhat x g wgu wd gf y r)) := by
  refine Eq.trans (b := Ideal.div ((∑ k : Fin 1024, val_main_v19 (F := Ideal) x g wgu wd (ix2 r k) * val_main_v55 (F := Ideal) x g wgu wd gf y (ix2 r k))
    * val_main_v30 (F := Ideal) x g wgu wd (ix2 r 0)) (Ideal.ofBits .f32 0x44800000#32)) ?_ ?_
  · pointwise [val_main_v64, val_main_v63, val_main_v62, val_main_v59, val_main_v58, val_main_v57, val_main_cst_16, val_main_cst_17]
  · simp only [ref_x, ref_dhat, ref_slope]
    rfl
theorem ref_dx (r : Fin 8192) (l : Fin 1024) : Eq (α := EReal) (val_main_v70 (F := Ideal) x g wgu wd gf y (ix2 r l))
    (dnorm (xrow x g wgu wd r) (dhat x g wgu wd gf y r) l) := by
  refine Eq.trans (b := val_main_v55 (F := Ideal) x g wgu wd gf y (ix2 r l) * val_main_v27 (F := Ideal) x g wgu wd (ix2 r 0)
    + val_main_v19 (F := Ideal) x g wgu wd (ix2 r l) * (∑ k : Fin 1, val_main_v64 (F := Ideal) x g wgu wd gf y (ix2 r k))
    + (∑ k : Fin 1, val_main_v64 (F := Ideal) x g wgu wd gf y (ix2 r k)) * val_main_v19 (F := Ideal) x g wgu wd (ix2 r l)) ?_ ?_
  · pointwise [val_main_v70, val_main_v69, val_main_v68, val_main_v67, val_main_v66, val_main_v65, val_main_v61, val_main_v60, val_main_cst_18]
  · rw [Fin.sum_univ_one, ref_x, ref_dhat, ref_rms, ref_dms, mul_comm (xrow x g wgu wd r l), add_assoc]
    exact chain_rule (xrow x g wgu wd r) (dhat x g wgu wd gf y r) l
end Cert.LossKernel
end
-- ==== Proof.LossPoint.lean ====
/- What the blocks of the feed-forward layer, the last norm and the loss hold after each grid point. -/
module

public import proofs.«01_k».proof.Proof.LossReference
public import proofs.«01_k».proof.Proof.Gen.LossKernelIdeal.Frame
public import Idealize.ShloMosaic.Lib.Pipeline.ValueKit
public import Idealize.ShloMosaic.Lib.Pipeline.ReadBack

@[expose] public section
set_option maxRecDepth 16384
noncomputable section
namespace Cert.LossKernel
open Cert.LossReferenceIdeal.Read
open Cert.LossKernelIdeal Cert.LossKernelIdeal.Gen Idealize.ShloMosaic Idealize.ShloMosaic.TcCoe Idealize.SL.Sem
open Cert.RmsNorm
open Cert.FfnKernel (gate up)
variable (m : (ℓ : Loc nD τ sig) → Buf (Elt Ideal) ℓ) (c : Dev nD)

abbrev aX : Vec Ideal S8192x1024 .f32 := m ((c.tc : Thread nD τ).loc main_arg0)
abbrev aG : Vec Ideal S1024 .f32 := m ((c.tc : Thread nD τ).loc main_arg1)
abbrev aWgu : Vec Ideal S1024x5632 .f32 := m ((c.tc : Thread nD τ).loc main_arg2)
abbrev aWd : Vec Ideal S2816x1024 .f32 := m ((c.tc : Thread nD τ).loc main_arg3)
abbrev aGf : Vec Ideal S1024 .f32 := m ((c.tc : Thread nD τ).loc main_arg4)
abbrev aY : Vec Ideal S8192x1024 .f32 := m ((c.tc : Thread nD τ).loc main_arg5)

/-- The reference's arrays and functions, of this program's arguments. -/
abbrev h3 : Vec Ideal S8192x1024 .f32 := val_main_v12 (F := Ideal) (aX m c) (aG m c)
abbrev gu : Vec Ideal S8192x5632 .f32 := val_main_v13 (F := Ideal) (aX m c) (aG m c) (aWgu m c)
abbrev A : Fin 8192 → Fin 2816 → EReal := act (aX m c) (aG m c) (aWgu m c)
abbrev X3 : Fin 8192 → Fin 1024 → EReal := xrow (aX m c) (aG m c) (aWgu m c) (aWd m c)
abbrev E : Fin 8192 → Fin 1024 → EReal := err (aX m c) (aG m c) (aWgu m c) (aWd m c) (aGf m c) (aY m c)
abbrev M : Fin 8192 → EReal := mse (aX m c) (aG m c) (aWgu m c) (aWd m c) (aGf m c) (aY m c)
abbrev dY : Fin 8192 → Fin 1024 → EReal := dy (aX m c) (aG m c) (aWgu m c) (aWd m c) (aGf m c) (aY m c)
abbrev dHat : Fin 8192 → Fin 1024 → EReal := dhat (aX m c) (aG m c) (aWgu m c) (aWd m c) (aGf m c) (aY m c)

/-! ## The windows' blocks: point `t` reads rows `256 t` to `256 t + 255`; each half of the columns is worked through in two tiles -/

/-- Column `k` of tile `j`, as a column of a half. -/
abbrev col (j : Fin 2) (k : Fin 1408) : Fin 2816 := ⟨1408 * j.val + k.val, by omega⟩

theorem V_h (i : S8192x1024.Idx) : V m c main_v13 i = h3 m c i := rfl
theorem V_wd (i : S2816x1024.Idx) : V m c main_v16 i = aWd m c i := rfl
theorem V_wgu (k : Fin 5632) (l : Fin 1024) : V m c main_v15 (ix2 k l) = aWgu m c (ix2 l k) := by
  have e : V m c main_v15 = transpose S5632x1024 [1, 0] (aWgu m c) transposes_S1024x5632_S5632x1024_1_0 := rfl
  rw [e]; pointwise
theorem V_g (z : Fin 1) (l : Fin 1024) : V m c main_v17 (ix2 z l) = aGf m c (ix1 l) := by
  have e : V m c main_v17 = broadcastInDim S1x1024 ![1] bcast_S1024_S1x1024_1 (aGf m c) := rfl
  rw [e]; pointwise

/-- Row `r` of point `t`'s block, as a row of the array. -/
abbrev row (t : Fin cfg0.N) (r : Fin 256) : Fin 8192 :=
  ⟨256 * t.val + r.val, by have h := lt_of_lt_of_eq t.isLt (show cfg0.N = 32 from N_0); omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

theorem blk_h (t : Fin cfg0.N) (r : Fin 256) (l : Fin 1024) : iblk m c 0 t (ix2 r l) = h3 m c (ix2 (row t r) l) := by
  refine Eq.trans ?_ (V_h m c _)
  blk_point [iblk, idx t]
theorem blk_x (t : Fin cfg0.N) (r : Fin 256) (l : Fin 1024) : iblk m c 1 t (ix2 r l) = aX m c (ix2 (row t r) l) := by
  blk_point [iblk, V, idx t]
theorem blk_y (t : Fin cfg0.N) (r : Fin 256) (l : Fin 1024) : iblk m c 2 t (ix2 r l) = aY m c (ix2 (row t r) l) := by
  blk_point [iblk, V, idx t]
theorem blk_wgu (t : Fin cfg0.N) (k : Fin 5632) (l : Fin 1024) : iblk m c 3 t (ix2 k l) = aWgu m c (ix2 l k) := by
  refine Eq.trans ?_ (V_wgu m c k l)
  blk_point [iblk, idx t]
theorem blk_wd (t : Fin cfg0.N) (f : Fin 2816) (l : Fin 1024) : iblk m c 4 t (ix2 f l) = aWd m c (ix2 f l) := by
  refine Eq.trans ?_ (V_wd m c _)
  blk_point [iblk, idx t]
theorem blk_g (t : Fin cfg0.N) (l : Fin 1024) : iblk m c 5 t (ix2 0 l) = aGf m c (ix1 l) := by
  refine Eq.trans ?_ (V_g m c 0 l)
  blk_point [iblk, idx t]

/-- Loads of tile `j`: the first weight's rows for the two halves, and the second weight's rows. -/
structure IsTile (j : Fin 2) (wa wb wd : Vec Ideal S1408x1024 .bf16) : Prop where
  wgate : ∀ (k : Fin 1408) (l : Fin 1024), wa (ix2 k l) = aWgu m c (ix2 l (gate (col j k)))
  wup : ∀ (k : Fin 1408) (l : Fin 1024), wb (ix2 k l) = aWgu m c (ix2 l (up (col j k)))
  down : ∀ (k : Fin 1408) (l : Fin 1024), wd (ix2 k l) = aWd m c (ix2 (col j k) l)

section Loads
variable {m c} (t : Fin cfg0.N) (o : Nat)
theorem ld_wgu (ho : ∀ k : Fin 1408, o + k.val < 5632) (h : ∀ a, (![o, 0] : Fin 2 → Nat) a + S1408x1024.size a ≤ S5632x1024.size a)
    (k : Fin 1408) (l : Fin 1024) : View.ld (iblk m c 3 t) (Rect.unit ![o, 0] S1408x1024.size h) (ix2 k l)
      = aWgu m c (ix2 l ⟨o + k.val, ho k⟩) := by
  refine Eq.trans ?_ (blk_wgu m c t ⟨o + k.val, ho k⟩ l)
  pointwise
theorem ld_wd (ho : ∀ k : Fin 1408, o + k.val < 2816) (h : ∀ a, (![o, 0] : Fin 2 → Nat) a + S1408x1024.size a ≤ S2816x1024.size a)
    (k : Fin 1408) (l : Fin 1024) : View.ld (iblk m c 4 t) (Rect.unit ![o, 0] S1408x1024.size h) (ix2 k l)
      = aWd m c (ix2 ⟨o + k.val, ho k⟩ l) := by
  refine Eq.trans ?_ (blk_wd m c t ⟨o + k.val, ho k⟩ l)
  pointwise
theorem ldTile (j : Fin 2) (o' : Nat) (ho : o = 1408 * j.val) (ho' : o' = 2816 + 1408 * j.val)
    (hwa : ∀ a, (![o, 0] : Fin 2 → Nat) a + S1408x1024.size a ≤ S5632x1024.size a)
    (hwb : ∀ a, (![o', 0] : Fin 2 → Nat) a + S1408x1024.size a ≤ S5632x1024.size a)
    (hd : ∀ a, (![o, 0] : Fin 2 → Nat) a + S1408x1024.size a ≤ S2816x1024.size a) :
    IsTile m c j (View.ld (iblk m c 3 t) (Rect.unit ![o, 0] S1408x1024.size hwa)) (View.ld (iblk m c 3 t) (Rect.unit ![o', 0] S1408x1024.size hwb))
      (View.ld (iblk m c 4 t) (Rect.unit ![o, 0] S1408x1024.size hd)) := by
  subst ho ho'
  exact ⟨ld_wgu t _ (fun k => by omega) hwa,
    fun k l => (ld_wgu t _ (fun k => by omega) hwb k l).trans (congrArg (fun i => aWgu m c (ix2 l i)) (Fin.ext (Nat.add_assoc _ _ _))),
    ld_wd t _ (fun k => by omega) hd⟩
end Loads

/-! ## The body's expressions at an index, over any blocks -/

theorem pay5_at (h : Vec Ideal S256x1024 .bf16) (w : Vec Ideal S1408x1024 .bf16) (r : Fin 256) (k : Fin 1408) :
    Eq (α := EReal) (k0_pay5 (F := Ideal) h w (ix2 r k)) (∑ l : Fin 1024, h (ix2 r l) * w (ix2 k l)) := by
  pointwise [k0_pay5, k0_pay4]
theorem pay7_at (h : Vec Ideal S256x1024 .bf16) (wa wb : Vec Ideal S1408x1024 .bf16) (r : Fin 256) (k : Fin 1408) :
    Eq (α := EReal) (k0_pay7 (F := Ideal) h wa wb (ix2 r k)) (k0_pay5 (F := Ideal) h wa (ix2 r k)
      * Ideal.logistic (k0_pay5 (F := Ideal) h wa (ix2 r k)) * k0_pay6 (F := Ideal) h wb (ix2 r k)) := by
  rw [← Cert.Sigmoid.tanh_form, ← half_word]
  pointwise [k0_pay7]
/-- The other tiles' expressions are the first's. -/
theorem pay6_eq (h : Vec Ideal S256x1024 .bf16) (w : Vec Ideal S1408x1024 .bf16) : k0_pay6 (F := Ideal) h w = k0_pay5 (F := Ideal) h w := rfl
theorem pay9_eq (h : Vec Ideal S256x1024 .bf16) (w : Vec Ideal S1408x1024 .bf16) :
    k0_pay9 (F := Ideal) (k0_pay4 (F := Ideal) h) w = k0_pay5 (F := Ideal) h w := rfl
theorem pay10_eq (h : Vec Ideal S256x1024 .bf16) (w : Vec Ideal S1408x1024 .bf16) :
    k0_pay10 (F := Ideal) (k0_pay4 (F := Ideal) h) w = k0_pay5 (F := Ideal) h w := rfl
theorem pay11_eq (h : Vec Ideal S256x1024 .bf16) (wa wb : Vec Ideal S1408x1024 .bf16) :
    k0_pay11 (F := Ideal) (k0_pay4 (F := Ideal) h) wa wb = k0_pay7 (F := Ideal) h wa wb := rfl
theorem pay12_at (h : Vec Ideal S256x1024 .bf16) (x : Vec Ideal S256x1024 .f32) (a : Vec Ideal S256x1408 .bf16) (wd0 wa wb wd1 : Vec Ideal S1408x1024 .bf16)
    (r : Fin 256) (l : Fin 1024) : Eq (α := EReal)
    (k0_pay12 (F := Ideal) h x a (k0_pay8 (F := Ideal) wd0) (constant S256x1024 .f32 0x00000000#32) wa wb wd1 (ix2 r l))
      (x (ix2 r l) + ∑ k : Fin 1408, a (ix2 r k) * wd0 (ix2 k l) + ∑ k : Fin 1408, k0_pay11 (F := Ideal) h wa wb (ix2 r k) * wd1 (ix2 k l)) := by
  pointwise [k0_pay12, k0_pay8]
theorem pay14_at (h : Vec Ideal S256x1024 .bf16) (x z : Vec Ideal S256x1024 .f32) (a : Vec Ideal S256x1408 .bf16) (wd0 wa wb wd1 : Vec Ideal S1408x1024 .bf16)
    (r : Fin 256) : Eq (α := EReal) (k0_pay14 (F := Ideal) h x a wd0 z wa wb wd1 (ix2 r 0))
      (∑ l : Fin 1024, k0_pay12 (F := Ideal) h x a wd0 z wa wb wd1 (ix2 r l) * k0_pay12 (F := Ideal) h x a wd0 z wa wb wd1 (ix2 r l)) := by
  pointwise [k0_pay14]

section Norm
variable (x3 : Vec Ideal S256x1024 .f32) (g : Vec Ideal S1x1024 .f32) (s n : Vec Ideal S256x1 .f32) (y : Vec Ideal S256x1024 .f32)
theorem pay16_at (r : Fin 256) : Eq (α := EReal) (k0_pay16 (F := Ideal) s (k0_pay15 (F := Ideal)) (ix2 r 0))
    (Ideal.rsqrt (Ideal.div (s (ix2 r 0)) (Ideal.ofBits .f32 0x44800000#32) + Ideal.ofBits .f32 0x358637BD#32)) := by
  pointwise [k0_pay16, k0_pay15]
theorem pay17_at (r : Fin 256) (l : Fin 1024) : Eq (α := EReal) (k0_pay17 (F := Ideal) x3 s n (ix2 r l))
    (x3 (ix2 r l) * k0_pay16 (F := Ideal) s n (ix2 r 0)) := by
  pointwise [k0_pay17]
theorem pay18_at (r : Fin 256) (l : Fin 1024) : Eq (α := EReal) (k0_pay18 (F := Ideal) x3 (k0_pay13 (F := Ideal) g) s n y (ix2 r l))
    (k0_pay17 (F := Ideal) x3 s n (ix2 r l) * g (ix2 0 l) - y (ix2 r l)) := by
  pointwise [k0_pay18, k0_pay13]
theorem pay19_at (v : Vec Ideal S1x1 .f32) : Eq (α := EReal) (k0_pay19 (F := Ideal) x3 g s n y v (ix2 0 0))
    (v (ix2 0 0) + Ideal.ofBits .f32 0x3F000000#32 * ∑ r : Fin 256, Ideal.div (∑ l : Fin 1024, k0_pay18 (F := Ideal) x3 g s n y (ix2 r l)
      * k0_pay18 (F := Ideal) x3 g s n y (ix2 r l)) (Ideal.ofBits .f32 0x44800000#32)) := by
  pointwise [k0_pay19]
theorem pay20_at (r : Fin 256) (l : Fin 1024) : Eq (α := EReal) (k0_pay20 (F := Ideal) x3 g s n y (ix2 r l))
    (k0_pay18 (F := Ideal) x3 g s n y (ix2 r l) * Ideal.ofBits .f32 0x3A800000#32) := by
  pointwise [k0_pay20]
theorem pay21_at (v : Vec Ideal S1x1024 .f32) (l : Fin 1024) : Eq (α := EReal) (k0_pay21 (F := Ideal) x3 g s n y v (ix2 0 l))
    (v (ix2 0 l) + ∑ r : Fin 256, k0_pay20 (F := Ideal) x3 g s n y (ix2 r l) * k0_pay17 (F := Ideal) x3 s n (ix2 r l)) := by
  pointwise [k0_pay21]
theorem pay22_at (r : Fin 256) (l : Fin 1024) : Eq (α := EReal) (k0_pay22 (F := Ideal) x3 (k0_pay13 (F := Ideal) g) s n y (ix2 r l))
    (k0_pay20 (F := Ideal) x3 (k0_pay13 (F := Ideal) g) s n y (ix2 r l) * g (ix2 0 l)) := by
  pointwise [k0_pay22, k0_pay13]
theorem pay1_at (r : Fin 256) (l : Fin 1024) : Eq (α := EReal) (k0_pay1 (F := Ideal) (k0_pay16 (F := Ideal) s n) (k0_pay17 (F := Ideal) x3 s n)
    (k0_pay22 (F := Ideal) x3 g s n y) (k0_pay23 (F := Ideal) x3 g s n y) (ix2 r l)) (k0_pay16 (F := Ideal) s n (ix2 r 0)
      * (k0_pay22 (F := Ideal) x3 g s n y (ix2 r l) - k0_pay17 (F := Ideal) x3 s n (ix2 r l)
      * Ideal.div (∑ k : Fin 1024, k0_pay22 (F := Ideal) x3 g s n y (ix2 r k) * k0_pay17 (F := Ideal) x3 s n (ix2 r k))
        (Ideal.ofBits .f32 0x44800000#32))) := by
  pointwise [k0_pay1, k0_pay23]
end Norm

/-! ## The body's expressions at a point -/

variable {m c}
section Tile
variable {j : Fin 2} {wa wb wd : Vec Ideal S1408x1024 .bf16} (T : IsTile m c j wa wb wd) (t : Fin cfg0.N) (r : Fin 256) (k : Fin 1408)
include T
theorem gt_at : Eq (α := EReal) (k0_pay5 (F := Ideal) (iblk m c 0 t) wa (ix2 r k)) (gu m c (ix2 (row t r) (gate (col j k)))) := by
  refine Eq.trans (b := ∑ l : Fin 1024, h3 m c (ix2 (row t r) l) * aWgu m c (ix2 l (gate (col j k)))) ?_ ?_
  · exact (pay5_at _ _ r k).trans (Finset.sum_congr rfl fun l _ => Ideal.mul_congr (blk_h m c t r l) (T.wgate k l))
  · unfold gu
    pointwise [val_main_v13]
theorem ut_at : Eq (α := EReal) (k0_pay5 (F := Ideal) (iblk m c 0 t) wb (ix2 r k)) (gu m c (ix2 (row t r) (up (col j k)))) := by
  refine Eq.trans (b := ∑ l : Fin 1024, h3 m c (ix2 (row t r) l) * aWgu m c (ix2 l (up (col j k)))) ?_ ?_
  · exact (pay5_at _ _ r k).trans (Finset.sum_congr rfl fun l _ => Ideal.mul_congr (blk_h m c t r l) (T.wup k l))
  · unfold gu
    pointwise [val_main_v13]
theorem act_at : Eq (α := EReal) (k0_pay7 (F := Ideal) (iblk m c 0 t) wa wb (ix2 r k)) (A m c (row t r) (col j k)) := by
  rw [pay7_at, pay6_eq, gt_at T, ut_at T]
  rfl
end Tile

/-- A value of the body: the layer's output at point `t`, with the sum of the squares of its rows. -/
structure IsRow (t : Fin cfg0.N) (x3 : Vec Ideal S256x1024 .f32) (s : Vec Ideal S256x1 .f32) : Prop where
  x : ∀ (r : Fin 256) (l : Fin 1024), x3 (ix2 r l) = X3 m c (row t r) l
  s : ∀ r : Fin 256, s (ix2 r 0) = ∑ l : Fin 1024, X3 m c (row t r) l * X3 m c (row t r) l

theorem isRow (t : Fin cfg0.N) {wa0 wb0 wd0 wa1 wb1 wd1 : Vec Ideal S1408x1024 .bf16} (T0 : IsTile m c 0 wa0 wb0 wd0) (T1 : IsTile m c 1 wa1 wb1 wd1) :
    IsRow (m := m) (c := c) t
      (k0_pay12 (F := Ideal) (k0_pay4 (F := Ideal) (iblk m c 0 t)) (iblk m c 1 t) (k0_pay7 (F := Ideal) (iblk m c 0 t) wa0 wb0)
        (k0_pay8 (F := Ideal) wd0) (constant S256x1024 .f32 0x00000000#32) wa1 wb1 wd1)
      (k0_pay14 (F := Ideal) (k0_pay4 (F := Ideal) (iblk m c 0 t)) (iblk m c 1 t) (k0_pay7 (F := Ideal) (iblk m c 0 t) wa0 wb0)
        (k0_pay8 (F := Ideal) wd0) (constant S256x1024 .f32 0x00000000#32) wa1 wb1 wd1) := by
  have e : ∀ (r : Fin 256) (l : Fin 1024), Eq (α := EReal)
      (k0_pay12 (F := Ideal) (k0_pay4 (F := Ideal) (iblk m c 0 t)) (iblk m c 1 t) (k0_pay7 (F := Ideal) (iblk m c 0 t) wa0 wb0)
        (k0_pay8 (F := Ideal) wd0) (constant S256x1024 .f32 0x00000000#32) wa1 wb1 wd1 (ix2 r l)) (X3 m c (row t r) l) := fun r l => by
    rw [pay12_at, pay11_eq]
    simp only [act_at T0, act_at T1, T0.down, T1.down, blk_x]
    unfold X3 xrow
    rw [Fin.sum_univ_tiles 2 1408 rfl (fun f => A m c (row t r) f * aWd m c (ix2 f l)), Fin.sum_univ_two, ← add_assoc]
    rfl
  refine ⟨e, fun r => (pay14_at _ _ _ _ _ _ _ _ r).trans ?_⟩
  simp only [e]

section Rows
variable {t : Fin cfg0.N} {x3 : Vec Ideal S256x1024 .f32} {s : Vec Ideal S256x1 .f32} (R : IsRow (m := m) (c := c) t x3 s) (r : Fin 256) (l : Fin 1024)
include R
theorem rms_at : Eq (α := EReal) (k0_pay16 (F := Ideal) s (k0_pay15 (F := Ideal)) (ix2 r 0)) (rms (X3 m c (row t r)) : EReal) := by
  rw [pay16_at, R.s, ← rms_coe]
  rfl
theorem hat_at : Eq (α := EReal) (k0_pay17 (F := Ideal) x3 s (k0_pay15 (F := Ideal)) (ix2 r l))
    (X3 m c (row t r) l * (rms (X3 m c (row t r)) : EReal)) := by
  rw [pay17_at, rms_at R, R.x]
theorem err_at : Eq (α := EReal) (k0_pay18 (F := Ideal) x3 (k0_pay13 (F := Ideal) (iblk m c 5 t)) s (k0_pay15 (F := Ideal)) (iblk m c 2 t) (ix2 r l))
    (E m c (row t r) l) := by
  rw [pay18_at, hat_at R, blk_g, blk_y]
  rfl
theorem dy_at : Eq (α := EReal) (k0_pay20 (F := Ideal) x3 (k0_pay13 (F := Ideal) (iblk m c 5 t)) s (k0_pay15 (F := Ideal)) (iblk m c 2 t) (ix2 r l))
    (dY m c (row t r) l) := by
  rw [pay20_at, err_at R]
  rfl
theorem dhat_at : Eq (α := EReal) (k0_pay22 (F := Ideal) x3 (k0_pay13 (F := Ideal) (iblk m c 5 t)) s (k0_pay15 (F := Ideal)) (iblk m c 2 t) (ix2 r l))
    (dHat m c (row t r) l) := by
  rw [pay22_at, dy_at R, blk_g]
  rfl
theorem dx_at : Eq (α := EReal) (k0_pay1 (F := Ideal) (k0_pay16 (F := Ideal) s (k0_pay15 (F := Ideal)))
    (k0_pay17 (F := Ideal) x3 s (k0_pay15 (F := Ideal)))
    (k0_pay22 (F := Ideal) x3 (k0_pay13 (F := Ideal) (iblk m c 5 t)) s (k0_pay15 (F := Ideal)) (iblk m c 2 t))
    (k0_pay23 (F := Ideal) x3 (k0_pay13 (F := Ideal) (iblk m c 5 t)) s (k0_pay15 (F := Ideal)) (iblk m c 2 t)) (ix2 r l))
      (dnorm (X3 m c (row t r)) (dHat m c (row t r)) l) := by
  rw [pay1_at]
  simp only [dhat_at R, hat_at R, rms_at R]
  rfl
end Rows

variable (m c)
/-- What point `t` adds to the loss and to the gradient of the gain. -/
def lossPart (t : Fin cfg0.N) : EReal := Ideal.ofBits .f32 0x3F000000#32 * ∑ r : Fin 256, M m c (row t r)
def dgPart (t : Fin cfg0.N) (l : Fin 1024) : EReal := ∑ r : Fin 256,
  X3 m c (row t r) l * (rms (X3 m c (row t r)) : EReal) * dY m c (row t r) l
variable {m c}
section Sums
variable {t : Fin cfg0.N} {x3 : Vec Ideal S256x1024 .f32} {s : Vec Ideal S256x1 .f32} (R : IsRow (m := m) (c := c) t x3 s)
include R
theorem loss_at (v : Vec Ideal S1x1 .f32) : Eq (α := EReal)
    (k0_pay19 (F := Ideal) x3 (k0_pay13 (F := Ideal) (iblk m c 5 t)) s (k0_pay15 (F := Ideal)) (iblk m c 2 t) v (ix2 0 0))
      (v (ix2 0 0) + lossPart m c t) := by
  rw [pay19_at]
  simp only [err_at R]
  rfl
theorem dg_at (v : Vec Ideal S1x1024 .f32) (l : Fin 1024) : Eq (α := EReal)
    (k0_pay21 (F := Ideal) x3 (k0_pay13 (F := Ideal) (iblk m c 5 t)) s (k0_pay15 (F := Ideal)) (iblk m c 2 t) v (ix2 0 l))
      (v (ix2 0 l) + dgPart m c t l) := by
  refine (pay21_at _ _ _ _ _ _ l).trans (congrArg (_ + ·) (Finset.sum_congr rfl fun r _ => ?_))
  rw [dy_at R, hat_at R, mul_comm]
end Sums

/-! ## After a point -/

theorem outs_gu (t : Fin cfg0.N) (r : Fin 256) (k : Fin 5632) :
    Eq (α := EReal) ((outsAt0 m c t.val t.isLt).1 (ix2 r k)) (gu m c (ix2 (row t r) k)) := by
  by_cases h0 : t.val % 32 = 0
  on_goal 1 => rw [outsAt0_A m c t h0]
  on_goal 2 => rw [outsAt0_B m c t h0]
  all_goals
    frame_out
    canon_tiles x hx
    all_goals
      obtain ⟨r', q, rfl⟩ : ∃ (r' : Fin 256) (q : Fin 1408), x = ix2 r' q := ⟨x 0, x 1, by idx_vars x⟩
      obtain rfl : r = r' := Fin.ext hx0
    · obtain rfl : k = up (col 1 q) := Fin.ext (hx1.trans (Nat.add_assoc 2816 1408 _))
      exact ut_at (ldTile t 1408 1 4224 rfl rfl (by decide) (by decide) (by decide)) t r q
    · obtain rfl : k = gate (col 1 q) := Fin.ext hx1
      exact gt_at (ldTile t 1408 1 4224 rfl rfl (by decide) (by decide) (by decide)) t r q
    · obtain rfl : k = up (col 0 q) := Fin.ext (hx1.trans (congrArg (2816 + ·) (Nat.zero_add _).symm))
      exact ut_at (ldTile t 0 0 2816 rfl rfl (by decide) (by decide) (by decide)) t r q
    · obtain rfl : k = gate (col 0 q) := Fin.ext (hx1.trans (Nat.zero_add _).symm)
      exact gt_at (ldTile t 0 0 2816 rfl rfl (by decide) (by decide) (by decide)) t r q
theorem outs_act (t : Fin cfg0.N) (r : Fin 256) (k : Fin 2816) :
    Eq (α := EReal) ((outsAt0 m c t.val t.isLt).2.1 (ix2 r k)) (A m c (row t r) k) := by
  by_cases h0 : t.val % 32 = 0
  on_goal 1 => rw [outsAt0_A m c t h0]
  on_goal 2 => rw [outsAt0_B m c t h0]
  all_goals
    frame_out
    canon_tiles x hx
    all_goals
      obtain ⟨r', q, rfl⟩ : ∃ (r' : Fin 256) (q : Fin 1408), x = ix2 r' q := ⟨x 0, x 1, by idx_vars x⟩
      obtain rfl : r = r' := Fin.ext hx0
    · obtain rfl : k = col 1 q := Fin.ext hx1
      exact act_at (ldTile t 1408 1 4224 rfl rfl (by decide) (by decide) (by decide)) t r q
    · obtain rfl : k = col 0 q := Fin.ext (hx1.trans (Nat.zero_add _).symm)
      exact act_at (ldTile t 0 0 2816 rfl rfl (by decide) (by decide) (by decide)) t r q
theorem outs_dx (t : Fin cfg0.N) (r : Fin 256) (l : Fin 1024) : Eq (α := EReal) ((outsAt0 m c t.val t.isLt).2.2.1 (ix2 r l))
    (dnorm (X3 m c (row t r)) (dHat m c (row t r)) l) := by
  by_cases h0 : t.val % 32 = 0
  on_goal 1 => rw [outsAt0_A m c t h0]
  on_goal 2 => rw [outsAt0_B m c t h0]
  all_goals
    frame_out
    exact dx_at (isRow t (ldTile t 0 0 2816 rfl rfl _ _ _) (ldTile t 1408 1 4224 rfl rfl _ _ _)) r l
theorem outs_loss_zero (t : Fin cfg0.N) (h0 : t.val % 32 = 0) (_ : Unit) :
    (outsAt0 m c t.val t.isLt).2.2.2.1 (ix2 0 0) = 0 + lossPart m c t := by
  rw [outsAt0_A m c t h0]; frame_out
  refine (loss_at (isRow t (ldTile t 0 0 2816 rfl rfl _ _ _) (ldTile t 1408 1 4224 rfl rfl _ _ _)) _).trans (congrArg (· + _) ?_)
  pointwise [k0_pay2]
theorem outs_loss_step (t : Fin cfg0.N) (h0 : ¬ t.val % 32 = 0) (_ : Unit) : (outsAt0 m c t.val t.isLt).2.2.2.1 (ix2 0 0)
    = (outsAt0 m c (t.val - 1) (Nat.lt_of_le_of_lt (Nat.sub_le _ _) t.isLt)).2.2.2.1 (ix2 0 0) + lossPart m c t := by
  rw [outsAt0_B m c t h0]; frame_out
  exact loss_at (isRow t (ldTile t 0 0 2816 rfl rfl _ _ _) (ldTile t 1408 1 4224 rfl rfl _ _ _)) _
theorem outs_dg_zero (t : Fin cfg0.N) (h0 : t.val % 32 = 0) (l : Fin 1024) :
    (outsAt0 m c t.val t.isLt).2.2.2.2 (ix2 0 l) = 0 + dgPart m c t l := by
  rw [outsAt0_A m c t h0]; frame_out
  refine (dg_at (isRow t (ldTile t 0 0 2816 rfl rfl _ _ _) (ldTile t 1408 1 4224 rfl rfl _ _ _)) _ l).trans (congrArg (· + _) ?_)
  pointwise [k0_pay3]
theorem outs_dg_step (t : Fin cfg0.N) (h0 : ¬ t.val % 32 = 0) (l : Fin 1024) : (outsAt0 m c t.val t.isLt).2.2.2.2 (ix2 0 l)
    = (outsAt0 m c (t.val - 1) (Nat.lt_of_le_of_lt (Nat.sub_le _ _) t.isLt)).2.2.2.2 (ix2 0 l) + dgPart m c t l := by
  rw [outsAt0_B m c t h0]; frame_out
  exact dg_at (isRow t (ldTile t 0 0 2816 rfl rfl _ _ _) (ldTile t 1408 1 4224 rfl rfl _ _ _)) _ l

/-! ## After the last point: the sums over all rows -/

/-- The sums over the blocks and the rows of a block are the sum over all rows. -/
theorem sum_rows (f : Fin 8192 → EReal) : ∑ p : Fin cfg0.N, ∑ r : Fin 256, f (row p r) = ∑ r : Fin 8192, f r := by
  rw [Fin.sum_univ_tiles 32 256 rfl f]
  refine Fintype.sum_equiv (finCongr N_0) _ _ fun p => Finset.sum_congr rfl fun r _ => congrArg f (Fin.ext ?_)
  show 256 * p.val + r.val = p.val * 256 + r.val
  omega

theorem loss_last (t : Fin cfg0.N) (ht : t.val + 1 = cfg0.N) : Eq (α := EReal) ((outsAt0 m c t.val t.isLt).2.2.2.1 (ix2 0 0))
    (Ideal.ofBits .f32 0x3F000000#32 * ∑ r, M m c r) := by
  have e := Pipeline.eq_sum_fin_of_reset_step_apply_last (fun n h (_ : Unit) => (outsAt0 m c n h).2.2.2.1 (ix2 0 0))
    32 (fun _ => (0 : EReal)) (fun t _ => lossPart m c t) outs_loss_zero outs_loss_step (le_of_eq N_0) t ht ()
  rw [zero_add] at e
  have half : Ideal.ofBits .f32 0x3F000000#32 = ((1 / 2 : ℝ) : EReal) := by
    simp [Ideal.ofBits, Ideal.ieee, -EReal.coe_mul]; norm_num
  refine e.trans ?_
  simp only [lossPart, half, mul_comm (((1 / 2 : ℝ) : EReal))]
  rw [sum_mul_real _ _ (by norm_num), sum_rows (M m c)]
theorem dg_last (t : Fin cfg0.N) (ht : t.val + 1 = cfg0.N) (l : Fin 1024) : Eq (α := EReal)
    ((outsAt0 m c t.val t.isLt).2.2.2.2 (ix2 0 l)) (∑ r : Fin 8192, X3 m c r l * (rms (X3 m c r) : EReal) * dY m c r l) := by
  have e := Pipeline.eq_sum_fin_of_reset_step_apply_last (fun n h (l : Fin 1024) => (outsAt0 m c n h).2.2.2.2 (ix2 0 l))
    32 (fun _ => (0 : EReal)) (dgPart m c) outs_dg_zero outs_dg_step (le_of_eq N_0) t ht l
  rw [zero_add] at e
  exact e.trans (sum_rows fun r => X3 m c r l * (rms (X3 m c r) : EReal) * dY m c r l)
end Cert.LossKernel
end
-- ==== Proof.Loss.lean ====
/- The claims about the feed-forward layer, the last norm and the loss, assembled. -/
module

public import proofs.«01_k».proof.Defs
public import proofs.«01_k».proof.Proof.LossPoint
public import proofs.«01_k».proof.Proof.Gen.LossKernel
public import proofs.«01_k».proof.Proof.Gen.LossKernelIdeal.Value
public import proofs.«01_k».proof.Proof.Gen.LossReferenceIdeal.Run

@[expose] public section
set_option maxRecDepth 16384
noncomputable section
namespace Cert.LossKernel
open Idealize.ShloMosaic Idealize.ShloMosaic.TcCoe Idealize.SL.Sem
open Cert.LossReferenceIdeal.Read

section Arrays
open Cert.LossKernelIdeal Cert.LossKernelIdeal.Gen
variable {m : (ℓ : Loc nD τ sig) → Buf (Elt Ideal) ℓ} {c : Dev nD}

theorem arr_gu : Eq (α := S8192x5632.Idx → EReal) ((dats m 0 c).arrAt 6 cfg0.N)
    (val_main_v71 (F := Ideal) (aX m c) (aG m c) (aWgu m c)) := by
  refine (dats m 0 c).arrAt_eq_of_covers 6 _ (by decide +kernel) fun t _ y => ?_
  blk_simp
  rw [after0_6]
  obtain ⟨r, k, rfl⟩ : ∃ (r : Fin 256) (k : Fin 5632), y = ix2 r k := ⟨y 0, y 1, by idx_vars y⟩
  refine (outs_gu t r k).trans ?_
  blk_ext [idx t]
theorem arr_act : Eq (α := S8192x2816.Idx → EReal) ((dats m 0 c).arrAt 7 cfg0.N)
    (val_main_v72 (F := Ideal) (aX m c) (aG m c) (aWgu m c)) := by
  refine (dats m 0 c).arrAt_eq_of_covers 7 _ (by decide +kernel) fun t _ y => ?_
  blk_simp
  rw [after0_7]
  obtain ⟨r, k, rfl⟩ : ∃ (r : Fin 256) (k : Fin 2816), y = ix2 r k := ⟨y 0, y 1, by idx_vars y⟩
  refine ((outs_act t r k).trans (ref_act _ _ _ (row t r) k).symm).trans ?_
  blk_ext [idx t]
theorem arr_dx : Eq (α := S8192x1024.Idx → EReal) ((dats m 0 c).arrAt 8 cfg0.N)
    (val_main_v70 (F := Ideal) (aX m c) (aG m c) (aWgu m c) (aWd m c) (aGf m c) (aY m c)) := by
  refine (dats m 0 c).arrAt_eq_of_covers 8 _ (by decide +kernel) fun t _ y => ?_
  blk_simp
  rw [after0_8]
  obtain ⟨r, l, rfl⟩ : ∃ (r : Fin 256) (l : Fin 1024), y = ix2 r l := ⟨y 0, y 1, by idx_vars y⟩
  refine ((outs_dx t r l).trans (ref_dx _ _ _ _ _ _ (row t r) l).symm).trans ?_
  blk_ext [idx t]

/-- The point an accumulated array is written at is the last. -/
theorem last_of {t : Fin cfg0.N} (h : t.val % 32 = 31) : t.val + 1 = cfg0.N := by
  have hl : t.val < 32 := lt_of_lt_of_eq t.isLt N_0
  have hs : t.val + 1 = 32 := by omega
  exact hs.trans N_0.symm

theorem arr_loss : Eq (α := S1x1.Idx → EReal) ((dats m 0 c).arrAt 9 cfg0.N)
    (val_main_v73 (F := Ideal) (aX m c) (aG m c) (aWgu m c) (aWd m c) (aGf m c) (aY m c)) := by
  refine (dats m 0 c).arrAt_eq_of_covers 9 _ (by decide +kernel) fun t ht y => ?_
  blk_simp
  rw [after0_9]
  obtain ⟨z, w, rfl⟩ : ∃ (z : Fin 1) (w : Fin 1), y = ix2 z w := ⟨y 0, y 1, by idx_vars y⟩
  obtain rfl : z = 0 := Subsingleton.elim _ _
  obtain rfl : w = 0 := Subsingleton.elim _ _
  refine ((loss_last t (last_of ((flush0_9 t).mp ht))).trans (ref_loss _ _ _ _ _ _).symm).trans ?_
  blk_ext [idx t]
theorem arr_dg : Eq (α := S1x1024.Idx → EReal) ((dats m 0 c).arrAt 10 cfg0.N)
    (val_main_v74 (F := Ideal) (aX m c) (aG m c) (aWgu m c) (aWd m c) (aGf m c) (aY m c)) := by
  refine (dats m 0 c).arrAt_eq_of_covers 10 _ (by decide +kernel) fun t ht y => ?_
  blk_simp
  rw [after0_10]
  obtain ⟨z, l, rfl⟩ : ∃ (z : Fin 1) (l : Fin 1024), y = ix2 z l := ⟨y 0, y 1, by idx_vars y⟩
  obtain rfl : z = 0 := Subsingleton.elim _ _
  refine ((dg_last t (last_of ((flush0_10 t).mp ht)) l).trans (ref_dg _ _ _ _ _ _ l).symm).trans ?_
  blk_ext [idx t]
end Arrays

/-- The two programs have one text, so at the bits they are one program. -/
theorem defs_eq : Cert.LossKernel.defs (F := Bits) = Cert.LossKernelIdeal.defs (F := Bits) := by sl_kernel_rfl
theorem main_eq : Cert.LossKernel.main (F := Bits) = Cert.LossKernelIdeal.main (F := Bits) := by sl_kernel_rfl

/-- The run of the ideal program holds over any floats: at the bits it is the run of the program itself. -/
theorem frame_bits : Cert.quiescent_LossKernel := fun m ρ _ => by
  rw [defs_eq, main_eq]
  exact Cert.LossKernelIdeal.Gen.frame (F := Bits) m ρ

theorem frame_ideal : Cert.quiescent_LossKernelIdeal := fun m ρ _ => Cert.LossKernelIdeal.Gen.frame m ρ

theorem frame_reference : Cert.quiescent_LossReferenceIdeal := fun m ρ _ =>
  (θ_run Cert.LossReferenceIdeal.defs _ _).mono (fun r h => ⟨fun c => (h c).2.2.2.2.2,
    Idealize.ShloMosaic.sem_eq_zero_of_no_sems (by decide) r.2⟩) (Cert.LossReferenceIdeal.Value.run m ρ)

theorem equal : Cert.algebraic_LossKernelIdeal_LossReferenceIdeal := fun m ρ m' ρ' _ hin => by
  refine ⟨fun c => val_main_v71 (F := Ideal) (aX m c) (aG m c) (aWgu m c), fun c => val_main_v72 (F := Ideal) (aX m c) (aG m c) (aWgu m c),
    fun c => val_main_v70 (F := Ideal) (aX m c) (aG m c) (aWgu m c) (aWd m c) (aGf m c) (aY m c),
    fun c => val_main_v73 (F := Ideal) (aX m c) (aG m c) (aWgu m c) (aWd m c) (aGf m c) (aY m c),
    fun c => val_main_v74 (F := Ideal) (aX m c) (aG m c) (aWgu m c) (aWd m c) (aGf m c) (aY m c), ?_, ?_⟩
  · refine (θ_run Cert.LossKernelIdeal.defs _ _).mono (fun r h c => ?_) (Cert.LossKernelIdeal.Value.run_blocks m ρ)
    obtain ⟨h0, h1, h2, h3, h4, hargs⟩ := h c
    exact ⟨h0.trans arr_gu, h1.trans arr_act, h2.trans arr_dx, h3.trans arr_loss, h4.trans arr_dg, hargs⟩
  · refine (θ_run Cert.LossReferenceIdeal.defs _ _).mono (fun r h c => ?_) (Cert.LossReferenceIdeal.Value.run m' ρ')
    obtain ⟨h0, h1, h2, h3, h4, hargs⟩ := h c
    obtain ⟨a0, a1, a2, a3, a4, a5⟩ := hin c
    refine ⟨h0.trans ((val_main_v71_eq _ _ _).trans ?_), h1.trans ((val_main_v72_eq _ _ _).trans ?_),
      h2.trans ((val_main_v70_eq m' c).trans ?_), h3.trans ((val_main_v73_eq m' c).trans ?_),
      h4.trans ((val_main_v74_eq m' c).trans ?_), hargs⟩ <;>
    simp only [a0, a1, a2, a3, a4, a5] <;> rfl
end Cert.LossKernel
end
-- ==== Proof.AttnfReference.lean ====
/- The stages of the reference of the cross-attention, the residual after it and the norm after that. -/
module

public import proofs.«01_k».proof.Proof.RmsNorm
public import proofs.«01_k».proof.Proof.Gen.AttnfReferenceIdeal.Read
public import Idealize.ShloMosaic.Lib.Pointwise
public import Idealize.ShloMosaic.Lib.IdealHost

@[expose] public section
set_option maxRecDepth 16384
noncomputable section
namespace Cert.AttnfKernel
open Cert.AttnfReferenceIdeal Cert.AttnfReferenceIdeal.Gen Cert.AttnfReferenceIdeal.Read
open Idealize.ShloMosaic Idealize.ShloMosaic.TcCoe Idealize.SL.Sem
open Cert.RmsNorm

/-! ## One query against one head's keys and values; nothing here needs a value to be finite -/

/-- The scaled scores of a query against the keys. -/
def score (q : Fin 256 → EReal) (k : Fin 256 → Fin 256 → EReal) (j : Fin 256) : EReal :=
  (∑ e : Fin 256, q e * k j e) * Ideal.ofBits .f32 0x3D800000#32
/-- The greatest score. -/
def peak (s : Fin 256 → EReal) : EReal := Finset.univ.fold max (Ideal.ofBits .f32 0xFF800000#32) s
/-- The softmax of the scores: their exponentials, the greatest score subtracted, over the exponentials' sum. -/
def weight (s : Fin 256 → EReal) (j : Fin 256) : EReal := Ideal.div (Ideal.exp (s j - peak s)) (∑ i : Fin 256, Ideal.exp (s i - peak s))
/-- The values, weighted. -/
def attend (q : Fin 256 → EReal) (k v : Fin 256 → Fin 256 → EReal) (e : Fin 256) : EReal :=
  ∑ j : Fin 256, weight (score q k) j * v j e

theorem bot_word : Ideal.ofBits .f32 0xFF800000#32 = (⊥ : EReal) := by
  simp [Ideal.ofBits, Ideal.ieee, -EReal.coe_mul]

/-- Column `e` of head `h`, among the queries' columns; its keys have the same columns, its values the same after 1024. -/
abbrev col (h : Fin 4) (e : Fin 256) : Fin 1024 := ⟨256 * h.val + e.val, by omega⟩
abbrev kcol (h : Fin 4) (e : Fin 256) : Fin 2048 := ⟨256 * h.val + e.val, by omega⟩
abbrev vcol (h : Fin 4) (e : Fin 256) : Fin 2048 := ⟨1024 + 256 * h.val + e.val, by omega⟩
/-- Token `s` of sequence `b`, and memory slot `j` of sequence `b`, as rows of the arrays. -/
abbrev tok (b : Fin 4) (s : Fin 2048) : Fin 8192 := ⟨2048 * b.val + s.val, by omega⟩
abbrev slot (b : Fin 4) (j : Fin 256) : Fin 1024 := ⟨256 * b.val + j.val, by omega⟩

variable (q : Vec Ideal S8192x1024 .f32) (kv : Vec Ideal S1024x2048 .f32) (x : Vec Ideal S8192x1024 .f32)
  (w : Vec Ideal S1024x1024 .f32) (g : Vec Ideal S1024 .f32)

def qrow (r : Fin 8192) (h : Fin 4) (e : Fin 256) : EReal := q (ix2 r (col h e))
def keys (b h : Fin 4) (j e : Fin 256) : EReal := kv (ix2 (slot b j) (kcol h e))
def vals (b h : Fin 4) (j e : Fin 256) : EReal := kv (ix2 (slot b j) (vcol h e))

/-! ## The arguments by head -/

theorem q_at (b : Fin 4) (s : Fin 2048) (h : Fin 4) (e : Fin 256) :
    Eq (α := EReal) (val_main_v0 (F := Ideal) q (ix4 b s h e)) (qrow q (tok b s) h e) := by
  unfold qrow
  pointwise [val_main_v0]
  exact congrArg _ (congrArg₂ ix2 (Fin.ext (by dsimp only; omega)) (Fin.ext (by dsimp only; omega)))
theorem k_at (b : Fin 4) (j : Fin 256) (h : Fin 4) (e : Fin 256) :
    Eq (α := EReal) (val_main_v4 (F := Ideal) kv (ix4 b j h e)) (keys kv b h j e) := by
  unfold keys
  pointwise [val_main_v4, val_main_v2, val_main_v1]
  exact congrArg _ (congrArg₂ ix2 (Fin.ext (by dsimp only; omega)) (Fin.ext (by dsimp only; omega)))
theorem v_at (b : Fin 4) (j : Fin 256) (h : Fin 4) (e : Fin 256) :
    Eq (α := EReal) (val_main_v5 (F := Ideal) kv (ix4 b j h e)) (vals kv b h j e) := by
  unfold vals
  pointwise [val_main_v5, val_main_v3, val_main_v1]
  exact congrArg _ (congrArg₂ ix2 (Fin.ext (by dsimp only; omega)) (Fin.ext (by dsimp only; omega)))

/-! ## The softmax -/

theorem s_at (b h : Fin 4) (s : Fin 2048) (j : Fin 256) :
    Eq (α := EReal) (val_main_v8 (F := Ideal) q kv (ix4 b h s j)) (score (qrow q (tok b s) h) (keys kv b h) j) := by
  refine Eq.trans (b := (∑ e : Fin 256, val_main_v0 (F := Ideal) q (ix4 b s h e) * val_main_v4 (F := Ideal) kv (ix4 b j h e))
    * Ideal.ofBits .f32 0x3D800000#32) ?_ ?_
  · pointwise [val_main_v8, val_main_v6, val_main_v7, val_main_cst]
  · simp only [q_at, k_at]
    rfl

theorem red : S4x4x2048x256.Reduces [3] S4x4x2048 := by decide
theorem lift_row (b h : Fin 4) (s : Fin 2048) (j : Fin 256) : red.lift (ix3 b h s) j = ix4 b h s j := by
  funext a
  apply Fin.ext
  fin_cases a <;> rfl
theorem peak_at (b h : Fin 4) (s : Fin 2048) :
    Eq (α := EReal) (val_main_v11 (F := Ideal) q kv (ix3 b h s)) (peak (score (qrow q (tok b s) h) (keys kv b h))) := by
  have h9 : Eq (α := EReal) (val_main_v9 (F := Ideal) q kv (ix3 b h s)) (peak (score (qrow q (tok b s) h) (keys kv b h))) := by
    unfold val_main_v9
    refine (Host.reduce_eq_fold_single (α := EReal) max _ _ _ red h_S_ _).trans ?_
    exact congrArg (fun f => Finset.univ.fold max (Ideal.ofBits .f32 0xFF800000#32) f)
      (funext fun j => (congrArg _ (lift_row b h s j)).trans (s_at q kv b h s j))
  rw [val_main_v11_apply, h9]
  exact (congrArg (fun z => max z _) bot_word).trans (max_eq_right bot_le)

theorem e_at (b h : Fin 4) (s : Fin 2048) (j : Fin 256) : Eq (α := EReal) (val_main_v15 (F := Ideal) q kv (ix4 b h s j))
    (Ideal.exp (score (qrow q (tok b s) h) (keys kv b h) j - peak (score (qrow q (tok b s) h) (keys kv b h)))) := by
  refine Eq.trans (b := Ideal.exp (val_main_v8 (F := Ideal) q kv (ix4 b h s j) - val_main_v11 (F := Ideal) q kv (ix3 b h s))) ?_ ?_
  · pointwise [val_main_v15, val_main_v14, val_main_v13, val_main_v12]
  · rw [s_at, peak_at]
theorem weight_at (b h : Fin 4) (s : Fin 2048) (j : Fin 256) : Eq (α := EReal) (val_main_v19 (F := Ideal) q kv (ix4 b h s j))
    (weight (score (qrow q (tok b s) h) (keys kv b h)) j) := by
  refine Eq.trans (b := Ideal.div (val_main_v15 (F := Ideal) q kv (ix4 b h s j)) (∑ i : Fin 256, val_main_v15 (F := Ideal) q kv (ix4 b h s i))) ?_ ?_
  · pointwise [val_main_v19, val_main_v18, val_main_v17, val_main_v16, val_main_cst_2]
  · simp only [e_at]
    rfl

/-! ## The three results -/

theorem ref_o (b : Fin 4) (s : Fin 2048) (h : Fin 4) (e : Fin 256) :
    Eq (α := EReal) (val_main_v22 (F := Ideal) q kv (ix2 (tok b s) (col h e))) (attend (qrow q (tok b s) h) (keys kv b h) (vals kv b h) e) := by
  have e20 : Eq (α := EReal) (val_main_v20 (F := Ideal) q kv (ix4 b h e s)) (attend (qrow q (tok b s) h) (keys kv b h) (vals kv b h) e) := by
    refine Eq.trans (b := ∑ j : Fin 256, val_main_v5 (F := Ideal) kv (ix4 b j h e) * val_main_v19 (F := Ideal) q kv (ix4 b h s j)) ?_ ?_
    · pointwise [val_main_v20]
    · exact Finset.sum_congr rfl fun j _ => (mul_comm _ _).trans (congrArg₂ (α := EReal) (β := EReal) (· * ·) (weight_at q kv b h s j) (v_at kv b j h e))
  refine Eq.trans ?_ e20
  pointwise [val_main_v22, val_main_v21]
  exact congrArg _ (by
    congr 1 <;> exact Fin.ext (by dsimp only; omega))
theorem ref_x (r : Fin 8192) (l : Fin 1024) : Eq (α := EReal) (val_main_v24 (F := Ideal) q kv x w (ix2 r l))
    (x (ix2 r l) + ∑ k : Fin 1024, val_main_v22 (F := Ideal) q kv (ix2 r k) * w (ix2 k l)) := by
  pointwise [val_main_v24, val_main_v23]
theorem ref_h (r : Fin 8192) (l : Fin 1024) : Eq (α := EReal) (val_main_v39 (F := Ideal) q kv x w g (ix2 r l))
    (val_main_v24 (F := Ideal) q kv x w (ix2 r l) * Ideal.rsqrt (ms fun k => val_main_v24 (F := Ideal) q kv x w (ix2 r k)) * g (ix1 l)) := by
  refine Eq.trans (b := val_main_v24 (F := Ideal) q kv x w (ix2 r l) * val_main_v33 (F := Ideal) q kv x w (ix2 r 0) * g (ix1 l)) ?_ ?_
  · pointwise [val_main_v39, val_main_v38, val_main_v37, val_main_v36, val_main_v35, val_main_v34]
  · refine congrArg (fun z : EReal => val_main_v24 (F := Ideal) q kv x w (ix2 r l) * z * g (ix1 l)) ?_
    unfold ms
    pointwise [val_main_v33, val_main_v32, val_main_v31, val_main_v30, val_main_v29, val_main_v28, val_main_v27, val_main_v26,
      val_main_cst_3, val_main_cst_4, val_main_cst_5]
end Cert.AttnfKernel
end
-- ==== Proof.AttnfPoint.lean ====
/- What the blocks of the cross-attention's forward call hold after each grid point. -/
module

public import proofs.«01_k».proof.Proof.AttnfReference
public import proofs.«01_k».proof.Proof.Gen.AttnfKernelIdeal.Frame
public import Idealize.ShloMosaic.Lib.Pipeline.ValueKit
public import Idealize.ShloMosaic.Lib.Pipeline.ReadBack
public import Idealize.ShloMosaic.Lib.WritesUnit

@[expose] public section
set_option maxRecDepth 16384
noncomputable section
namespace Cert.AttnfKernel
open Cert.AttnfReferenceIdeal.Read
open Cert.AttnfKernelIdeal Cert.AttnfKernelIdeal.Gen Idealize.ShloMosaic Idealize.ShloMosaic.TcCoe Idealize.SL.Sem
open Cert.RmsNorm
variable (m : (ℓ : Loc nD τ sig) → Buf (Elt Ideal) ℓ) (c : Dev nD)

abbrev aQ : Vec Ideal S8192x1024 .f32 := m ((c.tc : Thread nD τ).loc main_arg0)
abbrev aKV : Vec Ideal S1024x2048 .f32 := m ((c.tc : Thread nD τ).loc main_arg1)
abbrev aX : Vec Ideal S8192x1024 .f32 := m ((c.tc : Thread nD τ).loc main_arg2)
abbrev aW : Vec Ideal S1024x1024 .f32 := m ((c.tc : Thread nD τ).loc main_arg3)
abbrev aG : Vec Ideal S1024 .f32 := m ((c.tc : Thread nD τ).loc main_arg4)

/-! ## The windows' blocks: points `2 b` and `2 b + 1` are the two halves of sequence `b` -/

abbrev batch (t : Fin cfg0.N) : Fin 4 := ⟨t.val / 2, by have h := lt_of_lt_of_eq t.isLt (show cfg0.N = 8 from N_0); omega⟩
abbrev row (t : Fin cfg0.N) (r : Fin 1024) : Fin 8192 :=
  ⟨1024 * t.val + r.val, by have h := lt_of_lt_of_eq t.isLt (show cfg0.N = 8 from N_0); omega⟩

theorem idx : ∀ t : Fin cfg0.N, win0_0.index t = ![t.val, 0] ∧ win0_1.index t = ![t.val / 2, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem V_q (i : S8192x1024.Idx) : V m c main_v0 i = aQ m c i := rfl
theorem V_kv (i : S1024x2048.Idx) : V m c main_v1 i = aKV m c i := rfl
theorem V_w (i : S1024x1024.Idx) : V m c main_v2 i = aW m c i := rfl
theorem V_g (z : Fin 1) (l : Fin 1024) : V m c main_v3 (ix2 z l) = aG m c (ix1 l) := by
  have e : V m c main_v3 = broadcastInDim S1x1024 ![1] bcast_S1024_S1x1024_1 (aG m c) := rfl
  rw [e]; pointwise

theorem blk_q (t : Fin cfg0.N) (r l : Fin 1024) : iblk m c 0 t (ix2 r l) = aQ m c (ix2 (row t r) l) := by
  refine Eq.trans ?_ (V_q m c _)
  blk_point [iblk, idx t]
theorem blk_kv (t : Fin cfg0.N) (j : Fin 256) (l : Fin 2048) : iblk m c 1 t (ix2 j l) = aKV m c (ix2 (slot (batch t) j) l) := by
  refine Eq.trans ?_ (V_kv m c _)
  blk_point [iblk, idx t]
theorem blk_x (t : Fin cfg0.N) (r l : Fin 1024) : iblk m c 2 t (ix2 r l) = aX m c (ix2 (row t r) l) := by
  blk_point [iblk, V, idx t]
theorem blk_w (t : Fin cfg0.N) (k l : Fin 1024) : iblk m c 3 t (ix2 k l) = aW m c (ix2 k l) := by
  refine Eq.trans ?_ (V_w m c _)
  blk_point [iblk, idx t]
theorem blk_g (t : Fin cfg0.N) (l : Fin 1024) : iblk m c 4 t (ix2 0 l) = aG m c (ix1 l) := by
  refine Eq.trans ?_ (V_g m c 0 l)
  blk_point [iblk, idx t]

/-! ## The body's expressions at an index, over any blocks -/

theorem head_at (x : Vec Ideal S1024x256 .bf16) (y v : Vec Ideal S256x256 .bf16) (r : Fin 1024) (e : Fin 256) :
    Eq (α := EReal) (k0_pay2 (F := Ideal) x y v (ix2 r e))
      (attend (fun e => x (ix2 r e)) (fun j e => y (ix2 j e)) (fun j e => v (ix2 j e)) e) := by
  unfold attend weight peak score
  pointwise [k0_pay2]
/-- The four heads' texts are the first head's. -/
theorem head1 (x : Vec Ideal S1024x256 .bf16) (y v : Vec Ideal S256x256 .bf16) :
    k0_pay5 (F := Ideal) (k0_pay3 x y) (k0_pay4 x y) v = k0_pay2 x y v := rfl
theorem head2 (x : Vec Ideal S1024x256 .bf16) (y v : Vec Ideal S256x256 .bf16) : k0_pay6 (F := Ideal) x y v = k0_pay2 x y v := rfl
theorem head3 (x : Vec Ideal S1024x256 .bf16) (y v : Vec Ideal S256x256 .bf16) : k0_pay8 (F := Ideal) (k0_pay7 x y) v = k0_pay2 x y v := rfl

theorem pay9_at (x : Vec Ideal S1024x1024 .f32) (o w : Vec Ideal S1024x1024 .bf16) (r l : Fin 1024) :
    Eq (α := EReal) (k0_pay9 (F := Ideal) x o w (ix2 r l)) (x (ix2 r l) + ∑ k : Fin 1024, o (ix2 r k) * w (ix2 k l)) := by
  pointwise [k0_pay9]
theorem pay1_at (x : Vec Ideal S1024x1024 .f32) (o w : Vec Ideal S1024x1024 .bf16) (g : Vec Ideal S1x1024 .f32) (r l : Fin 1024) :
    Eq (α := EReal) (k0_pay1 (F := Ideal) (k0_pay9 x o w) (k0_pay10 g) (k0_pay11 x o w) (ix2 r l))
      (k0_pay9 (F := Ideal) x o w (ix2 r l) * Ideal.rsqrt (ms fun k => k0_pay9 (F := Ideal) x o w (ix2 r k)) * g (ix2 0 l)) := by
  unfold ms
  pointwise [k0_pay1, k0_pay10, k0_pay11]

/-! ## One head at a point -/

variable {m c}
/-- A row of point `t`'s block is a token of its sequence. -/
theorem tok_of (t : Fin cfg0.N) (r : Fin 1024) : ∃ s : Fin 2048, row t r = tok (batch t) s :=
  ⟨⟨1024 * (t.val % 2) + r.val, by omega⟩, Fin.ext (by dsimp only; omega)⟩
/-- A column of the queries is a head's. -/
theorem col_of (l : Fin 1024) : ∃ (h : Fin 4) (e : Fin 256), l = col h e :=
  ⟨⟨l.val / 256, by omega⟩, ⟨l.val % 256, by omega⟩, Fin.ext (by dsimp only; omega)⟩
theorem col_eq (h h' : Fin 4) (e e' : Fin 256) (hx : 256 * h.val + e.val = 256 * h'.val + e'.val) : h = h' ∧ e = e' :=
  ⟨Fin.ext (by omega), Fin.ext (by omega)⟩

theorem head_tile (t : Fin cfg0.N) (h : Fin 4) (o o' : Nat) (ho : o = 256 * h.val) (ho' : o' = 1024 + 256 * h.val)
    (hq : ∀ a, (![0, o] : Fin 2 → Nat) a + S1024x256.size a ≤ S1024x1024.size a)
    (hk : ∀ a, (![0, o] : Fin 2 → Nat) a + S256x256.size a ≤ S256x2048.size a)
    (hv : ∀ a, (![0, o'] : Fin 2 → Nat) a + S256x256.size a ≤ S256x2048.size a) (r : Fin 1024) (e : Fin 256) :
    Eq (α := EReal) (k0_pay2 (F := Ideal) (View.ld (iblk m c 0 t) (Rect.unit ![0, o] S1024x256.size hq))
        (View.ld (iblk m c 1 t) (Rect.unit ![0, o] S256x256.size hk)) (View.ld (iblk m c 1 t) (Rect.unit ![0, o'] S256x256.size hv)) (ix2 r e))
      (val_main_v22 (F := Ideal) (aQ m c) (aKV m c) (ix2 (row t r) (col h e))) := by
  subst ho ho'
  obtain ⟨s, hs⟩ := tok_of t r
  have eq (e : Fin 256) : Eq (α := EReal) (View.ld (iblk m c 0 t) (Rect.unit ![0, 256 * h.val] S1024x256.size hq) (ix2 r e))
      (qrow (aQ m c) (row t r) h e) := by
    refine Eq.trans ?_ (blk_q m c t r (col h e))
    pointwise
  have ek (j e : Fin 256) : Eq (α := EReal) (View.ld (iblk m c 1 t) (Rect.unit ![0, 256 * h.val] S256x256.size hk) (ix2 j e))
      (keys (aKV m c) (batch t) h j e) := by
    refine Eq.trans ?_ (blk_kv m c t j (kcol h e))
    pointwise
  have ev (j e : Fin 256) : Eq (α := EReal) (View.ld (iblk m c 1 t) (Rect.unit ![0, 1024 + 256 * h.val] S256x256.size hv) (ix2 j e))
      (vals (aKV m c) (batch t) h j e) := by
    refine Eq.trans ?_ (blk_kv m c t j (vcol h e))
    pointwise
  rw [head_at]
  simp only [eq, ek, ev]
  rw [hs]
  exact (ref_o (aQ m c) (aKV m c) (batch t) s h e).symm

/-! ## After a point -/

/-- One head's tile at point `t`, from the columns `o` of the queries and keys and `o'` of the values. -/
abbrev headTile (t : Fin cfg0.N) (o o' : Nat) (hq : ∀ a, (![0, o] : Fin 2 → Nat) a + S1024x256.size a ≤ S1024x1024.size a)
    (hk : ∀ a, (![0, o] : Fin 2 → Nat) a + S256x256.size a ≤ S256x2048.size a)
    (hv : ∀ a, (![0, o'] : Fin 2 → Nat) a + S256x256.size a ≤ S256x2048.size a) : Vec Ideal S1024x256 .bf16 :=
  k0_pay2 (F := Ideal) (View.ld (iblk m c 0 t) (Rect.unit ![0, o] S1024x256.size hq))
    (View.ld (iblk m c 1 t) (Rect.unit ![0, o] S256x256.size hk)) (View.ld (iblk m c 1 t) (Rect.unit ![0, o'] S256x256.size hv))
/-- The four heads' tiles, stored side by side. -/
theorem heads (t : Fin cfg0.N) (r l : Fin 1024) (i : S1024x1024.Idx) (hi : i = ix2 r l) :
    Eq (α := EReal) (View.canon (Val := Elt Ideal) (s := S1024x1024) (e := .bf16)
      [⟨Rect.unit ![0, 768] ![1024, 256] inb_S1024x1024_S1024x256_0_768, headTile (m := m) (c := c) t 768 1792
          inb_S1024x1024_S1024x256_0_768 inb_S256x2048_S256x256_0_768 inb_S256x2048_S256x256_0_1792⟩,
        ⟨Rect.unit ![0, 512] ![1024, 256] inb_S1024x1024_S1024x256_0_512, headTile (m := m) (c := c) t 512 1536
          inb_S1024x1024_S1024x256_0_512 inb_S256x2048_S256x256_0_512 inb_S256x2048_S256x256_0_1536⟩,
        ⟨Rect.unit ![0, 256] ![1024, 256] inb_S1024x1024_S1024x256_0_256, headTile (m := m) (c := c) t 256 1280
          inb_S1024x1024_S1024x256_0_256 inb_S256x2048_S256x256_0_256 inb_S256x2048_S256x256_0_1280⟩,
        ⟨Rect.unit ![0, 0] ![1024, 256] inb_S1024x1024_S1024x256_0_0, headTile (m := m) (c := c) t 0 1024
          inb_S1024x1024_S1024x256_0_0 inb_S256x2048_S256x256_0_0 inb_S256x2048_S256x256_0_1024⟩] i)
      (val_main_v22 (F := Ideal) (aQ m c) (aKV m c) (ix2 (row t r) l)) := by
  subst hi
  obtain ⟨h, e, rfl⟩ := col_of l
  canon_tiles x hx
  all_goals
    obtain ⟨r', k, rfl⟩ : ∃ (r' : Fin 1024) (k : Fin 256), x = ix2 r' k := ⟨x 0, x 1, by idx_vars x⟩
    obtain rfl : r = r' := Fin.ext hx0
  · obtain ⟨rfl, rfl⟩ : h = 3 ∧ e = k := col_eq h 3 e k hx1
    exact head_tile t 3 768 1792 rfl rfl _ _ _ r e
  · obtain ⟨rfl, rfl⟩ : h = 2 ∧ e = k := col_eq h 2 e k hx1
    exact head_tile t 2 512 1536 rfl rfl _ _ _ r e
  · obtain ⟨rfl, rfl⟩ : h = 1 ∧ e = k := col_eq h 1 e k hx1
    exact head_tile t 1 256 1280 rfl rfl _ _ _ r e
  · obtain ⟨rfl, rfl⟩ : h = 0 ∧ e = k := col_eq h 0 e k (hx1.trans (Nat.zero_add _).symm)
    exact head_tile t 0 0 1024 rfl rfl _ _ _ r e

theorem outs_o (t : Fin cfg0.N) (r l : Fin 1024) :
    Eq (α := EReal) ((outsAt0 m c t).1 (ix2 r l)) (val_main_v22 (F := Ideal) (aQ m c) (aKV m c) (ix2 (row t r) l)) := by
  unfold outsAt0
  frame_out
  rw [head1, head2, head3]
  exact heads t r l _ rfl

/-- An index of a whole block, read through the block. -/
theorem whole (r k : Fin 1024) :
    (Rect.unit (s := S1024x1024) ![0, 0] ![1024, 1024] inb_S1024x1024_S1024x1024_0_0).toLoadRect.idx (ix2 r k) = ix2 r k := by
  funext a
  apply Fin.ext
  refine (Rect.idx_unit_val _ _ _ _ a).trans ?_
  fin_cases a <;> exact Nat.zero_add _

theorem x_point (t : Fin cfg0.N) (o : Vec Ideal S1024x1024 .bf16)
    (ho : ∀ r k, Eq (α := EReal) (o (ix2 r k)) (val_main_v22 (F := Ideal) (aQ m c) (aKV m c) (ix2 (row t r) k))) (r l : Fin 1024) :
    Eq (α := EReal) (k0_pay9 (F := Ideal) (iblk m c 2 t) o (iblk m c 3 t) (ix2 r l))
      (val_main_v24 (F := Ideal) (aQ m c) (aKV m c) (aX m c) (aW m c) (ix2 (row t r) l)) := by
  rw [pay9_at, ref_x]
  refine congrArg₂ (α := EReal) (β := EReal) (· + ·) (blk_x m c t r l) (Finset.sum_congr rfl fun k _ => ?_)
  exact Ideal.mul_congr (ho r k) (blk_w m c t k l)
theorem h_point (t : Fin cfg0.N) (o : Vec Ideal S1024x1024 .bf16)
    (ho : ∀ r k, Eq (α := EReal) (o (ix2 r k)) (val_main_v22 (F := Ideal) (aQ m c) (aKV m c) (ix2 (row t r) k))) (r l : Fin 1024) :
    Eq (α := EReal) (k0_pay1 (F := Ideal) (k0_pay9 (iblk m c 2 t) o (iblk m c 3 t)) (k0_pay10 (iblk m c 4 t))
        (k0_pay11 (iblk m c 2 t) o (iblk m c 3 t)) (ix2 r l))
      (val_main_v39 (F := Ideal) (aQ m c) (aKV m c) (aX m c) (aW m c) (aG m c) (ix2 (row t r) l)) := by
  rw [pay1_at, ref_h]
  simp only [x_point t o ho, blk_g]

theorem outs_x (t : Fin cfg0.N) (r l : Fin 1024) : Eq (α := EReal) ((outsAt0 m c t).2.1 (ix2 r l))
    (val_main_v24 (F := Ideal) (aQ m c) (aKV m c) (aX m c) (aW m c) (ix2 (row t r) l)) := by
  unfold outsAt0
  frame_out
  refine x_point t _ (fun r k => ?_) r l
  rw [View.readCov_eq_canon', head1, head2, head3]
  exact heads t r k _ (whole r k)

theorem outs_h (t : Fin cfg0.N) (r l : Fin 1024) : Eq (α := EReal) ((outsAt0 m c t).2.2 (ix2 r l))
    (val_main_v39 (F := Ideal) (aQ m c) (aKV m c) (aX m c) (aW m c) (aG m c) (ix2 (row t r) l)) := by
  unfold outsAt0
  frame_out
  refine h_point t _ (fun r k => ?_) r l
  rw [View.readCov_eq_canon', head1, head2, head3]
  exact heads t r k _ (whole r k)
end Cert.AttnfKernel
end
-- ==== Proof.Attnf.lean ====
/- The claims about the forward cross-attention, assembled. -/
module

public import proofs.«01_k».proof.Defs
public import proofs.«01_k».proof.Proof.AttnfPoint
public import proofs.«01_k».proof.Proof.Gen.AttnfKernel
public import proofs.«01_k».proof.Proof.Gen.AttnfKernelIdeal.Value
public import proofs.«01_k».proof.Proof.Gen.AttnfReferenceIdeal.Run

@[expose] public section
set_option maxRecDepth 16384
noncomputable section
namespace Cert.AttnfKernel
open Idealize.ShloMosaic Idealize.ShloMosaic.TcCoe Idealize.SL.Sem
open Cert.AttnfReferenceIdeal.Read

section Arrays
open Cert.AttnfKernelIdeal Cert.AttnfKernelIdeal.Gen
variable {m : (ℓ : Loc nD τ sig) → Buf (Elt Ideal) ℓ} {c : Dev nD}

theorem arr_o : Eq (α := S8192x1024.Idx → EReal) ((dats m 0 c).arrAt 5 cfg0.N) (val_main_v22 (F := Ideal) (aQ m c) (aKV m c)) := by
  refine (dats m 0 c).arrAt_eq_of_covers 5 _ (by decide +kernel) fun t _ y => ?_
  blk_simp
  rw [after0_5]
  obtain ⟨r, l, rfl⟩ : ∃ (r : Fin 1024) (l : Fin 1024), y = ix2 r l := ⟨y 0, y 1, by idx_vars y⟩
  refine (outs_o t r l).trans ?_
  blk_ext [idx t]
theorem arr_x : Eq (α := S8192x1024.Idx → EReal) ((dats m 0 c).arrAt 6 cfg0.N)
    (val_main_v24 (F := Ideal) (aQ m c) (aKV m c) (aX m c) (aW m c)) := by
  refine (dats m 0 c).arrAt_eq_of_covers 6 _ (by decide +kernel) fun t _ y => ?_
  blk_simp
  rw [after0_6]
  obtain ⟨r, l, rfl⟩ : ∃ (r : Fin 1024) (l : Fin 1024), y = ix2 r l := ⟨y 0, y 1, by idx_vars y⟩
  refine (outs_x t r l).trans ?_
  blk_ext [idx t]
theorem arr_h : Eq (α := S8192x1024.Idx → EReal) ((dats m 0 c).arrAt 7 cfg0.N)
    (val_main_v39 (F := Ideal) (aQ m c) (aKV m c) (aX m c) (aW m c) (aG m c)) := by
  refine (dats m 0 c).arrAt_eq_of_covers 7 _ (by decide +kernel) fun t _ y => ?_
  blk_simp
  rw [after0_7]
  obtain ⟨r, l, rfl⟩ : ∃ (r : Fin 1024) (l : Fin 1024), y = ix2 r l := ⟨y 0, y 1, by idx_vars y⟩
  refine (outs_h t r l).trans ?_
  blk_ext [idx t]
end Arrays

/-- The two programs have one text, so at the bits they are one program. -/
theorem defs_eq : Cert.AttnfKernel.defs (F := Bits) = Cert.AttnfKernelIdeal.defs (F := Bits) := by sl_kernel_rfl
theorem main_eq : Cert.AttnfKernel.main (F := Bits) = Cert.AttnfKernelIdeal.main (F := Bits) := by sl_kernel_rfl

/-- The run of the ideal program holds over any floats: at the bits it is the run of the program itself. -/
theorem frame_bits : Cert.quiescent_AttnfKernel := fun m ρ _ => by
  rw [defs_eq, main_eq]
  exact Cert.AttnfKernelIdeal.Gen.frame (F := Bits) m ρ

theorem frame_ideal : Cert.quiescent_AttnfKernelIdeal := fun m ρ _ => Cert.AttnfKernelIdeal.Gen.frame m ρ

theorem frame_reference : Cert.quiescent_AttnfReferenceIdeal := fun m ρ _ =>
  (θ_run Cert.AttnfReferenceIdeal.defs _ _).mono (fun r h => ⟨fun c => (h c).2.2.2,
    Idealize.ShloMosaic.sem_eq_zero_of_no_sems (by decide) r.2⟩) (Cert.AttnfReferenceIdeal.Value.run m ρ)

theorem equal : Cert.algebraic_AttnfKernelIdeal_AttnfReferenceIdeal := fun m ρ m' ρ' _ hin => by
  refine ⟨fun c => val_main_v22 (F := Ideal) (aQ m c) (aKV m c),
    fun c => val_main_v24 (F := Ideal) (aQ m c) (aKV m c) (aX m c) (aW m c),
    fun c => val_main_v39 (F := Ideal) (aQ m c) (aKV m c) (aX m c) (aW m c) (aG m c), ?_, ?_⟩
  · refine (θ_run Cert.AttnfKernelIdeal.defs _ _).mono (fun r h c => ?_) (Cert.AttnfKernelIdeal.Value.run_blocks m ρ)
    obtain ⟨h0, h1, h2, hargs⟩ := h c
    exact ⟨h0.trans arr_o, h1.trans arr_x, h2.trans arr_h, hargs⟩
  · refine (θ_run Cert.AttnfReferenceIdeal.defs _ _).mono (fun r h c => ?_) (Cert.AttnfReferenceIdeal.Value.run m' ρ')
    obtain ⟨h0, h1, h2, hargs⟩ := h c
    obtain ⟨a0, a1, a2, a3, a4⟩ := hin c
    refine ⟨h0.trans ((val_main_v25_eq _ _).trans ?_), h1.trans ((val_main_v24_eq _ _ _ _).trans ?_),
      h2.trans ((val_main_v39_eq m' c).trans ?_), hargs⟩ <;>
    simp only [a0, a1, a2, a3, a4] <;> rfl
end Cert.AttnfKernel
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_gate_columns
public import proofs.«01_k».proof.Proof.Gen.AttnKernel
public import proofs.«01_k».proof.Proof.Gen.AttnKernelIdeal
public import proofs.«01_k».proof.Proof.Gen.AttnKernelIdeal.Value
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.Pre_attention_finite
public import proofs.«01_k».proof.Proof.Gen.LnKernel
public import proofs.«01_k».proof.Proof.Gen.LnKernelIdeal
public import proofs.«01_k».proof.Proof.Gen.LnKernelIdeal.Value
public import proofs.«01_k».proof.Proof.Gen.LnReferenceIdeal
public import proofs.«01_k».proof.Proof.Gen.LnReferenceIdeal.Run
public import proofs.«01_k».proof.Proof.Gen.LnReferenceIdeal.Read
public import proofs.«01_k».proof.Proof.Gen.MemKernel
public import proofs.«01_k».proof.Proof.Gen.MemKernelIdeal
public import proofs.«01_k».proof.Proof.Gen.MemKernelIdeal.Value
public import proofs.«01_k».proof.Proof.Gen.MemReferenceIdeal
public import proofs.«01_k».proof.Proof.Gen.MemReferenceIdeal.Run
public import proofs.«01_k».proof.Proof.Gen.MemReferenceIdeal.Read
public import proofs.«01_k».proof.Proof.Gen.Pre_norm_finite
public import proofs.«01_k».proof.Proof.Gen.QrmsKernel
public import proofs.«01_k».proof.Proof.Gen.QrmsKernelIdeal
public import proofs.«01_k».proof.Proof.Gen.QrmsKernelIdeal.Value
public import proofs.«01_k».proof.Proof.Gen.QrmsReferenceIdeal
public import proofs.«01_k».proof.Proof.Gen.QrmsReferenceIdeal.Run
public import proofs.«01_k».proof.Proof.Gen.QrmsReferenceIdeal.Read
public import proofs.«01_k».proof.Proof.Gen.InKernel
public import proofs.«01_k».proof.Proof.Gen.InKernelIdeal
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.FfnKernel
public import proofs.«01_k».proof.Proof.Gen.FfnKernelIdeal
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.LossKernel
public import proofs.«01_k».proof.Proof.Gen.LossKernelIdeal
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.AttnfKernel
public import proofs.«01_k».proof.Proof.Gen.AttnfKernelIdeal
public import proofs.«01_k».proof.Proof.Gen.AttnfKernelIdeal.Value
public import proofs.«01_k».proof.Proof.Gen.AttnfReferenceIdeal
public import proofs.«01_k».proof.Proof.Gen.AttnfReferenceIdeal.Run
public import proofs.«01_k».proof.Proof.Gen.AttnfReferenceIdeal.Read
public import proofs.«01_k».proof.Proof.Gen.Pre_ffn_finite
public import proofs.«01_k».proof.Proof.Gates
public import proofs.«01_k».proof.Proof.Attn
public import proofs.«01_k».proof.Proof.Ln
public import proofs.«01_k».proof.Proof.Mem
public import proofs.«01_k».proof.Proof.Qrms
public import proofs.«01_k».proof.Proof.In
public import proofs.«01_k».proof.Proof.Ffn
public import proofs.«01_k».proof.Proof.Loss
public import proofs.«01_k».proof.Proof.Attnf
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AttnKernel.Gen.facts, Cert.AttnKernelIdeal.Gen.facts, Cert.AttnReferenceIdeal.Gen.facts,
  Cert.LnKernel.Gen.facts, Cert.LnKernelIdeal.Gen.facts, Cert.LnReferenceIdeal.Gen.facts,
  Cert.MemKernel.Gen.facts, Cert.MemKernelIdeal.Gen.facts, Cert.MemReferenceIdeal.Gen.facts,
  Cert.QrmsKernel.Gen.facts, Cert.QrmsKernelIdeal.Gen.facts, Cert.QrmsReferenceIdeal.Gen.facts,
  Cert.InKernel.Gen.facts, Cert.InKernelIdeal.Gen.facts, Cert.InReferenceIdeal.Gen.facts,
  Cert.FfnKernel.Gen.facts, Cert.FfnKernelIdeal.Gen.facts, Cert.FfnReferenceIdeal.Gen.facts,
  Cert.LossKernel.Gen.facts, Cert.LossKernelIdeal.Gen.facts, Cert.LossReferenceIdeal.Gen.facts,
  Cert.AttnfKernel.Gen.facts, Cert.AttnfKernelIdeal.Gen.facts, Cert.AttnfReferenceIdeal.Gen.facts,
  Cert.Pre_attention_finite.Gen.facts, Cert.Pre_norm_finite.Gen.facts, Cert.Pre_ffn_finite.Gen.facts, Cert.On_gate_columns.Gen.facts,
  Cert.GatesKernel.frame_bits, Cert.GatesKernel.frame_ideal, Cert.GatesKernel.frame_reference,
  Cert.AttnKernel.frame_bits, Cert.AttnKernel.frame_ideal, Cert.AttnKernel.frame_ideal_finite,
  Cert.AttnKernel.frame_reference, Cert.AttnKernel.frame_reference_finite,
  Cert.LnKernel.frame_bits, Cert.LnKernel.frame_ideal, Cert.LnKernel.frame_ideal_finite,
  Cert.LnKernel.frame_reference, Cert.LnKernel.frame_reference_finite,
  Cert.MemKernel.frame_bits, Cert.MemKernel.frame_ideal, Cert.MemKernel.frame_reference,
  Cert.QrmsKernel.frame_bits, Cert.QrmsKernel.frame_ideal, Cert.QrmsKernel.frame_reference,
  Cert.InKernel.frame_bits, Cert.InKernel.frame_ideal, Cert.InKernel.frame_reference,
  Cert.FfnKernel.frame_bits, Cert.FfnKernel.frame_ideal, Cert.FfnKernel.frame_ideal_finite,
  Cert.FfnKernel.frame_reference, Cert.FfnKernel.frame_reference_finite,
  Cert.LossKernel.frame_bits, Cert.LossKernel.frame_ideal, Cert.LossKernel.frame_reference,
  Cert.AttnfKernel.frame_bits, Cert.AttnfKernel.frame_ideal, Cert.AttnfKernel.frame_reference,
  trivial, Cert.GatesKernel.equal, trivial, Cert.AttnKernel.equal, trivial, Cert.LnKernel.equal, trivial, Cert.MemKernel.equal,
  trivial, Cert.QrmsKernel.equal, trivial, Cert.InKernel.equal, trivial, Cert.FfnKernel.equal, trivial, Cert.LossKernel.equal,
  trivial, Cert.AttnfKernel.equal⟩

end Cert.Proof

end
